-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![4, 256, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = Layout.block ⟨3, ![1, 256, 1024]⟩ ⟨3, ![4, 256, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S4x4096x32x128 : Shape := ⟨4, ![4, 4096, 32, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x4096x32x128 : S_.BroadcastsInDim S4x4096x32x128 (![] : Fin 0 → Fin S4x4096x32x128.rank)
  reducesTo_S4x4096x32x128_S_d0_1_2_3 : S4x4096x32x128.ReducesTo [0, 1, 2, 3] S_

variable [Facts]

def fn {F : FTy → Type} [FloatOps F] (main_arg0 : FVec F S1x256x1024 .f32) (main_arg1 : FVec F S1024x1024 .f32) (main_arg2 : FVec F S4x4096x32x128 .f32) (main_arg3 : FVec F S4x4096x32x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x4096x32x128 .f32 := Host.absf main_arg2
  let main_cst_2 : FVec F S_ .f32 := constant S_ .f32 0x7F800000#32
  let main_v10 : FVec F S4x4096x32x128 .f32 := broadcastInDim S4x4096x32x128 ![] bcast_S_S4x4096x32x128 main_cst_2
  let main_v11 : IVec S4x4096x32x128 1 := cmpf .olt main_v9 main_v10
  let main_c_3 : IVec S_ 1 := constantI S_ 1 1#1
  let main_v12 : IVec S_ 1 := (fun x v => Host.reduce IntOp.andi x v reducesTo_S4x4096x32x128_S_d0_1_2_3 h_S_) main_v11 main_c_3
  let main_v13 : IVec S_ 1 := andi main_v8 main_v12
  main_v13
-- ==== Pre_finite_ReferenceIdeal.lean ====
abbrev S4x256x1024 : Shape := ⟨3, ![4, 256, 1024]⟩
abbrev S1024x4096 : Shape := ⟨2, ![1024, 4096]⟩
abbrev S4x4096x32x128 : Shape := ⟨4, ![4, 4096, 32, 128]⟩
abbrev S4096x1024 : Shape := ⟨2, ![4096, 1024]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4x4096x32x128 : S_.BroadcastsInDim S4x4096x32x128 (![] : Fin 0 → Fin S4x4096x32x128.rank)
  reducesTo_S4x4096x32x128_S_d0_1_2_3 : S4x4096x32x128.ReducesTo [0, 1, 2, 3] S_

variable [Facts]

def fn {F : FTy → Type} [FloatOps F] (main_arg0 : FVec F S4x256x1024 .f32) (main_arg1 : FVec F S1024x4096 .f32) (main_arg2 : FVec F S4x4096x32x128 .f32) (main_arg3 : FVec F S4x4096x32x128 .f32) (main_arg4 : FVec F S4096x1024 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4x4096x32x128 .f32 := Host.absf main_arg2
  let main_cst_2 : FVec F S_ .f32 := constant S_ .f32 0x7F800000#32
  let main_v10 : FVec F S4x4096x32x128 .f32 := broadcastInDim S4x4096x32x128 ![] bcast_S_S4x4096x32x128 main_cst_2
  let main_v11 : IVec S4x4096x32x128 1 := cmpf .olt main_v9 main_v10
  let main_c_3 : IVec S_ 1 := constantI S_ 1 1#1
  let main_v12 : IVec S_ 1 := (fun x v => Host.reduce IntOp.andi x v reducesTo_S4x4096x32x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S4x4096x32x128 : Shape := ⟨4, ![4, 4096, 32, 128]⟩
abbrev S_ : Shape := ⟨0, ![]⟩
abbrev S4x16x4x64x32x128 : Shape := ⟨6, ![4, 16, 4, 64, 32, 128]⟩
abbrev S1 : Shape := ⟨1, ![1]⟩
abbrev S1x16x1x64x8x128 : Shape := ⟨6, ![1, 16, 1, 64, 8, 128]⟩
abbrev S4x256x1024 : Shape := ⟨3, ![4, 256, 1024]⟩
abbrev S256x1024 : Shape := ⟨2, ![256, 1024]⟩
abbrev S3x256x1024 : Shape := ⟨3, ![3, 256, 1024]⟩
abbrev S3 : Shape := ⟨1, ![3]⟩
abbrev S12 : Shape := ⟨1, ![12]⟩
abbrev S2 : Shape := ⟨1, ![2]⟩
abbrev S64x1024 : Shape := ⟨2, ![64, 1024]⟩
abbrev S64x8x128 : Shape := ⟨3, ![64, 8, 128]⟩
abbrev S16x64x8x128 : Shape := ⟨4, ![16, 64, 8, 128]⟩
abbrev S1024x8x128 : Shape := ⟨3, ![1024, 8, 128]⟩
abbrev S8x64x128 : Shape := ⟨3, ![8, 64, 128]⟩
abbrev S8x1024x128 : Shape := ⟨3, ![8, 1024, 128]⟩
abbrev S8x64x1024 : Shape := ⟨3, ![8, 64, 1024]⟩
abbrev S8x64 : Shape := ⟨2, ![8, 64]⟩
abbrev S8x64x1 : Shape := ⟨3, ![8, 64, 1]⟩
abbrev S1x64x1024 : Shape := ⟨3, ![1, 64, 1024]⟩

abbrev nBuf : Space → Nat
  | .hbm => 14
  | .vmem => 12
  | .smem => 1
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S4x4096x32x128, .f32⟩
  | .hbm, ⟨3, _⟩ => ⟨S4x4096x32x128, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S4x16x4x64x32x128, .f32⟩
  | .hbm, ⟨12, _⟩ => ⟨S4x16x4x64x32x128, .f32⟩
  | .hbm, ⟨13, _⟩ => ⟨S1x256x1024, .f32⟩
  | .local _ .vmem, ⟨0, _⟩ => ⟨S1x256x1024, .f32⟩
  | .local _ .vmem, ⟨1, _⟩ => ⟨S1x16x1x64x8x128, .f32⟩
  | .local _ .vmem, ⟨2, _⟩ => ⟨S1x16x1x64x8x128, .f32⟩
  | .local _ .vmem, ⟨3, _⟩ => ⟨S1x16x1x64x8x128, .f32⟩
  | .local _ .vmem, ⟨4, _⟩ => ⟨S1x16x1x64x8x128, .f32⟩
  | .local _ .vmem, ⟨5, _⟩ => ⟨S1x256x1024, .f32⟩
  | .local _ .vmem, ⟨6, _⟩ => ⟨S4x256x1024, .bf16⟩
  | .local _ .vmem, ⟨7, _⟩ => ⟨S256x1024, .f32⟩
  | .local _ .vmem, ⟨8, _⟩ => ⟨S3x256x1024, .bf16⟩
  | .local _ .vmem, ⟨9, _⟩ => ⟨S3x256x1024, .bf16⟩
  | .local _ .vmem, ⟨10, _⟩ => ⟨S1024x1024, .f32⟩
  | .local _ .vmem, ⟨11, _⟩ => ⟨S1024x1024, .f32⟩
  | .local _ .smem, ⟨0, _⟩ => ⟨S1, .i32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v8 : Ref sig .tc := ⟨.hbm, 13, rfl⟩
abbrev main_v7 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev barrier0 : Sem sig := 0

abbrev nD : Nat := 4
abbrev τ : Topo := Topo.v7x

variable {F : FTy → Type} [FloatOps F]

abbrev grid0 : Pipeline.Grid := ⟨2, ![4, 4], ![false, false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let arg1 : BitVec 32 := BitVec.ofNat 32 (i 1).val
  let c0_i32_0 : BitVec 32 := 0#32
  let v2 : BitVec 1 := Scalar.cmpi .eq arg1 c0_i32_0
  let v3 : BitVec 1 := Scalar.andi v1 v2
  let v4 : BitVec 32 := Scalar.extui v3
  let c0_i32_1 : BitVec 32 := 0#32
  let v5 : BitVec 1 := Scalar.cmpi .ne v4 c0_i32_1
  v5

def k0_dev1 (v0 : BitVec 32) : Nat :=
  let c0_i32_41 : BitVec 32 := 0#32
  let c1_i32_33 : BitVec 32 := 1#32
  let v56 : BitVec 32 := Scalar.addi v0 c1_i32_33
  let c4_i32 : BitVec 32 := 4#32
  let c0_i32_34 : BitVec 32 := 0#32
  let v57 : BitVec 1 := Scalar.cmpi .eq c4_i32 c0_i32_34
  let c1_i32_35 : BitVec 32 := 1#32
  let v58 : BitVec 32 := Scalar.select v57 c1_i32_35 c4_i32
  let v59 : BitVec 32 := Scalar.remsi v56 v58
  let c0_i32_37 : BitVec 32 := 0#32
  let v61 : BitVec 1 := Scalar.cmpi .slt v59 c0_i32_37
  let c0_i32_38 : BitVec 32 := 0#32
  let v62 : BitVec 1 := Scalar.cmpi .slt v58 c0_i32_38
  let v63 : BitVec 1 := Scalar.xori v61 v62
  let c0_i32_36 : BitVec 32 := 0#32
  let v60 : BitVec 1 := Scalar.cmpi .ne v59 c0_i32_36
  let v64 : BitVec 1 := Scalar.andi v63 v60
  let v65 : BitVec 32 := Scalar.addi v59 v58
  let v66 : BitVec 32 := Scalar.select v64 v65 v59
  let c1_i32_40 : BitVec 32 := 1#32
  let v67 : BitVec 32 := Scalar.muli v66 c1_i32_40
  let v68 : BitVec 32 := Scalar.addi c0_i32_41 v67
  v68.toNat

def k0_dev2 (v0 : BitVec 32) : Nat :=
  let c0_i32_50 : BitVec 32 := 0#32
  let c2_i32 : BitVec 32 := 2#32
  let v69 : BitVec 32 := Scalar.addi v0 c2_i32
  let c4_i32_42 : BitVec 32 := 4#32
  let c0_i32_43 : BitVec 32 := 0#32
  let v70 : BitVec 1 := Scalar.cmpi .eq c4_i32_42 c0_i32_43
  let c1_i32_44 : BitVec 32 := 1#32
  let v71 : BitVec 32 := Scalar.select v70 c1_i32_44 c4_i32_42
  let v72 : BitVec 32 := Scalar.remsi v69 v71
  let c0_i32_46 : BitVec 32 := 0#32
  let v74 : BitVec 1 := Scalar.cmpi .slt v72 c0_i32_46
  let c0_i32_47 : BitVec 32 := 0#32
  let v75 : BitVec 1 := Scalar.cmpi .slt v71 c0_i32_47
  let v76 : BitVec 1 := Scalar.xori v74 v75
  let c0_i32_45 : BitVec 32 := 0#32
  let v73 : BitVec 1 := Scalar.cmpi .ne v72 c0_i32_45
  let v77 : BitVec 1 := Scalar.andi v76 v73
  let v78 : BitVec 32 := Scalar.addi v72 v71
  let v79 : BitVec 32 := Scalar.select v77 v78 v72
  let c1_i32_49 : BitVec 32 := 1#32
  let v80 : BitVec 32 := Scalar.muli v79 c1_i32_49
  let v81 : BitVec 32 := Scalar.addi c0_i32_50 v80
  v81.toNat
def k0_dev3 (v0 : BitVec 32) : Nat :=
  let c0_i32_60 : BitVec 32 := 0#32
  let c3_i32_51 : BitVec 32 := 3#32
  let v82 : BitVec 32 := Scalar.addi v0 c3_i32_51
  let c4_i32_52 : BitVec 32 := 4#32
  let c0_i32_53 : BitVec 32 := 0#32
  let v83 : BitVec 1 := Scalar.cmpi .eq c4_i32_52 c0_i32_53
  let c1_i32_54 : BitVec 32 := 1#32
  let v84 : BitVec 32 := Scalar.select v83 c1_i32_54 c4_i32_52
  let v85 : BitVec 32 := Scalar.remsi v82 v84
  let c0_i32_56 : BitVec 32 := 0#32
  let v87 : BitVec 1 := Scalar.cmpi .slt v85 c0_i32_56
  let c0_i32_57 : BitVec 32 := 0#32
  let v88 : BitVec 1 := Scalar.cmpi .slt v84 c0_i32_57
  let v89 : BitVec 1 := Scalar.xori v87 v88
  let c0_i32_55 : BitVec 32 := 0#32
  let v86 : BitVec 1 := Scalar.cmpi .ne v85 c0_i32_55
  let v90 : BitVec 1 := Scalar.andi v89 v86
  let v91 : BitVec 32 := Scalar.addi v85 v84
  let v92 : BitVec 32 := Scalar.select v90 v91 v85
  let c1_i32_59 : BitVec 32 := 1#32
  let v93 : BitVec 32 := Scalar.muli v92 c1_i32_59
  let v94 : BitVec 32 := Scalar.addi c0_i32_60 v93
  v94.toNat
def k0_dev4 (v0 : BitVec 32) : Nat :=
  let c0_i32_78 : BitVec 32 := 0#32
  let c3_i32_68 : BitVec 32 := 3#32
  let v101 : BitVec 32 := Scalar.addi v0 c3_i32_68
  let c4_i32_69 : BitVec 32 := 4#32
  let c0_i32_70 : BitVec 32 := 0#32
  let v102 : BitVec 1 := Scalar.cmpi .eq c4_i32_69 c0_i32_70
  let c1_i32_71 : BitVec 32 := 1#32
  let v103 : BitVec 32 := Scalar.select v102 c1_i32_71 c4_i32_69
  let v104 : BitVec 32 := Scalar.remsi v101 v103
  let c0_i32_73 : BitVec 32 := 0#32
  let v106 : BitVec 1 := Scalar.cmpi .slt v104 c0_i32_73
  let c0_i32_74 : BitVec 32 := 0#32
  let v107 : BitVec 1 := Scalar.cmpi .slt v103 c0_i32_74
  let v108 : BitVec 1 := Scalar.xori v106 v107
  let c0_i32_72 : BitVec 32 := 0#32
  let v105 : BitVec 1 := Scalar.cmpi .ne v104 c0_i32_72
  let v109 : BitVec 1 := Scalar.andi v108 v105
  let v110 : BitVec 32 := Scalar.addi v104 v103
  let v111 : BitVec 32 := Scalar.select v109 v110 v104
  let c1_i32_77 : BitVec 32 := 1#32
  let v112 : BitVec 32 := Scalar.muli v111 c1_i32_77
  let v113 : BitVec 32 := Scalar.addi c0_i32_78 v112
  v113.toNat
def k0_dev5 (v0 : BitVec 32) : Nat :=
  let c0_i32_95 : BitVec 32 := 0#32
  let c2_i32_85 : BitVec 32 := 2#32
  let v120 : BitVec 32 := Scalar.addi v0 c2_i32_85
  let c4_i32_86 : BitVec 32 := 4#32
  let c0_i32_87 : BitVec 32 := 0#32
  let v121 : BitVec 1 := Scalar.cmpi .eq c4_i32_86 c0_i32_87
  let c1_i32_88 : BitVec 32 := 1#32
  let v122 : BitVec 32 := Scalar.select v121 c1_i32_88 c4_i32_86
  let v123 : BitVec 32 := Scalar.remsi v120 v122
  let c0_i32_90 : BitVec 32 := 0#32
  let v125 : BitVec 1 := Scalar.cmpi .slt v123 c0_i32_90
  let c0_i32_91 : BitVec 32 := 0#32
  let v126 : BitVec 1 := Scalar.cmpi .slt v122 c0_i32_91
  let v127 : BitVec 1 := Scalar.xori v125 v126
  let c0_i32_89 : BitVec 32 := 0#32
  let v124 : BitVec 1 := Scalar.cmpi .ne v123 c0_i32_89
  let v128 : BitVec 1 := Scalar.andi v127 v124
  let v129 : BitVec 32 := Scalar.addi v123 v122
  let v130 : BitVec 32 := Scalar.select v128 v129 v123
  let c1_i32_94 : BitVec 32 := 1#32
  let v131 : BitVec 32 := Scalar.muli v130 c1_i32_94
  let v132 : BitVec 32 := Scalar.addi c0_i32_95 v131
  v132.toNat
def k0_dev6 (v0 : BitVec 32) : Nat :=
  let c0_i32_112 : BitVec 32 := 0#32
  let c1_i32_102 : BitVec 32 := 1#32
  let v139 : BitVec 32 := Scalar.addi v0 c1_i32_102
  let c4_i32_103 : BitVec 32 := 4#32
  let c0_i32_104 : BitVec 32 := 0#32
  let v140 : BitVec 1 := Scalar.cmpi .eq c4_i32_103 c0_i32_104
  let c1_i32_105 : BitVec 32 := 1#32
  let v141 : BitVec 32 := Scalar.select v140 c1_i32_105 c4_i32_103
  let v142 : BitVec 32 := Scalar.remsi v139 v141
  let c0_i32_107 : BitVec 32 := 0#32
  let v144 : BitVec 1 := Scalar.cmpi .slt v142 c0_i32_107
  let c0_i32_108 : BitVec 32 := 0#32
  let v145 : BitVec 1 := Scalar.cmpi .slt v141 c0_i32_108
  let v146 : BitVec 1 := Scalar.xori v144 v145
  let c0_i32_106 : BitVec 32 := 0#32
  let v143 : BitVec 1 := Scalar.cmpi .ne v142 c0_i32_106
  let v147 : BitVec 1 := Scalar.andi v146 v143
  let v148 : BitVec 32 := Scalar.addi v142 v141
  let v149 : BitVec 32 := Scalar.select v147 v148 v142
  let c1_i32_111 : BitVec 32 := 1#32
  let v150 : BitVec 32 := Scalar.muli v149 c1_i32_111
  let v151 : BitVec 32 := Scalar.addi c0_i32_112 v150
  v151.toNat
def k0_cond2 (i : grid0.Coords) : BitVec 1 :=
  let arg0 : BitVec 32 := BitVec.ofNat 32 (i 0).val
  let c1_i32 : BitVec 32 := 1#32
  let v6 : BitVec 1 := Scalar.cmpi .sge arg0 c1_i32
  let arg1 : BitVec 32 := BitVec.ofNat 32 (i 1).val
  let c0_i32_2 : BitVec 32 := 0#32
  let v7 : BitVec 1 := Scalar.cmpi .eq arg1 c0_i32_2
  let v8 : BitVec 1 := Scalar.andi v6 v7
  let v9 : BitVec 32 := Scalar.extui v8
  let c0_i32_3 : BitVec 32 := 0#32
  let v10 : BitVec 1 := Scalar.cmpi .ne v9 c0_i32_3
  v10

def k0_off1 (i : grid0.Coords) : Fin 1 → Nat :=
  let arg0 : BitVec 32 := BitVec.ofNat 32 (i 0).val
  let c1_i32_31 : BitVec 32 := 1#32
  let v51 : BitVec 32 := Scalar.subi arg0 c1_i32_31
  ![v51.toNat]
def k0_off2 (i : grid0.Coords) : Fin 3 → Nat :=
  let arg0 : BitVec 32 := BitVec.ofNat 32 (i 0).val
  let c0_i32_35 : BitVec 32 := 0#32
  let c0_i32_36 : BitVec 32 := 0#32
  ![arg0.toNat, 0, 0]
def k0_cond3 (i : grid0.Coords) : BitVec 1 :=
  let arg1 : BitVec 32 := BitVec.ofNat 32 (i 1).val
  let c0_i32_4 : BitVec 32 := 0#32
  let v11 : BitVec 1 := Scalar.cmpi .eq arg1 c0_i32_4
  let v12 : BitVec 32 := Scalar.extui v11
  let c0_i32_5 : BitVec 32 := 0#32
  let v13 : BitVec 1 := Scalar.cmpi .ne v12 c0_i32_5
  v13

def k0_off3 (i : grid0.Coords) : Fin 3 → Nat :=
  let arg0 : BitVec 32 := BitVec.ofNat 32 (i 0).val
  let v51 : Index := Scalar.indexCast arg0
  let c0_31 : Index := 0#32
  let c0_32 : Index := 0#32
  ![v51.toNat, 0, 0]
def k0_off4 (i : grid0.Coords) : Fin 2 → Nat :=
  let arg1 : BitVec 32 := BitVec.ofNat 32 (i 1).val
  let c64_i32 : BitVec 32 := 64#32
  let v14 : BitVec 32 := Scalar.muli arg1 c64_i32
  let v15 : Index := Scalar.indexCast v14
  let c0_6 : Index := 0#32
  ![v15.toNat, 0]
def k0_cond4 (i : grid0.Coords) : BitVec 1 :=
  let arg0 : BitVec 32 := BitVec.ofNat 32 (i 0).val
  let c0_i32_25 : BitVec 32 := 0#32
  let v40 : BitVec 1 := Scalar.cmpi .eq arg0 c0_i32_25
  let v41 : BitVec 32 := Scalar.extui v40
  let c0_i32_26 : BitVec 32 := 0#32
  let v42 : BitVec 1 := Scalar.cmpi .ne v41 c0_i32_26
  v42

def k0_off5 (i : grid0.Coords) : Fin 3 → Nat :=
  let c0_32 : Index := 0#32
  let arg1 : BitVec 32 := BitVec.ofNat 32 (i 1).val
  let c64_i32_31 : BitVec 32 := 64#32
  let v51 : BitVec 32 := Scalar.muli arg1 c64_i32_31
  let v52 : Index := Scalar.indexCast v51
  let c0_33 : Index := 0#32
  ![0, v52.toNat, 0]
def k0_cond5 (i : grid0.Coords) : BitVec 1 :=
  let arg0 : BitVec 32 := BitVec.ofNat 32 (i 0).val
  let c1_i32_27 : BitVec 32 := 1#32
  let v43 : BitVec 1 := Scalar.cmpi .sge arg0 c1_i32_27
  let v44 : BitVec 32 := Scalar.extui v43
  let c0_i32_28 : BitVec 32 := 0#32
  let v45 : BitVec 1 := Scalar.cmpi .ne v44 c0_i32_28
  v45

def k0_off6 (i : grid0.Coords) : Fin 3 → Nat :=
  let arg0 : BitVec 32 := BitVec.ofNat 32 (i 0).val
  let c1_i32_31 : BitVec 32 := 1#32
  let v53 : BitVec 32 := Scalar.subi arg0 c1_i32_31
  let v55 : Index := Scalar.indexCast v53
  let arg1 : BitVec 32 := BitVec.ofNat 32 (i 1).val
  let c64_i32_32 : BitVec 32 := 64#32
  let v54 : BitVec 32 := Scalar.muli arg1 c64_i32_32
  let v56 : Index := Scalar.indexCast v54
  let c0_33 : Index := 0#32
  ![v55.toNat, v56.toNat, 0]
def k0_off7 (i : grid0.Coords) : Fin 1 → Nat :=
  let arg0 : BitVec 32 := BitVec.ofNat 32 (i 0).val
  let c1_i32_38 : BitVec 32 := 1#32
  let v64 : BitVec 32 := Scalar.subi arg0 c1_i32_38
  let c4_i32 : BitVec 32 := 4#32
  let v65 : BitVec 32 := Scalar.muli v64 c4_i32
  let arg1 : BitVec 32 := BitVec.ofNat 32 (i 1).val
  let v66 : BitVec 32 := Scalar.addi v65 arg1
  ![v66.toNat]
def k0_off8 (i : grid0.Coords) : Fin 1 → Nat :=
  let c3_i32_39 : BitVec 32 := 3#32
  let arg0 : BitVec 32 := BitVec.ofNat 32 (i 0).val
  let v67 : BitVec 32 := Scalar.subi c3_i32_39 arg0
  let c4_i32_40 : BitVec 32 := 4#32
  let v68 : BitVec 32 := Scalar.muli v67 c4_i32_40
  let arg1 : BitVec 32 := BitVec.ofNat 32 (i 1).val
  let v69 : BitVec 32 := Scalar.addi v68 arg1
  ![v69.toNat]
def k0_off9 (i : grid0.Coords) : Fin 3 → Nat :=
  let c3_i32_36 : BitVec 32 := 3#32
  let arg0 : BitVec 32 := BitVec.ofNat 32 (i 0).val
  let v62 : BitVec 32 := Scalar.subi c3_i32_36 arg0
  let arg1 : BitVec 32 := BitVec.ofNat 32 (i 1).val
  let c64_i32_37 : BitVec 32 := 64#32
  let v63 : BitVec 32 := Scalar.muli arg1 c64_i32_37
  let c0_i32_49 : BitVec 32 := 0#32
  ![v62.toNat, v63.toNat, 0]
def k0_off10 (i : grid0.Coords) : Fin 3 → Nat :=
  let arg0 : BitVec 32 := BitVec.ofNat 32 (i 0).val
  let c1_i32_34 : BitVec 32 := 1#32
  let v60 : BitVec 32 := Scalar.subi arg0 c1_i32_34
  let arg1 : BitVec 32 := BitVec.ofNat 32 (i 1).val
  let c64_i32_35 : BitVec 32 := 64#32
  let v61 : BitVec 32 := Scalar.muli arg1 c64_i32_35
  let c0_i32_50 : BitVec 32 := 0#32
  ![v60.toNat, v61.toNat, 0]
def k0_dev7 (i : grid0.Coords) (v0 : BitVec 32) : Nat :=
  let c0_i32_48 : BitVec 32 := 0#32
  let arg0 : BitVec 32 := BitVec.ofNat 32 (i 0).val
  let v70 : BitVec 32 := Scalar.addi v0 arg0
  let c4_i32_41 : BitVec 32 := 4#32
  let c0_i32_42 : BitVec 32 := 0#32
  let v71 : BitVec 1 := Scalar.cmpi .eq c4_i32_41 c0_i32_42
  let c1_i32_43 : BitVec 32 := 1#32
  let v72 : BitVec 32 := Scalar.select v71 c1_i32_43 c4_i32_41
  let v73 : BitVec 32 := Scalar.remsi v70 v72
  let c0_i32_45 : BitVec 32 := 0#32
  let v75 : BitVec 1 := Scalar.cmpi .slt v73 c0_i32_45
  let c0_i32_46 : BitVec 32 := 0#32
  let v76 : BitVec 1 := Scalar.cmpi .slt v72 c0_i32_46
  let v77 : BitVec 1 := Scalar.xori v75 v76
  let c0_i32_44 : BitVec 32 := 0#32
  let v74 : BitVec 1 := Scalar.cmpi .ne v73 c0_i32_44
  let v78 : BitVec 1 := Scalar.andi v77 v74
  let v79 : BitVec 32 := Scalar.addi v73 v72
  let v80 : BitVec 32 := Scalar.select v78 v79 v73
  let c1_i32_47 : BitVec 32 := 1#32
  let v81 : BitVec 32 := Scalar.muli v80 c1_i32_47
  let v82 : BitVec 32 := Scalar.addi c0_i32_48 v81
  v82.toNat

def k0_chk1 (i : grid0.Coords) (v0 : BitVec 32) : Prop :=
  (∀ (k0_h1 : k0_cond1 i = 1#1), (k0_dev1 v0) < nD) ∧
  (∀ (k0_h1 : k0_cond1 i = 1#1), (k0_dev2 v0) < nD) ∧
  (∀ (k0_h1 : k0_cond1 i = 1#1), (k0_dev3 v0) < nD) ∧
  (∀ (k0_h1 : k0_cond1 i = 1#1), (k0_dev4 v0) < nD) ∧
  (∀ (k0_h1 : k0_cond1 i = 1#1), (k0_dev5 v0) < nD) ∧
  (∀ (k0_h1 : k0_cond1 i = 1#1), (k0_dev6 v0) < nD) ∧
  (∀ (k0_h5 : k0_cond5 i = 1#1), (k0_dev7 i v0) < nD)
theorem k0_dev1_lt : ∀ (i : grid0.Coords) (v0 : BitVec 32) (k0_hw1 : k0_chk1 i v0), ∀ (k0_h1 : k0_cond1 i = 1#1), (k0_dev1 v0) < nD := fun i v0 k0_hw1 k0_h1 => k0_hw1.1 k0_h1
theorem k0_dev2_lt : ∀ (i : grid0.Coords) (v0 : BitVec 32) (k0_hw1 : k0_chk1 i v0), ∀ (k0_h1 : k0_cond1 i = 1#1), (k0_dev2 v0) < nD := fun i v0 k0_hw1 k0_h1 => k0_hw1.2.1 k0_h1
theorem k0_dev3_lt : ∀ (i : grid0.Coords) (v0 : BitVec 32) (k0_hw1 : k0_chk1 i v0), ∀ (k0_h1 : k0_cond1 i = 1#1), (k0_dev3 v0) < nD := fun i v0 k0_hw1 k0_h1 => k0_hw1.2.2.1 k0_h1
theorem k0_dev4_lt : ∀ (i : grid0.Coords) (v0 : BitVec 32) (k0_hw1 : k0_chk1 i v0), ∀ (k0_h1 : k0_cond1 i = 1#1), (k0_dev4 v0) < nD := fun i v0 k0_hw1 k0_h1 => k0_hw1.2.2.2.1 k0_h1
theorem k0_dev5_lt : ∀ (i : grid0.Coords) (v0 : BitVec 32) (k0_hw1 : k0_chk1 i v0), ∀ (k0_h1 : k0_cond1 i = 1#1), (k0_dev5 v0) < nD := fun i v0 k0_hw1 k0_h1 => k0_hw1.2.2.2.2.1 k0_h1
theorem k0_dev6_lt : ∀ (i : grid0.Coords) (v0 : BitVec 32) (k0_hw1 : k0_chk1 i v0), ∀ (k0_h1 : k0_cond1 i = 1#1), (k0_dev6 v0) < nD := fun i v0 k0_hw1 k0_h1 => k0_hw1.2.2.2.2.2.1 k0_h1
theorem k0_dev7_lt : ∀ (i : grid0.Coords) (v0 : BitVec 32) (k0_hw1 : k0_chk1 i v0), ∀ (k0_h5 : k0_cond5 i = 1#1), (k0_dev7 i v0) < nD := fun i v0 k0_hw1 k0_h5 => k0_hw1.2.2.2.2.2.2 k0_h5

def k0_cond6 (i : grid0.Coords) : BitVec 1 :=
  let arg0 : BitVec 32 := BitVec.ofNat 32 (i 0).val
  let c3_i32 : BitVec 32 := 3#32
  let v46 : BitVec 1 := Scalar.cmpi .eq arg0 c3_i32
  let arg1 : BitVec 32 := BitVec.ofNat 32 (i 1).val
  let c3_i32_29 : BitVec 32 := 3#32
  let v47 : BitVec 1 := Scalar.cmpi .eq arg1 c3_i32_29
  let v48 : BitVec 1 := Scalar.andi v46 v47
  let v49 : BitVec 32 := Scalar.extui v48
  let c0_i32_30 : BitVec 32 := 0#32
  let v50 : BitVec 1 := Scalar.cmpi .ne v49 c0_i32_30
  v50

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 6 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.addi v0 arg0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_3 : Index := 0#32
  let v12 : BitVec 32 := pf.at 0 (Rect.unit (s := S1) ![0] S1.size inb_S1_S1_0) numel1_S1
  let c0_i32_4 : BitVec 32 := 0#32
  let c0_i32_5 : BitVec 32 := 0#32
  let c0_i32_6 : BitVec 32 := 0#32
  let c0_i32_7 : BitVec 32 := 0#32
  ![v11.toNat, c0_i32_4.toNat, arg1.toNat, c0_i32_5.toNat, v12.toNat, c0_i32_6.toNat]

def cc0_transform_3 (inb_S1_S1_0 : ∀ a, (![0] : Fin 1 → Nat) a + S1.size a ≤ S1.size a) (numel1_S1 : S1.numel = 1) (pf : pre0.Contents (Elt F)) (i : grid0.Coords) : Fin 6 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.addi v0 arg0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_3 : Index := 0#32
  let v12 : BitVec 32 := pf.at 0 (Rect.unit (s := S1) ![0] S1.size inb_S1_S1_0) numel1_S1
  let c0_i32_4 : BitVec 32 := 0#32
  let c0_i32_5 : BitVec 32 := 0#32
  let c0_i32_6 : BitVec 32 := 0#32
  let c0_i32_7 : BitVec 32 := 0#32
  ![v11.toNat, c0_i32_4.toNat, arg1.toNat, c0_i32_5.toNat, v12.toNat, c0_i32_6.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x16x1x64x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1x64x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== ReferenceIdeal.lean ====
abbrev S4x256x1024 : Shape := ⟨3, ![4, 256, 1024]⟩
abbrev S1024x4096 : Shape := ⟨2, ![1024, 4096]⟩
abbrev S4x4096x32x128 : Shape := ⟨4, ![4, 4096, 32, 128]⟩
abbrev S4096x1024 : Shape := ⟨2, ![4096, 1024]⟩
abbrev S4x256x4096 : Shape := ⟨3, ![4, 256, 4096]⟩
abbrev S4x256x32x128 : Shape := ⟨4, ![4, 256, 32, 128]⟩
abbrev S256 : Shape := ⟨1, ![256]⟩
abbrev S_ : Shape := ⟨0, ![]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S4x32x256x4096 : Shape := ⟨4, ![4, 32, 256, 4096]⟩
abbrev S1x1x256x4096 : Shape := ⟨4, ![1, 1, 256, 4096]⟩
abbrev S4x32x256 : Shape := ⟨3, ![4, 32, 256]⟩
abbrev S4x32x256x1 : Shape := ⟨4, ![4, 32, 256, 1]⟩
abbrev S1x1x256x1 : Shape := ⟨4, ![1, 1, 256, 1]⟩
abbrev S4x32x128x256 : Shape := ⟨4, ![4, 32, 128, 256]⟩

abbrev nBuf : Space → Nat
  | .hbm => 137
  | .vmem => 0
  | .smem => 0
  | _ => 0

abbrev hbmTy0_0 (i : Nat) : BufTy := match i % 128 with
  | 0 => ⟨S4x256x1024, .f32⟩
  | 1 => ⟨S1024x4096, .f32⟩
  | 2 => ⟨S4x4096x32x128, .f32⟩
  | 3 => ⟨S4x4096x32x128, .f32⟩
  | 4 => ⟨S4096x1024, .f32⟩
  | 5 => ⟨S4x256x4096, .f32⟩
  | 6 => ⟨S4x256x32x128, .f32⟩
  | 7 => ⟨S256, .i32⟩
  | 8 => ⟨S_, .i32⟩
  | 9 => ⟨S_, .i32⟩
  | 10 => ⟨S256, .i32⟩
  | 11 => ⟨S256, .i32⟩
  | 12 => ⟨S256, .i32⟩
  | 13 => ⟨S_, .i32⟩
  | 14 => ⟨S256, .i32⟩
  | 15 => ⟨S256, .i1⟩
  | 16 => ⟨S256, .i32⟩
  | 17 => ⟨S256, .i32⟩
  | 18 => ⟨S_, .i32⟩
  | 19 => ⟨S256, .i32⟩
  | 20 => ⟨S256, .i1⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S4096, .i32⟩
  | 28 => ⟨S_, .i32⟩
  | 29 => ⟨S_, .i32⟩
  | 30 => ⟨S4096, .i32⟩
  | 31 => ⟨S4096, .i32⟩
  | 32 => ⟨S4096, .i32⟩
  | 33 => ⟨S_, .i32⟩
  | 34 => ⟨S4096, .i32⟩
  | 35 => ⟨S4096, .i1⟩
  | 36 => ⟨S4096, .i32⟩
  | 37 => ⟨S4096, .i32⟩
  | 38 => ⟨S_, .i32⟩
  | 39 => ⟨S4096, .i32⟩
  | 40 => ⟨S4096, .i1⟩
  | 41 => ⟨S4096, .i1⟩
  | 42 => ⟨S_, .i32⟩
  | 43 => ⟨S4096, .i32⟩
  | 44 => ⟨S4096, .i32⟩
  | 45 => ⟨S4096, .i32⟩
  | 46 => ⟨S1x4096, .i32⟩
  | 47 => ⟨S256x4096, .i32⟩
  | 48 => ⟨S256x4096, .i32⟩
  | 49 => ⟨S256x4096, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x4096, .i32⟩
  | 57 => ⟨S1x4096, .i32⟩
  | 58 => ⟨S_, .i32⟩
  | 59 => ⟨S1x4096, .i32⟩
  | 60 => ⟨S1x4096, .i1⟩
  | 61 => ⟨S_, .i32⟩
  | 62 => ⟨S1x4096, .i32⟩
  | 63 => ⟨S1x4096, .i1⟩
  | 64 => ⟨S_, .i32⟩
  | 65 => ⟨S_, .i1⟩
  | 66 => ⟨S1x4096, .i1⟩
  | 67 => ⟨S1x4096, .i1⟩
  | 68 => ⟨S1x4096, .i1⟩
  | 69 => ⟨S1x4096, .i32⟩
  | 70 => ⟨S1x4096, .i32⟩
  | 71 => ⟨S1x4096, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S256x1, .i32⟩
  | 79 => ⟨S256x1, .i32⟩
  | 80 => ⟨S_, .i32⟩
  | 81 => ⟨S256x1, .i32⟩
  | 82 => ⟨S256x1, .i1⟩
  | 83 => ⟨S_, .i32⟩
  | 84 => ⟨S256x1, .i32⟩
  | 85 => ⟨S256x1, .i1⟩
  | 86 => ⟨S_, .i32⟩
  | 87 => ⟨S_, .i1⟩
  | 88 => ⟨S256x1, .i1⟩
  | 89 => ⟨S256x1, .i1⟩
  | 90 => ⟨S256x1, .i1⟩
  | 91 => ⟨S256x1, .i32⟩
  | 92 => ⟨S256x1, .i32⟩
  | 93 => ⟨S256x1, .i32⟩
  | 94 => ⟨S256x4096, .i32⟩
  | 95 => ⟨S256x4096, .i32⟩
  | 96 => ⟨S256x4096, .i1⟩
  | 97 => ⟨S256x4096, .i1⟩
  | 98 => ⟨S4x32x256x4096, .f32⟩
  | 99 => ⟨S_, .f32⟩
  | 100 => ⟨S4x32x256x4096, .f32⟩
  | 101 => ⟨S4x32x256x4096, .f32⟩
  | 102 => ⟨S1x1x256x4096, .i1⟩
  | 103 => ⟨S_, .f32⟩
  | 104 => ⟨S_, .f32⟩
  | 105 => ⟨S4x32x256x4096, .i1⟩
  | 106 => ⟨S4x32x256x4096, .f32⟩
  | 107 => ⟨S4x32x256x4096, .f32⟩
  | 108 => ⟨S_, .f32⟩
  | 109 => ⟨S4x32x256, .f32⟩
  | 110 => ⟨S4x32x256x1, .f32⟩
  | 111 => ⟨S4x32x256x4096, .f32⟩
  | 112 => ⟨S4x32x256x4096, .f32⟩
  | 113 => ⟨S4x32x256x4096, .f32⟩
  | 114 => ⟨S_, .i1⟩
  | 115 => ⟨S256, .i1⟩
  | 116 => ⟨S1x1x256x1, .i1⟩
  | 117 => ⟨S_, .f32⟩
  | 118 => ⟨S4x32x256, .f32⟩
  | 119 => ⟨S4x32x256x1, .f32⟩
  | 120 => ⟨S_, .f32⟩
  | 121 => ⟨S_, .f32⟩
  | 122 => ⟨S4x32x256x1, .i1⟩
  | 123 => ⟨S4x32x256x1, .f32⟩
  | 124 => ⟨S4x32x256x1, .f32⟩
  | 125 => ⟨S4x32x256x4096, .f32⟩
  | 126 => ⟨S4x32x256x4096, .f32⟩
  | 127 => ⟨S1x1x256x1, .i1⟩
  | _ => ⟨S4x256x1024, .f32⟩

abbrev hbmTy0_1 (i : Nat) : BufTy := match i % 128 with
  | 0 => ⟨S_, .f32⟩
  | 1 => ⟨S_, .f32⟩
  | 2 => ⟨S4x32x256x4096, .i1⟩
  | 3 => ⟨S4x32x256x4096, .f32⟩
  | 4 => ⟨S4x32x256x4096, .f32⟩
  | 5 => ⟨S4x32x128x256, .f32⟩
  | 6 => ⟨S4x256x32x128, .f32⟩
  | 7 => ⟨S4x256x4096, .f32⟩
  | 8 => ⟨S4x256x1024, .f32⟩
  | _ => ⟨S4x256x1024, .f32⟩

abbrev hbmTy (i : Nat) : BufTy := match i / 128 with
  | 0 => hbmTy0_0 i
  | 1 => hbmTy0_1 i
  | _ => ⟨S4x256x1024, .f32⟩

abbrev bufTy : (tb : Table) → Fin (tcTables nBuf tb) → BufTy
  | .hbm, ⟨i, _⟩ => hbmTy i
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Rules.lean ====
/-
  Rules for loads, stores and transfers of memrefs owned at named contents (`owns`), stated once for every program.
-/
module

public import Idealize.ShloMosaic.Lib.Rounds
public import Idealize.ShloMosaic.Lib.Memref
public import Idealize.ShloMosaic.Lib.Tactic
public import Idealize.ShloMosaic.Rules.Step

@[expose] public section

noncomputable section

namespace Cert.Attn

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Ix : Type} [DecidableEq Ix] {D : Type} [DecidableEq D]
variable {Val : EltTy → Type} {Name : Type} [DecidableEq Name]
variable {U : Type} [URA U] {Lvl : Type} {Λ : Labels}

local notation "𝕄" => MT nD τ sig Ix Val Name U Lvl

variable [Preorder Lvl] {defs : Defs nD τ sig Val Λ} (𝒱 : Variants)
variable (c : Thread nD τ) (bd : Option 𝒱.V) {Γ : PendingWaitsCtx sig Ix}
variable {α : Type} {Q : α → sProp (MT nD τ sig Ix Val Name U Lvl)}
variable {sp sp' : Space} {s : Shape} {e : EltTy} {Es : Set Name}

/-- The memref is owned in full at some contents. -/
def anyAt (c : Thread nD τ) {sp : Space} {s : Shape} {e : EltTy} (m : Memref sig c.2.kind sp s e) : sProp 𝕄 :=
  iprop(∃ X : s.Idx → Val e, owns c m fullShare X)

/-- A buffer at any contents may be kept in an invariant. -/
instance anyAt_storable (c : Thread nD τ) {sp : Space} {s : Shape} {e : EltTy} (m : Memref sig c.2.kind sp s e) :
    BI.Storable (upEmb : UEmb _ 𝕄) (anyAt c m) := by unfold anyAt; infer_instance

/-- A memref owned at named contents is owned at some. -/
theorem anyAt_intro {m : Memref sig c.2.kind sp s e} (X : s.Idx → Val e) : (owns c m fullShare X : sProp 𝕄) ⊢ anyAt c m := by
  unfold anyAt; iintro H; iexists X; iexact H

/-- A load of a rectangle whose slice is owned at `X` gives `X`. -/
theorem wp_loadS {cs : CoreSpace} {m : Memref sig c.2.kind cs s e} {r : Rect s} {hl : m.view.LoadsAt r}
    {k : (r.shape.Idx → Val e) → Prog (TpuEff nD τ sig Val Λ c.2) α} (hr : ∀ a, r.stride a = 1) {q : PosShare TreeShare} {X : r.shape.Idx → Val e} :
    (owns c (m.slice r hr) q X : sProp 𝕄)
      ⊢ iprop((owns c (m.slice r hr) q X -∗ wp frame (wpE' defs 𝒱 c bd Γ) Es (k X) Q)
        -∗ wp frame (wpE' defs 𝒱 c bd Γ) Es (.op (.load m r hl) k) Q) := by
  iintro H Hk
  unfold owns
  icases H with ⟨%f, %hf, H⟩
  iapply (wp_load_rect 𝒱 c bd Es (m := m) (r := r) (hl := hl) (S := (m.access r).set) (Finset.Subset.refl _)) $$ H
  iintro H
  rw [show (m.access r).read Val f = X from hf]
  iapply Hk
  iexists f; isplitr; · ipureintro; exact hf
  iexact H

/-- A load of a rectangle of a memref owned at `X` gives `X` on the rectangle. -/
theorem wp_loadO {cs : CoreSpace} {m : Memref sig c.2.kind cs s e} {r : Rect s} {hl : m.view.LoadsAt r}
    {k : (r.shape.Idx → Val e) → Prog (TpuEff nD τ sig Val Λ c.2) α} {q : PosShare TreeShare} {X : s.Idx → Val e} :
    (owns c m q X : sProp 𝕄)
      ⊢ iprop((owns c m q X -∗ wp frame (wpE' defs 𝒱 c bd Γ) Es (k fun j => X (r.emb j)) Q)
        -∗ wp frame (wpE' defs 𝒱 c bd Γ) Es (.op (.load m r hl) k) Q) := by
  iintro H Hk
  unfold owns
  icases H with ⟨%f, %hf, H⟩
  iapply (wp_load_rect 𝒱 c bd Es (m := m) (r := r) (hl := hl) (S := m.view.set) (View.set_slice_subset _ _)) $$ H
  iintro H
  rw [show (m.access r).read Val f = fun j => X (r.emb j) from by subst hf; rfl]
  iapply Hk
  iexists f; isplitr; · ipureintro; exact hf
  iexact H

/-- A store to a rectangle whose slice is owned in full leaves the slice owned at what was stored. -/
theorem wp_storeS {cs : CoreSpace} {m : Memref sig c.2.kind cs s e} {r : Rect s} {w : r.shape.Idx → Val e} {hx : (m.access r).Stores Finset.univ}
    {hm : (Finset.univ : Finset r.shape.Idx) = Finset.univ ∨ ∀ a, r.stride a = 1}
    {k : PUnit → Prog (TpuEff nD τ sig Val Λ c.2) α} (hr : ∀ a, r.stride a = 1) {X : r.shape.Idx → Val e} :
    (owns c (m.slice r hr) fullShare X : sProp 𝕄)
      ⊢ iprop((owns c (m.slice r hr) fullShare w -∗ wp frame (wpE' defs 𝒱 c bd Γ) Es (k ⟨⟩) Q)
        -∗ wp frame (wpE' defs 𝒱 c bd Γ) Es (.op (.store m r w Finset.univ hx hm) k) Q) := by
  iintro H Hk
  unfold owns
  icases H with ⟨%f, %hf, H⟩
  iapply (wp_store 𝒱 c bd Es (Mk := Finset.univ) (S := (m.access r).set) (View.setOn_subset_set _ _)) $$ H
  iintro H
  iapply Hk
  iexists ((m.access r).write Val f w Finset.univ); isplitr
  · ipureintro; exact View.read_write_univ _ _
  iexact H

/-- A store to a rectangle of a memref owned in full at `X` leaves it at `X` with the rectangle overwritten. -/
theorem wp_storeO {cs : CoreSpace} {m : Memref sig c.2.kind cs s e} {r : Rect s} {w : r.shape.Idx → Val e} {hx : (m.access r).Stores Finset.univ}
    {hm : (Finset.univ : Finset r.shape.Idx) = Finset.univ ∨ ∀ a, r.stride a = 1}
    {k : PUnit → Prog (TpuEff nD τ sig Val Λ c.2) α} (hr : ∀ a, r.stride a = 1) {X : s.Idx → Val e} :
    (owns c m fullShare X : sProp 𝕄)
      ⊢ iprop((owns c m fullShare (r.overlay X w) -∗ wp frame (wpE' defs 𝒱 c bd Γ) Es (k ⟨⟩) Q)
        -∗ wp frame (wpE' defs 𝒱 c bd Γ) Es (.op (.store m r w Finset.univ hx hm) k) Q) := by
  iintro H Hk
  ihave H' := (owns_slice_split c m fullShare r hr X) $$ H
  icases H' with ⟨Hs, ⟨%f, %hf, Hrest⟩⟩
  iapply (wp_storeS 𝒱 c bd hr) $$ Hs
  iintro Hs
  iapply Hk
  rw [← hf]
  iapply (owns_slice_join c m fullShare r hr w f)
  isplitl [Hs] <;> iassumption

/-- A rectangle from the origin as large as the shape is the shape. -/
theorem emb_full {s : Shape} {off : Fin s.rank → ℕ} (h0 : ∀ a, off a = 0) (inb) (j : s.Idx) : (Rect.unit (s := s) off s.size inb).emb j = j := by
  funext a
  apply Fin.ext
  rw [Rect.emb_apply]
  show off a + 1 * (j a).val = (j a).val
  rw [h0, Nat.zero_add, Nat.one_mul]

/-- A load of the whole of a memref owned at `X` gives `X`. -/
theorem wp_loadW {cs : CoreSpace} {m : Memref sig c.2.kind cs s e} {off : Fin s.rank → ℕ} (h0 : ∀ a, off a = 0) {inb} {hl : m.view.LoadsAt (Rect.unit (s := s) off s.size inb).toLoadRect}
    {k : (s.Idx → Val e) → Prog (TpuEff nD τ sig Val Λ c.2) α} {q : PosShare TreeShare} {X : s.Idx → Val e} :
    (owns c m q X : sProp 𝕄)
      ⊢ iprop((owns c m q X -∗ wp frame (wpE' defs 𝒱 c bd Γ) Es (k X) Q)
        -∗ wp frame (wpE' defs 𝒱 c bd Γ) Es (.op (.load m (Rect.unit (s := s) off s.size inb).toLoadRect hl) k) Q) := by
  have h := wp_loadO (Q := Q) 𝒱 c bd (defs := defs) (Γ := Γ) (Es := Es) (m := m) (r := Rect.unit (s := s) off s.size inb) (hl := hl) (k := k) (q := q) (X := X)
  rw [show (fun j => X ((Rect.unit (s := s) off s.size inb).emb j)) = X from funext fun j => by rw [emb_full h0]] at h
  exact h

/-- A store of the whole of a memref. -/
theorem wp_storeW {cs : CoreSpace} {m : Memref sig c.2.kind cs s e} {off : Fin s.rank → ℕ} (h0 : ∀ a, off a = 0) {inb} {w : s.Idx → Val e}
    {hx : (m.access (Rect.unit (s := s) off s.size inb)).Stores Finset.univ}
    {hm : (Finset.univ : Finset (Rect.unit (s := s) off s.size inb).shape.Idx) = Finset.univ ∨ ∀ a, (Rect.unit (s := s) off s.size inb).stride a = 1}
    {k : PUnit → Prog (TpuEff nD τ sig Val Λ c.2) α} {X : s.Idx → Val e} :
    (owns c m fullShare X : sProp 𝕄)
      ⊢ iprop((owns c m fullShare w -∗ wp frame (wpE' defs 𝒱 c bd Γ) Es (k ⟨⟩) Q)
        -∗ wp frame (wpE' defs 𝒱 c bd Γ) Es (.op (.store m (Rect.unit (s := s) off s.size inb) w Finset.univ hx hm) k) Q) := by
  have h := wp_storeO (Q := Q) 𝒱 c bd (defs := defs) (Γ := Γ) (Es := Es) (m := m) (r := Rect.unit (s := s) off s.size inb) (w := w) (hx := hx) (hm := hm) (k := k) (fun _ => rfl) (X := X)
  rw [show (Rect.unit (s := s) off s.size inb).overlay X w = w from funext fun j => by
    have := Rect.overlay_emb (Rect.unit (s := s) off s.size inb) X w j
    rw [emb_full h0] at this; exact this] at h
  exact h

variable (E : Emb (URounds (GSem nD τ sig) D) (MT nD τ sig Ix Val Name U Lvl)) (Rd : Schedule (GSem nD τ sig) D (MT nD τ sig Ix Val Name U Lvl))

/-- A local copy of a memref owned at `X`: the cell's payload is the destination at `X` and the source back. -/
theorem wp_copyO {src : Memref sig c.2.kind sp s e} {dst : Memref sig c.2.kind sp' s e} {sem : SemLoc sig}
    {hsrc : src.view.WordExact} {hdst : dst.view.WordExact} {hsem : DmaTarget.Typed (nD := nD) sp sem (.here dst)}
    {k : PUnit → Prog (TpuEff nD τ sig Val Λ c.2) α} {q : PosShare TreeShare} {X : s.Idx → Val e} {r : ℕ} {d : D}
    {κ : Name} (hd : d ∈ Rd.duties (c, sem) r) (ι : Ix) (N : ℕ)
    (hN : dst.view.amount sem = N) (hk : Rd.amount (c, sem) r d = N)
    (hpay : iprop(owns c dst fullShare X ∗ owns c src q X) ⊢ Rd.payload (c, sem) r d) :
    iprop(cellInv E Rd κ (c, sem) ∗ owns c src q X ∗ anyAt c dst ∗ dutyTok E (c, sem) r d ∗ reached E (c, sem) r)
      ⊢ iprop((cred (tallyAt (c, sem) ι N) -∗ wp frame (wpE' defs 𝒱 c bd Γ) Es (k ⟨⟩) Q)
          -∗ wp frame (wpE' defs 𝒱 c bd Γ) Es (.op (.enqueueDma src (.here dst) sem hsrc hdst hsem) k) Q) := by
  unfold anyAt owns
  iintro ⟨Hg, ⟨%f, %hf, Hs⟩, ⟨%Y, %g, %hg, Hd⟩, Ht, Hr⟩ Hk
  iapply (Rounds.wp_copy_pointsTo 𝒱 E Rd c bd (fs := f) (fd := g) (q := q) hd ι N hN hk (by
    refine BIBase.Entails.trans ?_ hpay
    iintro ⟨Hd, Hs⟩
    isplitl [Hd]
    · unfold owns
      iexists (dst.view.write Val g (src.view.read Val f) Finset.univ); isplitr
      · ipureintro; rw [View.read_write_univ]; exact hf
      iexact Hd
    unfold owns
    iexists f; isplitr; · ipureintro; exact hf
    iexact Hs)) $$ [Hg Hs Hd Ht Hr]
  · isplitl [Hg]; · iexact Hg
    isplitl [Hs]; · iexact Hs
    isplitl [Hd]; · iexact Hd
    isplitl [Ht]; · iexact Ht
    iexact Hr
  iexact Hk

/-- A remote copy of a memref owned at `X`: the source comes back with the send cell, the receiver's cell carries the
    destination at `X`. -/
theorem wp_sendO {c' : Thread nD τ} {src : Memref sig c.2.kind sp s e} {dst : Memref sig c'.2.kind sp' s e} {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {q : PosShare TreeShare} {X : s.Idx → Val e} {r₁ r₂ : ℕ} {d₁ d₂ : D}
    {κ₁ κ₂ : Name}
    (hd₁ : d₁ ∈ Rd.duties (c, sS) r₁) (hd₂ : d₂ ∈ Rd.duties (c', sem) r₂)
    (ι ι' : Ix) (N : ℕ) (hN : dst.view.amount sem = N)
    (hk₁ : Rd.amount (c, sS) r₁ d₁ = N) (hk₂ : Rd.amount (c', sem) r₂ d₂ = N)
    {O₀ : CellTallies nD τ sig Ix} (O : CellTallies nD τ sig Ix) (hO : O₀ = O + tallyAt (c', sem) ι N) {W : Waits sig Ix}
    (hpay₁ : (owns c src q X : sProp 𝕄) ⊢ Rd.payload (c, sS) r₁ d₁)
    (hpay₂ : (owns c' dst fullShare X : sProp 𝕄) ⊢ Rd.payload (c', sem) r₂ d₂) (hr : τ.routes c c' = true := by routes) :
    iprop(cellInv E Rd κ₁ (c, sS) ∗ cellInv E Rd κ₂ (c', sem) ∗ owns c src q X ∗ anyAt c' dst
        ∗ owes c O₀ W
        ∗ dutyTok E (c, sS) r₁ d₁ ∗ reached E (c, sS) r₁
        ∗ dutyTok E (c', sem) r₂ d₂ ∗ reached E (c', sem) r₂)
      ⊢ iprop(((cred (tallyAt (c, sS) ι' N) ∗ owes c O W) -∗ wp frame (wpE' defs 𝒱 c bd Γ) Es (k ⟨⟩) Q)
          -∗ wp frame (wpE' defs 𝒱 c bd Γ) Es (.op (.enqueueDma src (.remote c' dst sS hsc) sem hsrc hdst hsem) k) Q) := by
  unfold anyAt owns
  iintro ⟨Hg1, Hg2, ⟨%f, %hf, Hs⟩, ⟨%Y, %g, %hg, Hd⟩, HO, Ht1, Hr1, Ht2, Hr2⟩ Hk
  iapply (Rounds.wp_send_pointsTo 𝒱 E Rd c bd (fs := f) (fd := g) (q := q) hd₁ hd₂ ι ι' N hN hk₁ hk₂ O hO (by
    refine BIBase.Entails.trans ?_ hpay₁
    unfold owns
    iintro Hs
    iexists f; isplitr; · ipureintro; exact hf
    iexact Hs) (by
    refine BIBase.Entails.trans ?_ hpay₂
    unfold owns
    iintro Hd
    iexists (dst.view.write Val g (src.view.read Val f) Finset.univ); isplitr
    · ipureintro; rw [View.read_write_univ]; exact hf
    iexact Hd) hr) $$ [Hg1 Hg2 Hs Hd HO Ht1 Hr1 Ht2 Hr2]
  · isplitl [Hg1]; · iexact Hg1
    isplitl [Hg2]; · iexact Hg2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iexact Hk

end Cert.Attn
-- ==== Proof.KernelIdeal.Proto.lean ====
/-
  The protocol of the kernel: its semaphores with who waits and who pays, the slots of its buffers, and the named values
  that travel. One round per semaphore. `In` bundles what the kernel reads.
-/
module

public import proofs.«01_k».proof.Proof.Gen.KernelIdeal
public import proofs.«01_k».proof.Proof.Gen.KernelIdeal.Skeleton
public import proofs.«01_k».proof.Proof.Rules
public import Idealize.ShloMosaic.Lib.Pipeline.Regions
public import Idealize.ShloMosaic.Lib.Pipeline.Kit
public import Idealize.ShloMosaic.Lib.Rounds
public import Idealize.ShloMosaic.Lib.Memref
public import Idealize.ShloMosaic.Lib.MemrefSat
public import Idealize.ShloMosaic.Lib.Tactic

@[expose] public section

set_option synthInstance.maxSize 4096

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Attn
open Facts₀ Facts

variable {F : FTy → Type} [FloatOps F]

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-- One member of a family kept, the rest dropped. -/
theorem bs_elim {T : Type} [DecidableEq T] [Fintype T] (i : T) (Φ : T → sProp 𝕄) : bigSep Finset.univ Φ ⊢ Φ i := bigSep_elim (Finset.mem_univ i)

/-- A family changed member by member. -/
theorem bs_mono {T : Type} {S : Finset T} {Φ Ψ : T → sProp 𝕄} (h : ∀ t, Φ t ⊢ Ψ t) : bigSep S Φ ⊢ bigSep S Ψ := bigSep_mono fun t _ => h t

/-! ## Devices -/

/-- The device `d` places after `c` on the ring. -/
def nb (c : Dev nD) (d : ℕ) : Dev nD := ⟨(c.val + d) % 4, Nat.mod_lt _ (by decide)⟩

/-- Nought places on is the device itself. -/
theorem nb_zero (c : Dev nD) : nb c 0 = c := by revert c; decide

/-! ## Slots -/

abbrev xgM : Memref sig .tc .vmem S4x256x1024 .bf16 := Memref.whole cc0_scratch0
abbrev qM : Memref sig .tc .vmem S256x1024 .f32 := Memref.whole cc0_scratch1
abbrev omM : Memref sig .tc .vmem S3x256x1024 .bf16 := Memref.whole cc0_scratch2
abbrev orM : Memref sig .tc .vmem S3x256x1024 .bf16 := Memref.whole cc0_scratch3
abbrev wqM : Memref sig .tc .vmem S1024x1024 .f32 := Memref.whole cc0_scratch4
abbrev woM : Memref sig .tc .vmem S1024x1024 .f32 := Memref.whole cc0_scratch5
abbrev wqH : Memref sig .tc .hbm S1024x1024 .f32 := Memref.whole main_arg1
abbrev woH : Memref sig .tc .hbm S1024x1024 .f32 := Memref.whole main_arg4

/-- A slot lies inside the gathered activations. -/
theorem xg_inb (i : Fin 4) : ∀ a, (![i.val, 0, 0] : Fin 3 → ℕ) a + S1x256x1024.size a ≤ S4x256x1024.size a := by revert i; decide
/-- A block lies inside the partial outputs' buffers. -/
theorem o_inb (j : Fin 12) : ∀ a, (![j.val / 4, 64 * (j.val % 4), 0] : Fin 3 → ℕ) a + S1x64x1024.size a ≤ S3x256x1024.size a := by revert j; decide

/-- Slot `i` of the gathered activations. -/
abbrev xgR (i : Fin 4) : Rect S4x256x1024 := Rect.unit (s := S4x256x1024) ![i.val, 0, 0] S1x256x1024.size (xg_inb i)
/-- Block `j` of the partial outputs: slot `j / 4`, rows of block `j % 4`. -/
abbrev oR (j : Fin 12) : Rect S3x256x1024 := Rect.unit (s := S3x256x1024) ![j.val / 4, 64 * (j.val % 4), 0] S1x64x1024.size (o_inb j)

abbrev xgS (i : Fin 4) : Memref sig .tc .vmem S1x256x1024 .bf16 := xgM.slice (xgR i) (fun _ => rfl)
abbrev omS (j : Fin 12) : Memref sig .tc .vmem S1x64x1024 .bf16 := omM.slice (oR j) (fun _ => rfl)
abbrev orS (j : Fin 12) : Memref sig .tc .vmem S1x64x1024 .bf16 := orM.slice (oR j) (fun _ => rfl)

/-! ## Semaphores -/

/-- The kernel's own semaphores: activations sent, activations received, partial outputs sent, received, weights fetched. -/
abbrev Role : Type := Fin 3 ⊕ Fin 3 ⊕ Fin 12 ⊕ Fin 12 ⊕ Fin 2

abbrev xs (k : Fin 3) : Role := .inl k
abbrev xr (k : Fin 3) : Role := .inr (.inl k)
abbrev os (j : Fin 12) : Role := .inr (.inr (.inl j))
abbrev ro (j : Fin 12) : Role := .inr (.inr (.inr (.inl j)))
abbrev wr (k : Fin 2) : Role := .inr (.inr (.inr (.inr k)))

/-- The number of a role's semaphore. -/
def semIx : Role → Fin 38
  | .inl k => ⟨6 + k.val, by omega⟩
  | .inr (.inl k) => ⟨9 + k.val, by omega⟩
  | .inr (.inr (.inl j)) => ⟨12 + j.val, by omega⟩
  | .inr (.inr (.inr (.inl j))) => ⟨24 + j.val, by omega⟩
  | .inr (.inr (.inr (.inr k))) => ⟨36 + k.val, by omega⟩

/-- The DMA semaphore of a role. -/
def dsem (r : Role) : DmaSem sig := semIx r

/-- The role of a semaphore. -/
def roleOf (s : Fin 38) : Option Role :=
  if h : s.val < 6 then none
  else if h : s.val < 9 then some (xs ⟨s.val - 6, by omega⟩)
  else if h : s.val < 12 then some (xr ⟨s.val - 9, by omega⟩)
  else if h : s.val < 24 then some (os ⟨s.val - 12, by omega⟩)
  else if h : s.val < 36 then some (ro ⟨s.val - 24, by omega⟩)
  else some (wr ⟨s.val - 36, by omega⟩)

/-- A role's semaphore has that role. -/
theorem roleOf_semIx : ∀ r : Role, roleOf (semIx r) = some r := by decide

/-- Different roles have different semaphores. -/
theorem dsem_inj : Function.Injective dsem := fun r r' h => by
  have := congrArg roleOf h; unfold dsem at this; rw [roleOf_semIx, roleOf_semIx] at this; exact Option.some.inj this

abbrev barS : Sem sig := sig.barrier 0 rfl
abbrev bC (c : Dev nD) : GSem nD τ sig := ((c : Thread nD τ), .reg barS)
abbrev dC (c : Dev nD) (r : Role) : GSem nD τ sig := ((c : Thread nD τ), .dma (dsem r))

/-! ## Who writes where -/

/-- The block a partial output lands in: the slot of the other end of the ring. -/
def jrev (j : Fin 12) : Fin 12 := ⟨(2 - j.val / 4) * 4 + j.val % 4, by omega⟩
/-- A block's number at the other end, taken twice. -/
theorem jrev_jrev : ∀ j, jrev (jrev j) = j := by decide

/-- Whom send `k` of the activations goes to. -/
abbrev xto (c : Dev nD) (k : Fin 3) : Dev nD := nb c (k.val + 1)
/-- Whom partial output `j` goes to. -/
abbrev oto (c : Dev nD) (j : Fin 12) : Dev nD := nb c (j.val / 4 + 1)

/-- Two devices exchange activations. -/
theorem xto_xto : ∀ (c : Dev nD) (k : Fin 3), xto (xto c k) k.rev = c := by decide
/-- Two devices exchange partial outputs. -/
theorem oto_oto : ∀ (c : Dev nD) (j : Fin 12), oto (oto c j) (jrev j) = c := by decide

/-- Blocks as a slot and a block of rows. -/
def e34 : Fin 3 × Fin 4 ≃ Fin 12 where
  toFun p := ⟨4 * p.1.val + p.2.val, by omega⟩
  invFun j := (⟨j.val / 4, by omega⟩, ⟨j.val % 4, by omega⟩)
  left_inv p := by rcases p with ⟨⟨a, ha⟩, ⟨b, hb⟩⟩; simp only [Prod.mk.injEq, Fin.mk.injEq]; omega
  right_inv j := by rcases j with ⟨j, hj⟩; simp only [Fin.mk.injEq]; omega

/-! ## Values -/

/-- What the kernel reads: each device's activations and weights, and the key and value block of each grid point. -/
structure In (F : FTy → Type) where
  x : Dev nD → S1x256x1024.Idx → Elt F .f32
  wq : Dev nD → S1024x1024.Idx → Elt F .f32
  wo : Dev nD → S1024x1024.Idx → Elt F .f32
  kb : Dev nD → ℕ → ℕ → S1x16x1x64x8x128.Idx → Elt F .f32
  vb : Dev nD → ℕ → ℕ → S1x16x1x64x8x128.Idx → Elt F .f32

section Values

variable (I : In F)

/-- A device's activations as sent. -/
def xb (c : Dev nD) : S1x256x1024.Idx → Elt F .bf16 := k0_pay3 (I.x c)
/-- The queries device `c` makes at step `s`, of the activations of the device `s` places on. -/
def qv (c : Dev nD) (s : ℕ) : S256x1024.Idx → Elt F .f32 := k0_pay6 (xb I (nb c s)) (I.wq c)

/-- A block's rows lie inside the query buffer. -/
theorem q_inb (b : Fin 4) : ∀ a, (![64 * b.val, 0] : Fin 2 → ℕ) a + S64x1024.size a ≤ S256x1024.size a := by revert b; decide
/-- The rows of block `b` of a query buffer. -/
abbrev qR (b : Fin 4) : Rect S256x1024 := Rect.unit (s := S256x1024) ![64 * b.val, 0] S64x1024.size (q_inb b)

/-- The query rows of block `b` at step `s`. -/
def qrows (c : Dev nD) (s : ℕ) (b : Fin 4) : S64x1024.Idx → Elt F .f32 := fun j => qv I c s ((qR b).emb j)
/-- The partial output of device `c` at step `s`, block `b`. -/
def part (c : Dev nD) (s : ℕ) (b : Fin 4) : S64x1024.Idx → Elt F .f32 :=
  k0_pay1 (k0_pay7 (I.vb c s b.val)) (k0_pay8 (qrows I c s b) (I.kb c s b.val)) k0_pay9 (I.wo c)

/-- The partial output `j` device `c` sends. -/
def vrem (c : Dev nD) (j : Fin 12) : S1x64x1024.Idx → Elt F .bf16 :=
  k0_pay4 (part I c (j.val / 4 + 1) ⟨j.val % 4, Nat.mod_lt _ (by decide)⟩)
/-- What lands in block `j` of device `c`. -/
def vrec (c : Dev nD) (j : Fin 12) : S1x64x1024.Idx → Elt F .bf16 := vrem I (oto c j) (jrev j)

/-- The share of the own activations each send takes. -/
def qx : Fin 3 → PosShare TreeShare
  | 0 => fullShare.right.left
  | 1 => fullShare.right.right.left
  | 2 => fullShare.right.right.right

/-! ## The schedule -/

/-- The credit of one transfer of activations, of one partial output, of one weight block. -/
def Nx : ℕ := RefSig.tileCredit S1x256x1024 .bf16
/-- The credit of one partial output. -/
def No : ℕ := RefSig.tileCredit S1x64x1024 .bf16
/-- The credit of one weight block. -/
def Nw : ℕ := RefSig.tileCredit S1024x1024 .f32

/-- The credit of activations is positive. -/
theorem Nx_pos : 0 < Nx := RefSig.tileCredit_pos _ _ (by decide)
/-- The credit of a partial output is positive. -/
theorem No_pos : 0 < No := RefSig.tileCredit_pos _ _ (by decide)
/-- The credit of a weight block is positive. -/
theorem Nw_pos : 0 < Nw := RefSig.tileCredit_pos _ _ (by decide)

/-- The credit of a role's transfer. -/
def amt : Role → ℕ
  | .inl _ => Nx
  | .inr (.inl _) => Nx
  | .inr (.inr (.inl _)) => No
  | .inr (.inr (.inr (.inl _))) => No
  | .inr (.inr (.inr (.inr _))) => Nw

/-- Every role's credit is positive. -/
theorem amt_pos : ∀ r : Role, 0 < amt r
  | .inl _ => Nx_pos
  | .inr (.inl _) => Nx_pos
  | .inr (.inr (.inl _)) => No_pos
  | .inr (.inr (.inr (.inl _))) => No_pos
  | .inr (.inr (.inr (.inr _))) => Nw_pos

/-- What a role's semaphore delivers to its device. -/
def pay (c : Dev nD) : Role → sProp 𝕄
  | .inl k => owns (c : Thread nD τ) (xgS 0) (qx k) (xb I c)
  | .inr (.inl k) => owns (c : Thread nD τ) (xgS k.succ) fullShare (xb I (nb c (k.val + 1)))
  | .inr (.inr (.inl j)) => owns (c : Thread nD τ) (omS j) fullShare (vrem I c j)
  | .inr (.inr (.inr (.inl j))) => owns (c : Thread nD τ) (orS j) fullShare (vrec I c j)
  | .inr (.inr (.inr (.inr 0))) => iprop(owns (c : Thread nD τ) wqM fullShare (I.wq c) ∗ owns (c : Thread nD τ) wqH fullShare (I.wq c))
  | .inr (.inr (.inr (.inr 1))) => iprop(owns (c : Thread nD τ) woM fullShare (I.wo c) ∗ owns (c : Thread nD τ) woH fullShare (I.wo c))

/-- What device `c` needs before it sends partial output `j`: the landing block and that its semaphore is open. -/
def oland (c : Dev nD) (j : Fin 12) : sProp 𝕄 :=
  iprop(anyAt (oto c j : Thread nD τ) (orS (jrev j)) ∗ reached ER (dC (oto c j) (ro (jrev j))) 0)
/-- The same for send `k` of the activations. -/
def xland (c : Dev nD) (k : Fin 3) : sProp 𝕄 :=
  iprop(anyAt (xto c k : Thread nD τ) (xgS k.rev.succ) ∗ reached ER (dC (xto c k) (xr k.rev)) 0)
/-- Duty `k` of the barrier of device `c`: the landing slots on the device `k + 1` places on. -/
def barPay (c : Dev nD) (k : Fin 3) : sProp 𝕄 :=
  iprop(xland c k ∗ bigSep Finset.univ fun b : Fin 4 => oland c (e34 (k, b)))

/-- What lands may be kept in an invariant. -/
instance pay_storable (c : Dev nD) (r : Role) : BI.Storable (upEmb : UEmb _ 𝕄) (pay I c r) := by
  rcases r with k | k | k | k | k
  · unfold pay; infer_instance
  · unfold pay; infer_instance
  · unfold pay; infer_instance
  · unfold pay; infer_instance
  · fin_cases k <;> (unfold pay; infer_instance)

/-- What a barrier signal hands over may be kept in an invariant. -/
instance barPay_storable (c : Dev nD) (k : Fin 3) : BI.Storable (upEmb : UEmb _ 𝕄) (barPay c k : sProp 𝕄) := by
  unfold barPay xland oland; infer_instance

/-- The duties of a cell's one round: three on the barrier, one on a DMA cell with a role. -/
def dutiesOf (s : SemLoc sig) : Finset (Fin 3) :=
  match s with
  | .reg _ => Finset.univ
  | .dma s => match roleOf s with | some _ => {0} | none => ∅
/-- The units of a duty. -/
def amountOf (s : SemLoc sig) : ℕ :=
  match s with
  | .reg _ => 1
  | .dma s => match roleOf s with | some r => amt r | none => 1
/-- What a duty hands over. -/
def payOf (c : Dev nD) (s : SemLoc sig) (d : Fin 3) : sProp 𝕄 :=
  match s with
  | .reg _ => barPay c d
  | .dma s => match roleOf s with | some r => pay I c r | none => iprop(emp)

/-- One round: three duties on each barrier, one on each semaphore of the kernel. -/
def Rd : Rounds.Schedule (GSem nD τ sig) (Fin 3) 𝕄 where
  duties g r := if r = 0 then dutiesOf g.2 else ∅
  unitless _ := False
  amount g _ _ := amountOf g.2
  payload g _ d := payOf I g.1.1 g.2 d
  amount_pos g _ _ _ := by
    rcases g with ⟨_, s | s⟩
    · exact Nat.one_pos
    · show 0 < amountOf (.dma s)
      unfold amountOf; dsimp only
      cases roleOf s with
      | none => exact Nat.one_pos
      | some r => exact amt_pos r

/-- Every payload of the schedule may be kept in an invariant. -/
instance Rd_payload_storable (g : GSem nD τ sig) (r : ℕ) (d : Fin 3) :
    BI.Storable (upEmb : UEmb _ 𝕄) ((Rd I).payload g r d) := by
  show BI.Storable upEmb (payOf I g.1.1 g.2 d)
  unfold payOf
  (repeat' split) <;> infer_instance

/-- A DMA cell has one duty. -/
theorem duties_d (c : Dev nD) (r : Role) : (Rd I).duties (dC c r) 0 = {0} := by
  show dutiesOf (.dma (semIx r)) = {0}
  unfold dutiesOf; dsimp only; rw [roleOf_semIx]
/-- The barrier cell has three duties. -/
theorem duties_b (c : Dev nD) : (Rd I).duties (bC c) 0 = Finset.univ := rfl
/-- No cell has a second round. -/
theorem duties_later (g : GSem nD τ sig) : ∀ r, 1 ≤ r → (Rd I).duties g r = ∅ := fun r hr => if_neg (by omega)
/-- A DMA duty is worth its transfer's credit. -/
theorem amount_d (c : Dev nD) (r : Role) (d : Fin 3) : (Rd I).amount (dC c r) 0 d = amt r := by
  show amountOf (.dma (semIx r)) = amt r
  unfold amountOf; dsimp only; rw [roleOf_semIx]
/-- A barrier duty is worth one. -/
theorem amount_b (c : Dev nD) (d : Fin 3) : (Rd I).amount (bC c) 0 d = 1 := rfl
/-- What a DMA duty hands over. -/
theorem payload_d (c : Dev nD) (r : Role) (d : Fin 3) : (Rd I).payload (dC c r) 0 d = pay I c r := by
  show payOf I c (.dma (semIx r)) d = pay I c r
  unfold payOf; dsimp only; rw [roleOf_semIx]
/-- What a barrier duty hands over. -/
theorem payload_b (c : Dev nD) (d : Fin 3) : (Rd I).payload (bC c) 0 d = barPay c d := rfl
/-- A DMA wait expects its transfer's credit. -/
theorem expect_d (c : Dev nD) (r : Role) : (Rd I).expect (dC c r) 0 = amt r := by
  unfold Schedule.expect Schedule.amountOf; rw [duties_d, Finset.sum_singleton, amount_d]
/-- The barrier's wait expects three. -/
theorem expect_b (c : Dev nD) : (Rd I).expect (bC c) 0 = 3 := by
  unfold Schedule.expect Schedule.amountOf; rw [duties_b]; rfl
/-- All that a DMA wait collects. -/
theorem rest_d (c : Dev nD) (r : Role) :
    bigSep ((Rd I).duties (dC c r) 0 \ ∅) (fun d => (Rd I).payload (dC c r) 0 d) = pay I c r := by
  rw [Finset.sdiff_empty, duties_d, bigSep_singleton, payload_d]
/-- All that the barrier's wait collects. -/
theorem rest_b (c : Dev nD) :
    bigSep ((Rd I).duties (bC c) 0 \ ∅) (fun d => (Rd I).payload (bC c) 0 d) = (bigSep Finset.univ fun k : Fin 3 => barPay c k : sProp 𝕄) := by
  rw [Finset.sdiff_empty, duties_b]; rfl

end Values

/-! ## Dues and levels -/

/-- Send `k` of the activations is owed to its receiver. -/
def xdue (c : Dev nD) (k : Fin 3) : CellTallies nD τ sig Unit := tallyAt (dC (xto c k) (xr k.rev)) () Nx
/-- One unit of the barrier of the device `k + 1` places on. -/
def bdue (c : Dev nD) (k : Fin 3) : CellTallies nD τ sig Unit := tallyAt (bC (xto c k)) () 1
/-- Partial output `j` is owed to its receiver. -/
def odue (c : Dev nD) (j : Fin 12) : CellTallies nD τ sig Unit := tallyAt (dC (oto c j) (ro (jrev j))) () No
/-- The partial outputs still owed before point `t`. -/
def od (c : Dev nD) (t : ℕ) : CellTallies nD τ sig Unit := ∑ j ∈ Finset.univ.filter (fun j : Fin 12 => t ≤ j.val + 4), odue c j
/-- What a device owes at launch. -/
def O₀ (c : Dev nD) : CellTallies nD τ sig Unit :=
  od c 0 + xdue c 0 + xdue c 1 + xdue c 2 + bdue c 2 + bdue c 1 + bdue c 0
/-- What a device owes before point `t`. -/
def owedAt (c : Dev nD) (t : ℕ) : CellTallies nD τ sig Unit := if t = 0 then O₀ c else od c t

/-- The levels' index: one for each cell of a device. -/
def L (g : GSem nD τ sig) : Finset Unit := if g.1.2 = .tc then {()} else ∅
/-- The level of a role's cell. -/
def lvR : Role → ℕ
  | .inr (.inl _) => 2
  | .inr (.inr (.inr (.inl _))) => 3
  | _ => 0
/-- Barriers at 1, received activations at 2, received partial outputs at 3, the rest at 0. -/
def lv (g : GSem nD τ sig) (_ : Unit) : ℕ :=
  match g.2 with
  | .reg _ => 1
  | .dma s => match roleOf s with | some r => lvR r | none => 0

/-- Other threads' cells have no level. -/
theorem L_of_ne (g : GSem nD τ sig) (h : g.1.2 ≠ .tc) : L g = ∅ := if_neg h
/-- A device's cell has one level. -/
theorem L_tc (c : Dev nD) (sm : SemLoc sig) : L ((c : Thread nD τ), sm) = {()} := if_pos rfl
/-- A DMA cell's level is its role's. -/
theorem lv_d (c : Dev nD) (r : Role) (u : Unit) : lv (dC c r) u = lvR r := by
  show (match roleOf (semIx r) with | some r => lvR r | none => 0) = lvR r
  rw [roleOf_semIx]
/-- The barrier is at level one. -/
theorem lv_b (c : Dev nD) (u : Unit) : lv (bC c) u = 1 := rfl

/-- Everything owed stands above level `n`. -/
def Above (n : ℕ) (O : CellTallies nD τ sig Unit) : Prop := ∀ g u, 0 < O g u → u ∈ L g ∧ n < lv g u

/-- Nothing owed is above every level. -/
theorem above_zero (n : ℕ) : Above n 0 := fun g u h => absurd h (Nat.lt_irrefl 0)
/-- Two debts above a level, together. -/
theorem above_add {n : ℕ} {O O' : CellTallies nD τ sig Unit} (h : Above n O) (h' : Above n O') : Above n (O + O') := fun g u hg => by
  rw [Pi.add_apply, Finsupp.add_apply] at hg
  rcases Nat.add_pos_iff_pos_or_pos.mp hg with hg | hg
  · exact h g u hg
  · exact h' g u hg
/-- One debt above a level. -/
theorem above_tally {n k : ℕ} {c : Dev nD} {sm : SemLoc sig} (h : n < lv ((c : Thread nD τ), sm) ()) : Above n (tallyAt ((c : Thread nD τ), sm) () k) := fun g u hg => by
  rw [tallyAt_apply] at hg
  by_cases hc : g = ((c : Thread nD τ), sm) ∧ u = ()
  · rw [hc.1, L_tc]; exact ⟨Finset.mem_singleton_self _, h⟩
  · rw [if_neg hc] at hg; exact absurd hg (Nat.lt_irrefl 0)
/-- A family of debts above a level. -/
theorem above_sum {n : ℕ} {T : Type} (S : Finset T) (f : T → CellTallies nD τ sig Unit) (h : ∀ i ∈ S, Above n (f i)) : Above n (∑ i ∈ S, f i) := by
  classical
  induction S using Finset.induction_on with
  | empty => rw [Finset.sum_empty]; exact above_zero n
  | insert a S ha ih =>
    rw [Finset.sum_insert ha]
    exact above_add (h a (Finset.mem_insert_self _ _)) (ih fun i hi => h i (Finset.mem_insert_of_mem hi))

/-- The partial outputs owed are above the lower levels. -/
theorem above_od {n : ℕ} (hn : n < 3) (c : Dev nD) (t : ℕ) : Above n (od c t) :=
  above_sum _ _ fun j _ => above_tally (by rw [lv_d]; exact hn)
/-- The activations owed are above the barrier. -/
theorem above_xdue {n : ℕ} (hn : n < 2) (c : Dev nD) (k : Fin 3) : Above n (xdue c k) := above_tally (by rw [lv_d]; exact hn)
/-- The barrier signals owed are above the ground. -/
theorem above_bdue {n : ℕ} (hn : n < 1) (c : Dev nD) (k : Fin 3) : Above n (bdue c k) := above_tally (by rw [lv_b]; exact hn)
/-- All that is owed at launch is above the ground. -/
theorem above_O₀ (c : Dev nD) : Above 0 (O₀ c) :=
  above_add (above_add (above_add (above_add (above_add (above_add (above_od (by decide) c 0) (above_xdue (by decide) c 0))
    (above_xdue (by decide) c 1)) (above_xdue (by decide) c 2)) (above_bdue (by decide) c 2)) (above_bdue (by decide) c 1)) (above_bdue (by decide) c 0)
/-- All that is owed before a point is above the ground. -/
theorem above_owedAt (c : Dev nD) (t : ℕ) : Above 0 (owedAt c t) := by
  unfold owedAt; split
  · exact above_O₀ c
  · exact above_od (by decide) c t

/-- The last dues are paid at the last point. -/
theorem od_done (c : Dev nD) (t : ℕ) (h : 16 ≤ t) : od c t = 0 := by
  unfold od; rw [Finset.filter_false_of_mem (fun j _ => by omega), Finset.sum_empty]
/-- No partial output is sent in the first step. -/
theorem od_early (c : Dev nD) (t : ℕ) (h : t ≤ 4) : od c t = od c 0 := by
  unfold od; rw [Finset.filter_true_of_mem (fun j _ => by omega), Finset.filter_true_of_mem (fun j _ => by omega)]
/-- Partial output `j` is the one point `j + 4` sends. -/
theorem od_step (c : Dev nD) (j : Fin 12) : od c (j.val + 4) = od c (j.val + 4 + 1) + odue c j := by
  unfold od
  rw [show (Finset.univ.filter fun i : Fin 12 => j.val + 4 ≤ i.val + 4) = insert j (Finset.univ.filter fun i : Fin 12 => j.val + 4 + 1 ≤ i.val + 4) from by
    ext i; simp only [Finset.mem_filter, Finset.mem_univ, true_and, Finset.mem_insert, Fin.ext_iff]; omega,
    Finset.sum_insert (by simp only [Finset.mem_filter, Finset.mem_univ, true_and]; omega), add_comm]

/-- A device may wait on a semaphore below everything it owes. -/
theorem mayWait_above (c : Dev nD) (sm : SemLoc sig) (O : CellTallies nD τ sig Unit) (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => (h g u hg).1)
    (fun p hp => by rw [Finset.mem_singleton.mp hp])
    (fun g u hg => (h g u hg).2)

end Cert.KernelIdeal.Attn
-- ==== Proof.KernelIdeal.Steps.lean ====
/-
  One step of the kernel at a time: each signal, wait and transfer as a rule over the schedule of `Proto`.
-/
module

public import proofs.«01_k».proof.Proof.Gen.KernelIdeal
public import proofs.«01_k».proof.Proof.Gen.KernelIdeal.Skeleton
public import proofs.«01_k».proof.Proof.KernelIdeal.Proto
public import Idealize.ShloMosaic.Lib.Pipeline.Regions
public import Idealize.ShloMosaic.Lib.Pipeline.Kit
public import Idealize.ShloMosaic.Lib.Rounds
public import Idealize.ShloMosaic.Lib.Memref
public import Idealize.ShloMosaic.Lib.MemrefSat
public import Idealize.ShloMosaic.Lib.Tactic

@[expose] public section

set_option synthInstance.maxSize 4096

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Attn
open Facts₀ Facts

variable {F : FTy → Type} [FloatOps F]

local notation "𝕄" => MT nD τ sig Unit (Elt F) ℕ UU ℕ

abbrev 𝒱₀ : Variants := Variants.none

/-- What a device owes, whatever waits are recorded. -/
def ow (c : Dev nD) (O : CellTallies nD τ sig Unit) : sProp 𝕄 := iprop(∃ W, owes (c : Thread nD τ) O W)

section Steps

variable (I : In F) (K : GSem nD τ sig → ℕ)

/-- The invariants, the levels, and the open rounds: never given up. -/
def ctx (c : Dev nD) : sProp 𝕄 :=
  iprop((bigSep Finset.univ fun p : Dev nD × Role => cellInv ER (Rd I) (K (dC p.1 p.2)) (dC p.1 p.2))
    ∗ (bigSep Finset.univ fun d : Dev nD => cellInv ER (Rd I) (K (bC d)) (bC d))
    ∗ levAts L lv
    ∗ (bigSep Finset.univ fun r : Role => reached ER (dC c r) 0)
    ∗ (bigSep Finset.univ fun d : Dev nD => reached ER (bC d) 0))

/-- The context can be kept and used again. -/
instance ctx_persistent (c : Dev nD) : BI.Persistent (ctx I K c) := by unfold ctx; infer_instance

/-- The context holds every DMA cell's invariant. -/
theorem ctx_inv (c d : Dev nD) (r : Role) : ctx I K c ⊢ cellInv ER (Rd I) (K (dC d r)) (dC d r) := by
  unfold ctx; iintro ⟨H, -, -, -, -⟩
  iapply (bs_elim (F := F) (d, r) (fun p : Dev nD × Role => (cellInv ER (Rd I) (K (dC p.1 p.2)) (dC p.1 p.2) : sProp 𝕄)))
  iexact H
/-- The context holds every barrier cell's invariant. -/
theorem ctx_binv (c d : Dev nD) : ctx I K c ⊢ cellInv ER (Rd I) (K (bC d)) (bC d) := by
  unfold ctx; iintro ⟨-, H, -, -, -⟩
  iapply (bs_elim (F := F) d (fun d : Dev nD => (cellInv ER (Rd I) (K (bC d)) (bC d) : sProp 𝕄)))
  iexact H
/-- The context holds the levels. -/
theorem ctx_lev (c : Dev nD) : ctx I K c ⊢ levAts L lv := by
  unfold ctx; iintro ⟨-, -, H, -, -⟩; iexact H
/-- The context knows the own DMA cells' first round. -/
theorem ctx_reached (c : Dev nD) (r : Role) : ctx I K c ⊢ reached ER (dC c r) 0 := by
  unfold ctx; iintro ⟨-, -, -, H, -⟩
  iapply (bs_elim (F := F) r (fun r : Role => (reached ER (dC c r) 0 : sProp 𝕄)))
  iexact H
/-- The context knows every barrier cell's first round. -/
theorem ctx_breached (c d : Dev nD) : ctx I K c ⊢ reached ER (bC d) 0 := by
  unfold ctx; iintro ⟨-, -, -, -, H⟩
  iapply (bs_elim (F := F) d (fun d : Dev nD => (reached ER (bC d) 0 : sProp 𝕄)))
  iexact H

variable {α : Type} {Q : α → sProp (MT nD τ sig Unit (Elt F) ℕ UU ℕ)} (c : Dev nD)

/-- A wait on one of the device's own transfer semaphores brings what it carries. -/
theorem step_wait (r : Role) {s : DmaSem sig} (hs : s = dsem r) {O : CellTallies nD τ sig Unit} (hO : Above (lvR r) O)
    {sp sp' : Space} {sh : Shape} {e : EltTy} {src : Memref sig .tc sp sh e} {dst : Memref sig .tc sp' sh e}
    (hN : dst.view.dmaCredit = amt r) {h₁ : src.view.WordExact} {h₂ : dst.view.WordExact}
    {k : PUnit → Prog (TpuEff nD τ sig (Elt F) Λ₀ .tc) α} :
    iprop(ctx I K c ∗ ow c O ∗ cred (tallyAt (dC c r) () (amt r)) ∗ atPos ER (dC c r) 0 ∅ 0)
      ⊢ iprop((ow c O ∗ atPos ER (dC c r) 1 ∅ 0 ∗ pay I c r -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 s src dst h₁ h₂) k) Q) := by
  subst hs
  unfold ow
  iintro ⟨#Hc, ⟨%W, HO⟩, Hcr, Hat⟩ Hk
  iapply (Rounds.wp_wait_rest_token 𝒱₀ ER (Rd I) (c : Thread nD τ) none (κ := K (dC c r))
      (wpE_waitDma2_eq (src := src) (dst := dst) 𝒱₀ (c : Thread nD τ) none Set.univ) (Set.mem_univ _) () (O := O) (W := W) (R := 0) (m := 0) (T := ∅)
      ((Nat.zero_add _).trans (hN.trans (expect_d I c r).symm))) $$ [HO Hcr Hat]
  · isplitr; · iapply (ctx_inv I K c c r); iexact Hc
    isplitl [Hcr]; · rw [hN]; iexact Hcr
    isplitl [HO]; · iexact HO
    isplitr; · iapply (mayWait_above c (.dma (dsem r)) O (by rw [lv_d]; exact hO)); iapply (ctx_lev I K c); iexact Hc
    iexact Hat
  iintro ⟨HO, Hat, -, Hp⟩
  iapply Hk
  isplitl [HO]; · iexists _; iexact HO
  isplitl [Hat]; · iexact Hat
  iapply (Entails.of_eq (rest_d I c r)); iexact Hp

/-- The wait on the barrier brings every other device's landing slots. -/
theorem step_bwait {n : ℤ} (hn : n = 3) {O : CellTallies nD τ sig Unit} (hO : Above 1 O) {s : Sem sig} (hs : s = barS)
    {k : PUnit → Prog (TpuEff nD τ sig (Elt F) Λ₀ .tc) α} :
    iprop(ctx I K c ∗ ow c O ∗ cred (tallyAt (bC c) () 3) ∗ atPos ER (bC c) 0 ∅ 0)
      ⊢ iprop((ow c O ∗ atPos ER (bC c) 1 ∅ 0 ∗ (bigSep Finset.univ fun k : Fin 3 => barPay c k)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait s n) k) Q) := by
  subst hs; subst hn
  unfold ow
  iintro ⟨#Hc, ⟨%W, HO⟩, Hcr, Hat⟩ Hk
  iapply (Rounds.wp_wait_rest_token 𝒱₀ ER (Rd I) (c : Thread nD τ) none (κ := K (bC c))
      (wpE_semWait_eq 𝒱₀ (c : Thread nD τ) none Set.univ) (Set.mem_univ _) () (O := O) (W := W) (R := 0) (m := 0) (T := ∅) (k' := 3)
      ((Nat.zero_add _).trans (expect_b I c).symm)) $$ [HO Hcr Hat]
  · isplitr; · iapply (ctx_binv I K c c); iexact Hc
    isplitl [Hcr]; · iexact Hcr
    isplitl [HO]; · iexact HO
    isplitr; · iapply (mayWait_above c (.reg barS) O hO); iapply (ctx_lev I K c); iexact Hc
    iexact Hat
  iintro ⟨HO, Hat, -, Hp⟩
  iapply Hk
  isplitl [HO]; · iexists _; iexact HO
  isplitl [Hat]; · iexact Hat
  iapply (Entails.of_eq (rest_b I c)); iexact Hp

/-- A signal of another device's barrier hands it this device's landing slots. -/
theorem step_signal (k : Fin 3) {d : Dev nD} (hd : d = xto c k) {n : ℤ} (hn : n = 1) {O : CellTallies nD τ sig Unit} {s : Sem sig} (hs : s = barS)
    {kt : PUnit → Prog (TpuEff nD τ sig (Elt F) Λ₀ .tc) α} :
    iprop(ctx I K c ∗ ow c (O + bdue c k) ∗ dutyTok ER (bC (xto c k)) 0 k.rev ∗ barPay (xto c k) k.rev)
      ⊢ iprop((ow c O -∗ wp frame (wpE (defs₀ (F := F)) 𝒱₀ (c : Thread nD τ) none) Set.univ (kt ⟨⟩) Q)
        -∗ wp frame (wpE (defs₀ (F := F)) 𝒱₀ (c : Thread nD τ) none) Set.univ (.op (.semSignal (d : Thread nD τ) s n) kt) Q) := by
  subst hs; subst hn; subst hd
  unfold ow
  iintro ⟨#Hc, ⟨%W, HO⟩, Ht, Hp⟩ Hk
  iapply (Rounds.wp_signal 𝒱₀ ER (Rd I) (c : Thread nD τ) none (dst := (xto c k : Thread nD τ)) (sem := barS) (r := 0) (d := k.rev) (κ := K (bC (xto c k)))
      (by rw [duties_b]; exact Finset.mem_univ _) (amount_b I (xto c k) k.rev) () O rfl) $$ [HO Ht Hp]
  · isplitr; · iapply (ctx_binv I K c (xto c k)); iexact Hc
    isplitl [HO]; · iexact HO
    isplitl [Ht]; · iexact Ht
    isplitl [Hp]; · rw [payload_b]; iexact Hp
    iapply (ctx_breached I K c (xto c k)); iexact Hc
  iintro HO
  iapply Hk
  iexists _; iexact HO

/-- Send `k` of the activations: this device's activations into their slot on the receiver. -/
theorem step_xsend (k : Fin 3) {d : Dev nD} (hd : d = xto c k) {src dst : Memref sig .tc .vmem S1x256x1024 .bf16}
    (hsrc : src = xgS 0) (hdst : dst = xgS k.rev.succ) {sS sR : DmaSem sig} (hsS : sS = dsem (xs k)) (hsR : sR = dsem (xr k.rev))
    {h₁ : src.view.WordExact} {h₂ : dst.view.WordExact} {hsc : dst.view.ref.isScScratch = false}
    {hsem : DmaTarget.Typed .vmem (.dma sR) (.remote (d : Thread nD τ) dst (.dma sS) hsc)} {O : CellTallies nD τ sig Unit}
    {kt : PUnit → Prog (TpuEff nD τ sig (Elt F) Λ₀ .tc) α} :
    iprop(ctx I K c ∗ ow c (O + xdue c k) ∗ owns (c : Thread nD τ) (xgS 0) (qx k) (xb I c) ∗ xland c k
        ∗ dutyTok ER (dC c (xs k)) 0 0 ∗ dutyTok ER (dC (xto c k) (xr k.rev)) 0 0)
      ⊢ iprop((ow c O ∗ cred (tallyAt (dC c (xs k)) () (amt (xs k))) -∗ wp frame (wpE (defs₀ (F := F)) 𝒱₀ (c : Thread nD τ) none) Set.univ (kt ⟨⟩) Q)
        -∗ wp frame (wpE (defs₀ (F := F)) 𝒱₀ (c : Thread nD τ) none) Set.univ
            (.op (.enqueueDma src (.remote (d : Thread nD τ) dst (.dma sS) hsc) (.dma sR) h₁ h₂ hsem) kt) Q) := by
  subst hd; subst hsrc; subst hdst; subst hsS; subst hsR
  unfold ow xland
  iintro ⟨#Hc, ⟨%W, HO⟩, Hs, ⟨Hd, #Hr⟩, Ht, Ht'⟩ Hk
  iapply (wp_sendO 𝒱₀ (c : Thread nD τ) none ER (Rd I) (c' := (xto c k : Thread nD τ)) (src := xgS 0) (dst := xgS k.rev.succ)
      (sS := .dma (dsem (xs k))) (sem := .dma (dsem (xr k.rev))) (q := qx k) (X := xb I c) (κ₁ := K (dC c (xs k))) (κ₂ := K (dC (xto c k) (xr k.rev)))
      (r₁ := 0) (r₂ := 0) (d₁ := 0) (d₂ := 0)
      (by rw [duties_d]; exact Finset.mem_singleton_self _) (by rw [duties_d]; exact Finset.mem_singleton_self _)
      () () Nx rfl (amount_d I c (xs k) 0) (amount_d I (xto c k) (xr k.rev) 0) O rfl (W := W)
      (by rw [payload_d]; exact BI.Entails.refl _)
      (by rw [payload_d]; show _ ⊢ owns _ _ _ (xb I (xto (xto c k) k.rev)); rw [xto_xto])) $$ [HO Hs Hd Ht Ht']
  · isplitr; · iapply (ctx_inv I K c c (xs k)); iexact Hc
    isplitr; · iapply (ctx_inv I K c (xto c k) (xr k.rev)); iexact Hc
    isplitl [Hs]; · iexact Hs
    isplitl [Hd]; · iexact Hd
    isplitl [HO]; · iexact HO
    isplitl [Ht]; · iexact Ht
    isplitr; · iapply (ctx_reached I K c (xs k)); iexact Hc
    isplitl [Ht']; · iexact Ht'
    iexact Hr
  iintro ⟨Hcr, HO⟩
  iapply Hk
  isplitl [HO]; · iexists _; iexact HO
  iexact Hcr

/-- The send of partial output `j` into its block on the receiver. -/
theorem step_osend (j : Fin 12) {d : Dev nD} (hd : d = oto c j) {src dst : Memref sig .tc .vmem S1x64x1024 .bf16}
    (hsrc : src = omS j) (hdst : dst = orS (jrev j)) {sS sR : DmaSem sig} (hsS : sS = dsem (os j)) (hsR : sR = dsem (ro (jrev j)))
    {h₁ : src.view.WordExact} {h₂ : dst.view.WordExact} {hsc : dst.view.ref.isScScratch = false}
    {hsem : DmaTarget.Typed .vmem (.dma sR) (.remote (d : Thread nD τ) dst (.dma sS) hsc)} {O : CellTallies nD τ sig Unit}
    {kt : PUnit → Prog (TpuEff nD τ sig (Elt F) Λ₀ .tc) α} :
    iprop(ctx I K c ∗ ow c (O + odue c j) ∗ owns (c : Thread nD τ) (omS j) fullShare (vrem I c j) ∗ oland c j
        ∗ dutyTok ER (dC c (os j)) 0 0 ∗ dutyTok ER (dC (oto c j) (ro (jrev j))) 0 0)
      ⊢ iprop((ow c O ∗ cred (tallyAt (dC c (os j)) () (amt (os j))) -∗ wp frame (wpE (defs₀ (F := F)) 𝒱₀ (c : Thread nD τ) none) Set.univ (kt ⟨⟩) Q)
        -∗ wp frame (wpE (defs₀ (F := F)) 𝒱₀ (c : Thread nD τ) none) Set.univ
            (.op (.enqueueDma src (.remote (d : Thread nD τ) dst (.dma sS) hsc) (.dma sR) h₁ h₂ hsem) kt) Q) := by
  subst hd; subst hsrc; subst hdst; subst hsS; subst hsR
  unfold ow oland
  iintro ⟨#Hc, ⟨%W, HO⟩, Hs, ⟨Hd, #Hr⟩, Ht, Ht'⟩ Hk
  iapply (wp_sendO 𝒱₀ (c : Thread nD τ) none ER (Rd I) (c' := (oto c j : Thread nD τ)) (src := omS j) (dst := orS (jrev j))
      (sS := .dma (dsem (os j))) (sem := .dma (dsem (ro (jrev j)))) (q := fullShare) (X := vrem I c j) (κ₁ := K (dC c (os j))) (κ₂ := K (dC (oto c j) (ro (jrev j))))
      (r₁ := 0) (r₂ := 0) (d₁ := 0) (d₂ := 0)
      (by rw [duties_d]; exact Finset.mem_singleton_self _) (by rw [duties_d]; exact Finset.mem_singleton_self _)
      () () No rfl (amount_d I c (os j) 0) (amount_d I (oto c j) (ro (jrev j)) 0) O rfl (W := W)
      (by rw [payload_d]; exact BI.Entails.refl _)
      (by rw [payload_d]; show _ ⊢ owns _ _ _ (vrec I (oto c j) (jrev j)); unfold vrec; rw [oto_oto, jrev_jrev])) $$ [HO Hs Hd Ht Ht']
  · isplitr; · iapply (ctx_inv I K c c (os j)); iexact Hc
    isplitr; · iapply (ctx_inv I K c (oto c j) (ro (jrev j))); iexact Hc
    isplitl [Hs]; · iexact Hs
    isplitl [Hd]; · iexact Hd
    isplitl [HO]; · iexact HO
    isplitl [Ht]; · iexact Ht
    isplitr; · iapply (ctx_reached I K c (os j)); iexact Hc
    isplitl [Ht']; · iexact Ht'
    iexact Hr
  iintro ⟨Hcr, HO⟩
  iapply Hk
  isplitl [HO]; · iexists _; iexact HO
  iexact Hcr

/-- The copy of a weight block into its scratch buffer. -/
theorem step_wcopy (k : Fin 2) {src : Memref sig .tc .hbm S1024x1024 .f32} {dst : Memref sig .tc .vmem S1024x1024 .f32}
    {X : S1024x1024.Idx → Elt F .f32} (hpay : iprop(owns (c : Thread nD τ) dst fullShare X ∗ owns (c : Thread nD τ) src fullShare X) ⊢ pay I c (wr k))
    {s : DmaSem sig} (hs : s = dsem (wr k))
    {h₁ : src.view.WordExact} {h₂ : dst.view.WordExact} {hsem : DmaTarget.Typed (nD := nD) (p := (c : Thread nD τ).2) .hbm (.dma s) (.here dst)}
    {kt : PUnit → Prog (TpuEff nD τ sig (Elt F) Λ₀ .tc) α} :
    iprop(ctx I K c ∗ owns (c : Thread nD τ) src fullShare X ∗ anyAt (c : Thread nD τ) dst ∗ dutyTok ER (dC c (wr k)) 0 0)
      ⊢ iprop((cred (tallyAt (dC c (wr k)) () (amt (wr k))) -∗ wp frame (wpE (defs₀ (F := F)) 𝒱₀ (c : Thread nD τ) none) Set.univ (kt ⟨⟩) Q)
        -∗ wp frame (wpE (defs₀ (F := F)) 𝒱₀ (c : Thread nD τ) none) Set.univ
            (.op (.enqueueDma src (.here dst) (.dma s) h₁ h₂ hsem) kt) Q) := by
  subst hs
  iintro ⟨#Hc, Hs, Hd, Ht⟩ Hk
  iapply (wp_copyO 𝒱₀ (c : Thread nD τ) none ER (Rd I) (src := src) (dst := dst) (sem := .dma (dsem (wr k))) (q := fullShare) (X := X)
      (r := 0) (d := 0) (κ := K (dC c (wr k))) (by rw [duties_d]; exact Finset.mem_singleton_self _) () (amt (wr k)) rfl (amount_d I c (wr k) 0)
      (by rw [payload_d]; exact hpay)) $$ [Hs Hd Ht]
  · isplitr; · iapply (ctx_inv I K c c (wr k)); iexact Hc
    isplitl [Hs]; · iexact Hs
    isplitl [Hd]; · iexact Hd
    isplitl [Ht]; · iexact Ht
    iapply (ctx_reached I K c (wr k)); iexact Hc
  iexact Hk

end Steps

end Cert.KernelIdeal.Attn
-- ==== Proof.KernelIdeal.Facts.lean ====
/-
  Where the kernel's conditions hold, what its offsets, devices and semaphores are.
-/
module

public import proofs.«01_k».proof.Proof.Gen.KernelIdeal
public import proofs.«01_k».proof.Proof.Gen.KernelIdeal.Skeleton
public import proofs.«01_k».proof.Proof.KernelIdeal.Steps
public import Idealize.ShloMosaic.Lib.Pipeline.Regions
public import Idealize.ShloMosaic.Lib.Pipeline.Kit
public import Idealize.ShloMosaic.Lib.Rounds
public import Idealize.ShloMosaic.Lib.Memref
public import Idealize.ShloMosaic.Lib.MemrefSat
public import Idealize.ShloMosaic.Lib.Tactic

@[expose] public section

set_option synthInstance.maxSize 4096

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Attn
open Facts₀ Facts

variable {F : FTy → Type} [FloatOps F]

/-- The first condition: the very first point. -/
theorem cond1_iff : ∀ i : grid0.Coords, k0_cond1 i = 1#1 ↔ (i 0).val = 0 ∧ (i 1).val = 0 := by decide
/-- The second condition: the first block of a later step. -/
theorem cond2_iff : ∀ i : grid0.Coords, k0_cond2 i = 1#1 ↔ 1 ≤ (i 0).val ∧ (i 1).val = 0 := by decide
/-- The third condition: the first block of a step. -/
theorem cond3_iff : ∀ i : grid0.Coords, k0_cond3 i = 1#1 ↔ (i 1).val = 0 := by decide
/-- The fourth condition: the step that serves the own batch. -/
theorem cond4_iff : ∀ i : grid0.Coords, k0_cond4 i = 1#1 ↔ (i 0).val = 0 := by decide
/-- The fifth condition: a step that serves another batch. -/
theorem cond5_iff : ∀ i : grid0.Coords, k0_cond5 i = 1#1 ↔ 1 ≤ (i 0).val := by decide
/-- The sixth condition: the last point. -/
theorem cond6_iff : ∀ i : grid0.Coords, k0_cond6 i = 1#1 ↔ (i 0).val = 3 ∧ (i 1).val = 3 := by decide

/-- Which activations' semaphore a later step waits on. -/
theorem off1_at : ∀ i : grid0.Coords, 1 ≤ (i 0).val → k0_off1 i = ![(i 0).val - 1] := by decide
/-- Where a partial output is stored in the send buffer. -/
theorem off6_at : ∀ i : grid0.Coords, 1 ≤ (i 0).val → k0_off6 i = ![(i 0).val - 1, 64 * (i 1).val, 0] := by decide
/-- The send semaphore of a partial output. -/
theorem off7_at : ∀ i : grid0.Coords, 1 ≤ (i 0).val → k0_off7 i = ![((i 0).val - 1) * 4 + (i 1).val] := by decide
/-- The receive semaphore of a partial output, on its receiver. -/
theorem off8_at : ∀ i : grid0.Coords, 1 ≤ (i 0).val → k0_off8 i = ![(3 - (i 0).val) * 4 + (i 1).val] := by decide
/-- Which block of the send buffer is sent. -/
theorem off10_at : ∀ i : grid0.Coords, 1 ≤ (i 0).val → k0_off10 i = ![(i 0).val - 1, 64 * (i 1).val, 0] := by decide

/-- The first device the barrier signals. -/
theorem dev1_at : ∀ c : Dev nD, k0_dev1 (BitVec.ofNat 32 c.val) = (xto c 0).val := by decide
/-- The second device the barrier signals. -/
theorem dev2_at : ∀ c : Dev nD, k0_dev2 (BitVec.ofNat 32 c.val) = (xto c 1).val := by decide
/-- The third device the barrier signals. -/
theorem dev3_at : ∀ c : Dev nD, k0_dev3 (BitVec.ofNat 32 c.val) = (xto c 2).val := by decide
/-- The device the first send of activations goes to. -/
theorem dev4_at : ∀ c : Dev nD, k0_dev4 (BitVec.ofNat 32 c.val) = (xto c 2).val := by decide
/-- The device the second send of activations goes to. -/
theorem dev5_at : ∀ c : Dev nD, k0_dev5 (BitVec.ofNat 32 c.val) = (xto c 1).val := by decide
/-- The device the third send of activations goes to. -/
theorem dev6_at : ∀ c : Dev nD, k0_dev6 (BitVec.ofNat 32 c.val) = (xto c 0).val := by decide
/-- The device a partial output goes to. -/
theorem dev7_at : ∀ (c : Dev nD) (i : grid0.Coords), k0_dev7 i (BitVec.ofNat 32 c.val) = (nb c (i 0).val).val := by decide
/-- The assumed side condition holds at every point. -/
theorem chk_at : ∀ (c : Dev nD) (i : grid0.Coords), k0_chk1 i (BitVec.ofNat 32 c.val) := by decide

/-- The send semaphore of activations, by number. -/
theorem sem_xs {off : Fin 1 → ℕ} (k : Fin 3) (ho : off = ![k.val]) (h) (hq) : ((cc0_scratch6.slice (Rect.unit (s := S3) off S1.size h)).squeeze S_ hq).sem = dsem (xs k) := by
  subst ho
  match k with
  | 0 => exact (rfl : ((cc0_scratch6.slice (Rect.unit (s := S3) ![0] S1.size Gen.inb_S3_S1_0)).squeeze S_ Gen.squeezes_S1_S_).sem = dsem (xs 0))
  | 1 => exact (rfl : ((cc0_scratch6.slice (Rect.unit (s := S3) ![1] S1.size Gen.inb_S3_S1_1)).squeeze S_ Gen.squeezes_S1_S_).sem = dsem (xs 1))
  | 2 => exact (rfl : ((cc0_scratch6.slice (Rect.unit (s := S3) ![2] S1.size Gen.inb_S3_S1_2)).squeeze S_ Gen.squeezes_S1_S_).sem = dsem (xs 2))
/-- The receive semaphore of activations, by number. -/
theorem sem_xr {off : Fin 1 → ℕ} (k : Fin 3) (ho : off = ![k.val]) (h) (hq) : ((cc0_scratch7.slice (Rect.unit (s := S3) off S1.size h)).squeeze S_ hq).sem = dsem (xr k) := by
  subst ho
  match k with
  | 0 => exact (rfl : ((cc0_scratch7.slice (Rect.unit (s := S3) ![0] S1.size Gen.inb_S3_S1_0)).squeeze S_ Gen.squeezes_S1_S_).sem = dsem (xr 0))
  | 1 => exact (rfl : ((cc0_scratch7.slice (Rect.unit (s := S3) ![1] S1.size Gen.inb_S3_S1_1)).squeeze S_ Gen.squeezes_S1_S_).sem = dsem (xr 1))
  | 2 => exact (rfl : ((cc0_scratch7.slice (Rect.unit (s := S3) ![2] S1.size Gen.inb_S3_S1_2)).squeeze S_ Gen.squeezes_S1_S_).sem = dsem (xr 2))
/-- The send semaphore of a partial output, by number. -/
theorem sem_os {off : Fin 1 → ℕ} (k : Fin 12) (ho : off = ![k.val]) (h) (hq) : ((cc0_scratch8.slice (Rect.unit (s := S12) off S1.size h)).squeeze S_ hq).sem = dsem (os k) := by
  subst ho
  match k with
  | 0 => exact (rfl : ((cc0_scratch8.slice (Rect.unit (s := S12) ![0] S1.size Gen.inb_S12_S1_0)).squeeze S_ Gen.squeezes_S1_S_).sem = dsem (os 0))
  | 1 => exact (rfl : ((cc0_scratch8.slice (Rect.unit (s := S12) ![1] S1.size Gen.inb_S12_S1_1)).squeeze S_ Gen.squeezes_S1_S_).sem = dsem (os 1))
  | 2 => exact (rfl : ((cc0_scratch8.slice (Rect.unit (s := S12) ![2] S1.size Gen.inb_S12_S1_2)).squeeze S_ Gen.squeezes_S1_S_).sem = dsem (os 2))
  | 3 => exact (rfl : ((cc0_scratch8.slice (Rect.unit (s := S12) ![3] S1.size Gen.inb_S12_S1_3)).squeeze S_ Gen.squeezes_S1_S_).sem = dsem (os 3))
  | 4 => exact (rfl : ((cc0_scratch8.slice (Rect.unit (s := S12) ![4] S1.size Gen.inb_S12_S1_4)).squeeze S_ Gen.squeezes_S1_S_).sem = dsem (os 4))
  | 5 => exact (rfl : ((cc0_scratch8.slice (Rect.unit (s := S12) ![5] S1.size Gen.inb_S12_S1_5)).squeeze S_ Gen.squeezes_S1_S_).sem = dsem (os 5))
  | 6 => exact (rfl : ((cc0_scratch8.slice (Rect.unit (s := S12) ![6] S1.size Gen.inb_S12_S1_6)).squeeze S_ Gen.squeezes_S1_S_).sem = dsem (os 6))
  | 7 => exact (rfl : ((cc0_scratch8.slice (Rect.unit (s := S12) ![7] S1.size Gen.inb_S12_S1_7)).squeeze S_ Gen.squeezes_S1_S_).sem = dsem (os 7))
  | 8 => exact (rfl : ((cc0_scratch8.slice (Rect.unit (s := S12) ![8] S1.size Gen.inb_S12_S1_8)).squeeze S_ Gen.squeezes_S1_S_).sem = dsem (os 8))
  | 9 => exact (rfl : ((cc0_scratch8.slice (Rect.unit (s := S12) ![9] S1.size Gen.inb_S12_S1_9)).squeeze S_ Gen.squeezes_S1_S_).sem = dsem (os 9))
  | 10 => exact (rfl : ((cc0_scratch8.slice (Rect.unit (s := S12) ![10] S1.size Gen.inb_S12_S1_10)).squeeze S_ Gen.squeezes_S1_S_).sem = dsem (os 10))
  | 11 => exact (rfl : ((cc0_scratch8.slice (Rect.unit (s := S12) ![11] S1.size Gen.inb_S12_S1_11)).squeeze S_ Gen.squeezes_S1_S_).sem = dsem (os 11))
/-- The receive semaphore of a partial output, by number. -/
theorem sem_ro {off : Fin 1 → ℕ} (k : Fin 12) (ho : off = ![k.val]) (h) (hq) : ((cc0_scratch9.slice (Rect.unit (s := S12) off S1.size h)).squeeze S_ hq).sem = dsem (ro k) := by
  subst ho
  match k with
  | 0 => exact (rfl : ((cc0_scratch9.slice (Rect.unit (s := S12) ![0] S1.size Gen.inb_S12_S1_0)).squeeze S_ Gen.squeezes_S1_S_).sem = dsem (ro 0))
  | 1 => exact (rfl : ((cc0_scratch9.slice (Rect.unit (s := S12) ![1] S1.size Gen.inb_S12_S1_1)).squeeze S_ Gen.squeezes_S1_S_).sem = dsem (ro 1))
  | 2 => exact (rfl : ((cc0_scratch9.slice (Rect.unit (s := S12) ![2] S1.size Gen.inb_S12_S1_2)).squeeze S_ Gen.squeezes_S1_S_).sem = dsem (ro 2))
  | 3 => exact (rfl : ((cc0_scratch9.slice (Rect.unit (s := S12) ![3] S1.size Gen.inb_S12_S1_3)).squeeze S_ Gen.squeezes_S1_S_).sem = dsem (ro 3))
  | 4 => exact (rfl : ((cc0_scratch9.slice (Rect.unit (s := S12) ![4] S1.size Gen.inb_S12_S1_4)).squeeze S_ Gen.squeezes_S1_S_).sem = dsem (ro 4))
  | 5 => exact (rfl : ((cc0_scratch9.slice (Rect.unit (s := S12) ![5] S1.size Gen.inb_S12_S1_5)).squeeze S_ Gen.squeezes_S1_S_).sem = dsem (ro 5))
  | 6 => exact (rfl : ((cc0_scratch9.slice (Rect.unit (s := S12) ![6] S1.size Gen.inb_S12_S1_6)).squeeze S_ Gen.squeezes_S1_S_).sem = dsem (ro 6))
  | 7 => exact (rfl : ((cc0_scratch9.slice (Rect.unit (s := S12) ![7] S1.size Gen.inb_S12_S1_7)).squeeze S_ Gen.squeezes_S1_S_).sem = dsem (ro 7))
  | 8 => exact (rfl : ((cc0_scratch9.slice (Rect.unit (s := S12) ![8] S1.size Gen.inb_S12_S1_8)).squeeze S_ Gen.squeezes_S1_S_).sem = dsem (ro 8))
  | 9 => exact (rfl : ((cc0_scratch9.slice (Rect.unit (s := S12) ![9] S1.size Gen.inb_S12_S1_9)).squeeze S_ Gen.squeezes_S1_S_).sem = dsem (ro 9))
  | 10 => exact (rfl : ((cc0_scratch9.slice (Rect.unit (s := S12) ![10] S1.size Gen.inb_S12_S1_10)).squeeze S_ Gen.squeezes_S1_S_).sem = dsem (ro 10))
  | 11 => exact (rfl : ((cc0_scratch9.slice (Rect.unit (s := S12) ![11] S1.size Gen.inb_S12_S1_11)).squeeze S_ Gen.squeezes_S1_S_).sem = dsem (ro 11))
/-- The semaphore of a weight's copy, by number. -/
theorem sem_wr {off : Fin 1 → ℕ} (k : Fin 2) (ho : off = ![k.val]) (h) (hq) : ((cc0_scratch10.slice (Rect.unit (s := S2) off S1.size h)).squeeze S_ hq).sem = dsem (wr k) := by
  subst ho
  match k with
  | 0 => exact (rfl : ((cc0_scratch10.slice (Rect.unit (s := S2) ![0] S1.size Gen.inb_S2_S1_0)).squeeze S_ Gen.squeezes_S1_S_).sem = dsem (wr 0))
  | 1 => exact (rfl : ((cc0_scratch10.slice (Rect.unit (s := S2) ![1] S1.size Gen.inb_S2_S1_1)).squeeze S_ Gen.squeezes_S1_S_).sem = dsem (wr 1))

/-- A slice at a place's offset is that place's slot of the gathered activations. -/
theorem xgS_eq {off : Fin 3 → ℕ} (k : Fin 4) (ho : off = ![k.val, 0, 0]) (h) (h') : xgM.slice (Rect.unit (s := S4x256x1024) off S1x256x1024.size h) h' = xgS k := by
  subst ho; rfl
/-- A slice at a block's offset is that block's slot of the send buffer. -/
theorem omS_eq {off : Fin 3 → ℕ} (j : Fin 12) (ho : off = ![j.val / 4, 64 * (j.val % 4), 0]) (h) (h') : omM.slice (Rect.unit (s := S3x256x1024) off S1x64x1024.size h) h' = omS j := by
  subst ho; rfl
/-- A slice at a block's offset is that block's slot of the receive buffer. -/
theorem orS_eq {off : Fin 3 → ℕ} (j : Fin 12) (ho : off = ![j.val / 4, 64 * (j.val % 4), 0]) (h) (h') : orM.slice (Rect.unit (s := S3x256x1024) off S1x64x1024.size h) h' = orS j := by
  subst ho; rfl

end Cert.KernelIdeal.Attn
-- ==== Proof.KernelIdeal.State.lean ====
/-
  What a device holds between grid points, and a step of each family of semaphores.
-/
module

public import proofs.«01_k».proof.Proof.Gen.KernelIdeal
public import proofs.«01_k».proof.Proof.Gen.KernelIdeal.Skeleton
public import proofs.«01_k».proof.Proof.KernelIdeal.Facts
public import Idealize.ShloMosaic.Lib.Pipeline.Regions
public import Idealize.ShloMosaic.Lib.Pipeline.Kit
public import Idealize.ShloMosaic.Lib.Rounds
public import Idealize.ShloMosaic.Lib.Memref
public import Idealize.ShloMosaic.Lib.MemrefSat
public import Idealize.ShloMosaic.Lib.Tactic

@[expose] public section

set_option synthInstance.maxSize 4096

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Attn
open Facts₀ Facts

variable {F : FTy → Type} [FloatOps F]

local notation "𝕄" => MT nD τ sig Unit (Elt F) ℕ UU ℕ

section State

variable (I : In F) (K : GSem nD τ sig → ℕ) (c : Dev nD)

/-- Still to be waited for. -/
def pend (r : Role) : sProp 𝕄 := iprop(cred (tallyAt (dC c r) () (amt r)) ∗ atPos ER (dC c r) 0 ∅ 0)
/-- Waited for: what it brought. -/
def got (r : Role) : sProp 𝕄 := iprop(atPos ER (dC c r) 1 ∅ 0 ∗ pay I c r)
/-- A family of semaphores, the first `m` waited for. -/
def fam {n : ℕ} (f : Fin n → Role) (m : ℕ) : sProp 𝕄 :=
  bigSep Finset.univ fun j : Fin n => if j.val < m then got I c (f j) else pend c (f j)

/-- Partial output `j` not yet sent. -/
def unsent (j : Fin 12) : sProp 𝕄 :=
  iprop(dutyTok ER (dC c (os j)) 0 0 ∗ dutyTok ER (dC (oto c j) (ro (jrev j))) 0 0 ∗ oland c j ∗ anyAt (c : Thread nD τ) (omS j)
    ∗ atPos ER (dC c (os j)) 0 ∅ 0)
/-- The partial outputs, the first `m` sent. -/
def gam (m : ℕ) : sProp 𝕄 :=
  bigSep Finset.univ fun j : Fin 12 => if j.val < m then pend c (os j) else unsent c j

/-- What stays the same from the first point on. -/
def stC : sProp 𝕄 :=
  iprop(owns (c : Thread nD τ) wqM fullShare (I.wq c) ∗ owns (c : Thread nD τ) woM fullShare (I.wo c)
    ∗ owns (c : Thread nD τ) wqH fullShare (I.wq c) ∗ owns (c : Thread nD τ) woH fullShare (I.wo c)
    ∗ owns (c : Thread nD τ) (xgS 0) fullShare.left (xb I c)
    ∗ atPos ER (bC c) 1 ∅ 0 ∗ (bigSep Finset.univ fun k : Fin 2 => atPos ER (dC c (wr k)) 1 ∅ 0)
    ∗ fam I c xs 0 ∗ fam I c ro 0)

/-- What a device starts from. -/
def start : sProp 𝕄 :=
  iprop(anyAt (c : Thread nD τ) wqM ∗ anyAt (c : Thread nD τ) woM
    ∗ owns (c : Thread nD τ) wqH fullShare (I.wq c) ∗ owns (c : Thread nD τ) woH fullShare (I.wo c)
    ∗ (bigSep Finset.univ fun k : Fin 4 => anyAt (c : Thread nD τ) (xgS k))
    ∗ (bigSep Finset.univ fun j : Fin 12 => anyAt (c : Thread nD τ) (omS j))
    ∗ (bigSep Finset.univ fun j : Fin 12 => anyAt (c : Thread nD τ) (orS j))
    ∗ cred (tallyAt (bC c) () 3) ∗ atPos ER (bC c) 0 ∅ 0
    ∗ (bigSep Finset.univ fun k : Fin 3 => dutyTok ER (bC (xto c k)) 0 k.rev)
    ∗ (bigSep Finset.univ fun k : Fin 3 => iprop(dutyTok ER (dC c (xs k)) 0 0 ∗ dutyTok ER (dC (xto c k) (xr k.rev)) 0 0 ∗ atPos ER (dC c (xs k)) 0 ∅ 0))
    ∗ fam I c xr 0 ∗ fam I c ro 0
    ∗ (bigSep Finset.univ fun j : Fin 12 => iprop(dutyTok ER (dC c (os j)) 0 0 ∗ dutyTok ER (dC (oto c j) (ro (jrev j))) 0 0 ∗ atPos ER (dC c (os j)) 0 ∅ 0))
    ∗ (bigSep Finset.univ fun k : Fin 2 => iprop(dutyTok ER (dC c (wr k)) 0 0 ∗ atPos ER (dC c (wr k)) 0 ∅ 0)))

variable {α : Type} {Q : α → sProp (MT nD τ sig Unit (Elt F) ℕ UU ℕ)}

/-- One member of a family that is split at `m` taken out, and put back changed: the family is split at `m + 1`. -/
theorem split_step {n : ℕ} (A B : Fin n → sProp 𝕄) (j : Fin n) :
    (bigSep Finset.univ fun i : Fin n => if i.val < j.val then A i else B i) = iprop(B j ∗ bigSep (Finset.univ.erase j) fun i : Fin n => if i.val < j.val then A i else B i)
    ∧ (bigSep Finset.univ fun i : Fin n => if i.val < j.val + 1 then A i else B i) = iprop(A j ∗ bigSep (Finset.univ.erase j) fun i : Fin n => if i.val < j.val then A i else B i) := by
  refine ⟨?_, ?_⟩
  · rw [bigSep_erase (Finset.mem_univ j), if_neg (Nat.lt_irrefl _)]; rfl
  · rw [bigSep_erase (Finset.mem_univ j), if_pos (Nat.lt_succ_self _)]
    congr 1
    refine bigSep_congr fun i hi => ?_
    have : i.val ≠ j.val := fun h => (Finset.mem_erase.mp hi).1 (Fin.ext h)
    by_cases h : i.val < j.val
    · rw [if_pos h, if_pos (by omega)]
    · rw [if_neg h, if_neg (by omega)]

/-- The next wait of a family. -/
theorem step_fam {n : ℕ} (f : Fin n → Role) (j : Fin n) {s : DmaSem sig} (hs : s = dsem (f j)) {O : CellTallies nD τ sig Unit} (hO : Above (lvR (f j)) O)
    {sp sp' : Space} {sh : Shape} {e : EltTy} {src : Memref sig .tc sp sh e} {dst : Memref sig .tc sp' sh e}
    (hN : dst.view.dmaCredit = amt (f j)) {h₁ : src.view.WordExact} {h₂ : dst.view.WordExact}
    {k : PUnit → Prog (TpuEff nD τ sig (Elt F) Λ₀ .tc) α} :
    iprop(ctx I K c ∗ ow c O ∗ fam I c f j.val)
      ⊢ iprop((ow c O ∗ fam I c f (j.val + 1) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 s src dst h₁ h₂) k) Q) := by
  unfold fam
  rw [(split_step (fun j => got I c (f j)) (fun j => pend c (f j)) j).1, (split_step (fun j => got I c (f j)) (fun j => pend c (f j)) j).2]
  unfold got pend
  iintro ⟨#Hc, HO, ⟨Hcr, Hat⟩, Hrest⟩ Hk
  iapply (step_wait I K c (f j) hs hO hN) $$ [HO Hcr Hat]
  · isplitr; · iexact Hc
    isplitl [HO]; · iexact HO
    isplitl [Hcr] <;> iassumption
  iintro ⟨HO, Hat, Hp⟩
  iapply Hk
  isplitl [HO]; · iexact HO
  isplitr [Hrest]
  · isplitl [Hat] <;> iassumption
  iexact Hrest

/-- The next partial output stored and sent. -/
theorem step_gam (j : Fin 12) {d : Dev nD} (hd : d = oto c j) {m : Memref sig .tc .vmem S3x256x1024 .bf16} (hm : m = omM) {dst : Memref sig .tc .vmem S1x64x1024 .bf16}
    {off off' : Fin 3 → ℕ} (ho : off = ![j.val / 4, 64 * (j.val % 4), 0]) (ho' : off' = ![j.val / 4, 64 * (j.val % 4), 0]) {hin hin'} {hu}
    (hdst : dst = orS (jrev j)) {sS sR : DmaSem sig} (hsS : sS = dsem (os j)) (hsR : sR = dsem (ro (jrev j)))
    {hl} {hx} {hmm} {w : S1x64x1024.Idx → Elt F .bf16} (hw : w = vrem I c j)
    {h₁} {h₂ : dst.view.WordExact} {hsc : dst.view.ref.isScScratch = false}
    {hsem : DmaTarget.Typed .vmem (.dma sR) (.remote (d : Thread nD τ) dst (.dma sS) hsc)}
    {kt : PUnit → Prog (TpuEff nD τ sig (Elt F) Λ₀ .tc) α} :
    iprop(ctx I K c ∗ ow c (od c (j.val + 4)) ∗ gam c j.val)
      ⊢ iprop((ow c (od c (j.val + 4 + 1)) ∗ gam c (j.val + 1) -∗ wp frame (wpE (defs₀ (F := F)) 𝒱₀ (c : Thread nD τ) none) Set.univ (kt ⟨⟩) Q)
        -∗ wp frame (wpE (defs₀ (F := F)) 𝒱₀ (c : Thread nD τ) none) Set.univ
            (.op (.load m (Rect.unit (s := S3x256x1024) off S1x64x1024.size hin).toLoadRect hl) fun _ =>
             .op (.store m (Rect.unit (s := S3x256x1024) off S1x64x1024.size hin) w Finset.univ hx hmm) fun _ =>
             .op (.enqueueDma (m.slice (Rect.unit (s := S3x256x1024) off' S1x64x1024.size hin') hu) (.remote (d : Thread nD τ) dst (.dma sS) hsc) (.dma sR) h₁ h₂ hsem) kt) Q) := by
  subst hm; subst ho; subst ho'; subst hw
  unfold gam
  rw [(split_step (fun j => pend c (os j)) (fun j => unsent c j) j).1, (split_step (fun j => pend c (os j)) (fun j => unsent c j) j).2]
  unfold unsent pend anyAt
  rw [od_step]
  iintro ⟨#Hc, HO, ⟨Ht, Ht', Hl, ⟨%X, Hm⟩, Hat⟩, Hrest⟩ Hk
  iapply (wp_loadS 𝒱₀ (c : Thread nD τ) none (m := omM) (r := oR j) (fun _ => rfl)) $$ Hm
  iintro Hm
  iapply (wp_storeS 𝒱₀ (c : Thread nD τ) none (m := omM) (r := oR j) (fun _ => rfl)) $$ Hm
  iintro Hm
  iapply (step_osend I K c j hd (src := omS j) rfl hdst hsS hsR) $$ [HO Hm Hl Ht Ht']
  · isplitr; · iexact Hc
    isplitl [HO]; · iexact HO
    isplitl [Hm]; · iexact Hm
    isplitl [Hl]; · iexact Hl
    isplitl [Ht] <;> iassumption
  iintro ⟨HO, Hcr⟩
  iapply Hk
  isplitl [HO]; · iexact HO
  isplitr [Hrest]
  · isplitl [Hcr] <;> iassumption
  iexact Hrest

end State

end Cert.KernelIdeal.Attn
-- ==== Proof.KernelIdeal.Slots.lean ====
/-
  Whole buffers and their slots: taking a buffer apart, and putting it together.
-/
module

public import proofs.«01_k».proof.Proof.Gen.KernelIdeal
public import proofs.«01_k».proof.Proof.Gen.KernelIdeal.Skeleton
public import proofs.«01_k».proof.Proof.KernelIdeal.State
public import Idealize.ShloMosaic.Lib.Pipeline.Regions
public import Idealize.ShloMosaic.Lib.Pipeline.Kit
public import Idealize.ShloMosaic.Lib.Rounds
public import Idealize.ShloMosaic.Lib.Memref
public import Idealize.ShloMosaic.Lib.MemrefSat
public import Idealize.ShloMosaic.Lib.Tactic

@[expose] public section

set_option synthInstance.maxSize 4096

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Attn
open Facts₀ Facts

variable {F : FTy → Type} [FloatOps F] [∀ e, Nonempty (Elt F e)]

local notation "𝕄" => MT nD τ sig Unit (Elt F) ℕ UU ℕ

/-- The slots of the gathered activations do not meet. -/
theorem xgR_disj (t t' : Fin 4) (h : t ≠ t') : Disjoint (xgR t).set (xgR t').set := by
  rw [Finset.disjoint_left]
  intro x hx hx'
  have h1 := Rect.mem_set_unit.mp hx 0
  have h2 := Rect.mem_set_unit.mp hx' 0
  have h1' : t.val ≤ (x 0).val ∧ (x 0).val < t.val + 1 := h1
  have h2' : t'.val ≤ (x 0).val ∧ (x 0).val < t'.val + 1 := h2
  exact h (Fin.ext (by omega))

/-- The slots make up the gathered activations. -/
theorem xgR_cov : (Finset.univ : Finset (Fin 4)).biUnion (fun t => (xgR t).set) = Finset.univ := by
  refine Finset.eq_univ_iff_forall.mpr fun x => Finset.mem_biUnion.mpr ⟨⟨(x 0).val, (x 0).isLt⟩, Finset.mem_univ _, ?_⟩
  refine Rect.mem_set_unit.mpr fun a => ?_
  match a with
  | 0 => show (x 0).val ≤ (x 0).val ∧ (x 0).val < (x 0).val + 1; omega
  | 1 => have := (x 1).isLt; show 0 ≤ (x 1).val ∧ (x 1).val < 0 + 256; exact ⟨Nat.zero_le _, by rw [Nat.zero_add]; exact this⟩
  | 2 => have := (x 2).isLt; show 0 ≤ (x 2).val ∧ (x 2).val < 0 + 1024; exact ⟨Nat.zero_le _, by rw [Nat.zero_add]; exact this⟩

/-- The twelve blocks of partial outputs do not meet. -/
theorem oR_disj (t t' : Fin 12) (h : t ≠ t') : Disjoint (oR t).set (oR t').set := by
  rw [Finset.disjoint_left]
  intro x hx hx'
  have h1 : t.val / 4 ≤ (x 0).val ∧ (x 0).val < t.val / 4 + 1 := Rect.mem_set_unit.mp hx 0
  have h2 : t'.val / 4 ≤ (x 0).val ∧ (x 0).val < t'.val / 4 + 1 := Rect.mem_set_unit.mp hx' 0
  have h3 : 64 * (t.val % 4) ≤ (x 1).val ∧ (x 1).val < 64 * (t.val % 4) + 64 := Rect.mem_set_unit.mp hx 1
  have h4 : 64 * (t'.val % 4) ≤ (x 1).val ∧ (x 1).val < 64 * (t'.val % 4) + 64 := Rect.mem_set_unit.mp hx' 1
  exact h (Fin.ext (by omega))

/-- The twelve blocks make up the buffer. -/
theorem oR_cov : (Finset.univ : Finset (Fin 12)).biUnion (fun t => (oR t).set) = Finset.univ := by
  refine Finset.eq_univ_iff_forall.mpr fun x => ?_
  have h0 : (x 0).val < 3 := (x 0).isLt
  have h1 : (x 1).val < 256 := (x 1).isLt
  refine Finset.mem_biUnion.mpr ⟨⟨4 * (x 0).val + (x 1).val / 64, by omega⟩, Finset.mem_univ _, ?_⟩
  refine Rect.mem_set_unit.mpr fun a => ?_
  match a with
  | 0 => show (4 * (x 0).val + (x 1).val / 64) / 4 ≤ (x 0).val ∧ (x 0).val < (4 * (x 0).val + (x 1).val / 64) / 4 + 1; omega
  | 1 => show 64 * ((4 * (x 0).val + (x 1).val / 64) % 4) ≤ (x 1).val ∧ (x 1).val < 64 * ((4 * (x 0).val + (x 1).val / 64) % 4) + 64; omega
  | 2 => have := (x 2).isLt; show 0 ≤ (x 2).val ∧ (x 2).val < 0 + 1024; exact ⟨Nat.zero_le _, by rw [Nat.zero_add]; exact this⟩

section Generic

variable (c : Thread nD τ) {sp : Space} {sh : Shape} {e : EltTy} (m : Memref sig c.2.kind sp sh e)
variable {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)

include hd in
/-- Parts of a disjoint family have a common whole. -/
theorem glue (Y : (t : T) → (r t).shape.Idx → Elt F e) : ∃ X : sh.Idx → Elt F e, ∀ t j, X ((r t).emb j) = Y t j := by
  classical
  refine ⟨fun x => if h : ∃ p : Σ t, (r t).shape.Idx, (r p.1).emb p.2 = x then Y h.choose.1 h.choose.2 else Classical.arbitrary _, fun t j => ?_⟩
  have hex : ∃ p : Σ t, (r t).shape.Idx, (r p.1).emb p.2 = (r t).emb j := ⟨⟨t, j⟩, rfl⟩
  dsimp only
  rw [dif_pos hex]
  have hs := hex.choose_spec
  generalize hex.choose = p at hs ⊢
  obtain ⟨t', j'⟩ := p
  have ht : t' = t := by
    by_contra hne
    have h1 : (r t').emb j' ∈ (r t').set := by rw [← Rect.map_emb_univ]; exact Finset.mem_map_of_mem _ (Finset.mem_univ j')
    have h2 : (r t).emb j ∈ (r t).set := by rw [← Rect.map_emb_univ]; exact Finset.mem_map_of_mem _ (Finset.mem_univ j)
    rw [← show (r t').emb j' = (r t).emb j from hs] at h2
    exact Finset.disjoint_left.mp (hd t' t hne) h1 h2
  subst ht
  rw [(r t').emb.injective hs]

include hd hcov in
/-- The slots of a buffer at their contents are the buffer at some whole that agrees with each. -/
theorem owns_glue (q : PosShare TreeShare) (Y : (t : T) → (r t).shape.Idx → Elt F e) :
    (bigSep Finset.univ fun t => owns c (m.slice (r t) (hr t)) q (Y t) : sProp 𝕄)
      ⊢ iprop(∃ X : sh.Idx → Elt F e, ⌜∀ t j, X ((r t).emb j) = Y t j⌝ ∗ owns c m q X) := by
  obtain ⟨X, hX⟩ := glue (F := F) r hd Y
  iintro H
  iexists X
  isplitr; · ipureintro; exact hX
  iapply (owns_of_rects c m q r hr hd hcov X)
  rw [show (fun t => owns c (m.slice (r t) (hr t)) q (fun j => X ((r t).emb j))) = (fun t => (owns c (m.slice (r t) (hr t)) q (Y t) : sProp 𝕄)) from
    funext fun t => by rw [show (fun j => X ((r t).emb j)) = Y t from funext (hX t)]]
  iexact H

include hd hcov in
/-- A buffer is its slots. -/
theorem anyAt_split : (anyAt c m : sProp 𝕄) ⊢ bigSep Finset.univ fun t => anyAt c (m.slice (r t) (hr t)) := by
  unfold anyAt
  iintro ⟨%X, H⟩
  ihave H' := (owns_rects c m fullShare r hr hd hcov X) $$ H
  iapply (show (bigSep Finset.univ fun t => owns c (m.slice (r t) (hr t)) fullShare (fun j => X ((r t).emb j)) : sProp 𝕄)
    ⊢ bigSep Finset.univ fun t => iprop(∃ X, owns c (m.slice (r t) (hr t)) fullShare X) from
    bs_mono fun t => by iintro H; iexists _; iexact H)
  iexact H'

include hd hcov in
/-- The slots together are the buffer. -/
theorem anyAt_join : (bigSep Finset.univ fun t => anyAt c (m.slice (r t) (hr t)) : sProp 𝕄) ⊢ anyAt c m := by
  unfold anyAt
  iintro H
  haveI : ∀ t, Nonempty ((r t).shape.Idx → Elt F e) := fun t => ⟨fun _ => Classical.arbitrary _⟩
  ihave H' := (bigSep_exists_pi Finset.univ fun t (X : (r t).shape.Idx → Elt F e) => (owns c (m.slice (r t) (hr t)) fullShare X : sProp 𝕄)) $$ H
  icases H' with ⟨%Y, H⟩
  ihave H' := (owns_glue c m r hr hd hcov fullShare Y) $$ H
  icases H' with ⟨%X, -, H⟩
  iexists X; iexact H

end Generic

section Slots

variable (c : Dev nD)

/-- The gathered activations, slot by slot. -/
theorem xg_split : (anyAt (c : Thread nD τ) xgM : sProp 𝕄) ⊢ bigSep Finset.univ fun t => anyAt (c : Thread nD τ) (xgS t) :=
  anyAt_split (c : Thread nD τ) xgM xgR (fun _ _ => rfl) xgR_disj xgR_cov
/-- The slots, put together again. -/
theorem xg_join : (bigSep Finset.univ fun t => anyAt (c : Thread nD τ) (xgS t) : sProp 𝕄) ⊢ anyAt (c : Thread nD τ) xgM :=
  anyAt_join (c : Thread nD τ) xgM xgR (fun _ _ => rfl) xgR_disj xgR_cov
/-- The send buffer, block by block. -/
theorem om_split : (anyAt (c : Thread nD τ) omM : sProp 𝕄) ⊢ bigSep Finset.univ fun t => anyAt (c : Thread nD τ) (omS t) :=
  anyAt_split (c : Thread nD τ) omM oR (fun _ _ => rfl) oR_disj oR_cov
/-- The blocks of the send buffer, put together again. -/
theorem om_join : (bigSep Finset.univ fun t => anyAt (c : Thread nD τ) (omS t) : sProp 𝕄) ⊢ anyAt (c : Thread nD τ) omM :=
  anyAt_join (c : Thread nD τ) omM oR (fun _ _ => rfl) oR_disj oR_cov
/-- The receive buffer, block by block. -/
theorem or_split : (anyAt (c : Thread nD τ) orM : sProp 𝕄) ⊢ bigSep Finset.univ fun t => anyAt (c : Thread nD τ) (orS t) :=
  anyAt_split (c : Thread nD τ) orM oR (fun _ _ => rfl) oR_disj oR_cov

/-- The received partial outputs as one buffer. -/
theorem or_glue (Y : Fin 12 → S1x64x1024.Idx → Elt F .bf16) :
    (bigSep Finset.univ fun t => owns (c : Thread nD τ) (orS t) fullShare (Y t) : sProp 𝕄)
      ⊢ iprop(∃ X : S3x256x1024.Idx → Elt F .bf16, ⌜∀ t j, X ((oR t).emb j) = Y t j⌝ ∗ owns (c : Thread nD τ) orM fullShare X) :=
  owns_glue (c : Thread nD τ) orM oR (fun _ _ => rfl) oR_disj oR_cov fullShare Y

/-- The own activations shared among the keeper and the three sends. -/
theorem x0_split (X : S1x256x1024.Idx → Elt F .bf16) :
    (owns (c : Thread nD τ) (xgS 0) fullShare X : sProp 𝕄) ⊢ iprop(owns (c : Thread nD τ) (xgS 0) fullShare.left X
      ∗ owns (c : Thread nD τ) (xgS 0) (qx 0) X ∗ owns (c : Thread nD τ) (xgS 0) (qx 1) X ∗ owns (c : Thread nD τ) (xgS 0) (qx 2) X) := by
  iintro H
  ihave H1 := (owns_halves (c : Thread nD τ) (xgS 0) fullShare X).1 $$ H
  icases H1 with ⟨Ha, H⟩
  ihave H1 := (owns_halves (c : Thread nD τ) (xgS 0) fullShare.right X).1 $$ H
  icases H1 with ⟨Hb, H⟩
  ihave H1 := (owns_halves (c : Thread nD τ) (xgS 0) fullShare.right.right X).1 $$ H
  icases H1 with ⟨Hc, Hd⟩
  isplitl [Ha]; · iexact Ha
  isplitl [Hb]; · iexact Hb
  isplitl [Hc]; · iexact Hc
  iexact Hd

/-- The shares of the own activations that the sends took, put together again. -/
theorem x0_join (X : S1x256x1024.Idx → Elt F .bf16) :
    iprop(owns (c : Thread nD τ) (xgS 0) fullShare.left X ∗ owns (c : Thread nD τ) (xgS 0) (qx 0) X
      ∗ owns (c : Thread nD τ) (xgS 0) (qx 1) X ∗ owns (c : Thread nD τ) (xgS 0) (qx 2) X) ⊢ (owns (c : Thread nD τ) (xgS 0) fullShare X : sProp 𝕄) := by
  iintro ⟨Ha, Hb, Hc, Hd⟩
  iapply (owns_halves (c : Thread nD τ) (xgS 0) fullShare X).2
  isplitl [Ha]; · iexact Ha
  iapply (owns_halves (c : Thread nD τ) (xgS 0) fullShare.right X).2
  isplitl [Hb]; · iexact Hb
  iapply (owns_halves (c : Thread nD τ) (xgS 0) fullShare.right.right X).2
  isplitl [Hc]; · iexact Hc
  iexact Hd

/-- A family over the twelve partial outputs, by slot and block of rows. -/
theorem bs12 (Φ : Fin 12 → sProp 𝕄) : (bigSep Finset.univ fun k : Fin 3 => bigSep Finset.univ fun b : Fin 4 => Φ (e34 (k, b))) = bigSep Finset.univ Φ := by
  rw [bigSep_univ_equiv e34 Φ, bigSep_univ_prod]

end Slots

end Cert.KernelIdeal.Attn
-- ==== Proof.KernelIdeal.Bits.lean ====
/-
  Pieces the points share: loads of slots, the queries, the operands of a block.
-/
module

public import proofs.«01_k».proof.Proof.Gen.KernelIdeal
public import proofs.«01_k».proof.Proof.Gen.KernelIdeal.Skeleton
public import proofs.«01_k».proof.Proof.KernelIdeal.Slots
public import Idealize.ShloMosaic.Lib.Pipeline.Regions
public import Idealize.ShloMosaic.Lib.Pipeline.Kit
public import Idealize.ShloMosaic.Lib.Rounds
public import Idealize.ShloMosaic.Lib.Memref
public import Idealize.ShloMosaic.Lib.MemrefSat
public import Idealize.ShloMosaic.Lib.Tactic

@[expose] public section

set_option synthInstance.maxSize 4096

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Attn
open Facts₀ Facts

variable {F : FTy → Type} [FloatOps F]

local notation "𝕄" => MT nD τ sig Unit (Elt F) ℕ UU ℕ

/-- A family over two places, written out. -/
theorem bs2 (Φ : Fin 2 → sProp 𝕄) : bigSep Finset.univ Φ = iprop(Φ 0 ∗ Φ 1) := bigSep_univ_eq_bigSepL [0, 1] (by decide) (by decide) Φ
/-- A family over three places, written out. -/
theorem bs3 (Φ : Fin 3 → sProp 𝕄) : bigSep Finset.univ Φ = iprop(Φ 0 ∗ Φ 1 ∗ Φ 2) := bigSep_univ_eq_bigSepL [0, 1, 2] (by decide) (by decide) Φ
/-- A family over four places, written out. -/
theorem bs4 (Φ : Fin 4 → sProp 𝕄) : bigSep Finset.univ Φ = iprop(Φ 0 ∗ Φ 1 ∗ Φ 2 ∗ Φ 3) := bigSep_univ_eq_bigSepL [0, 1, 2, 3] (by decide) (by decide) Φ
/-- A family of pairs is a pair of families. -/
theorem bs_sep {T : Type} {S : Finset T} (Φ Ψ : T → sProp 𝕄) : (bigSep S fun t => iprop(Φ t ∗ Ψ t)) = iprop(bigSep S Φ ∗ bigSep S Ψ) := bigSep_sep _ _ _

/-- The table of the own device's number. -/
def tab (c : Dev nD) (q : PosShare TreeShare) : sProp 𝕄 :=
  owns (c : Thread nD τ) (Memref.whole main_v7) q (fun _ => (BitVec.ofNat 32 c.val : Elt F .i32))

section Bits

variable (I : In F) (K : GSem nD τ sig → ℕ) (c : Dev nD)
variable {α : Type} {Q : α → sProp (MT nD τ sig Unit (Elt F) ℕ UU ℕ)}

/-- The partial output for block `b` that the receiver of send `k` returns comes back here. -/
theorem oto_xto : ∀ (c : Dev nD) (k : Fin 3) (b : Fin 4), oto (xto c k) (e34 (k.rev, b)) = c := by decide
/-- The receiver's number of a partial output, by sender and block. -/
theorem jrev_e34 : ∀ (k : Fin 3) (b : Fin 4), jrev (e34 (k.rev, b)) = e34 (k, b) := by decide

/-- What signal `k` hands over, of the device's own slots. -/
theorem bar_give (k : Fin 3) : iprop(ctx I K c ∗ anyAt (c : Thread nD τ) (xgS k.succ) ∗ bigSep Finset.univ fun b : Fin 4 => anyAt (c : Thread nD τ) (orS (e34 (k, b))))
    ⊢ (barPay (xto c k) k.rev : sProp 𝕄) := by
  unfold barPay xland oland
  rw [xto_xto, Fin.rev_rev]
  simp only [jrev_e34]
  have h : ∀ b : Fin 4, (anyAt ((oto (xto c k) (e34 (k.rev, b)) : Dev nD) : Thread nD τ) (orS (e34 (k, b))) : sProp 𝕄) = anyAt (c : Thread nD τ) (orS (e34 (k, b))) :=
    fun b => by rw [oto_xto]
  simp only [h, oto_xto]
  rw [bs_sep]
  iintro ⟨#Hc, Hx, Ho⟩
  isplitl [Hx]
  · isplitl [Hx]; · iexact Hx
    iapply (ctx_reached I K c (xr k)); iexact Hc
  isplitl [Ho]; · iexact Ho
  rw [bs4]
  isplitr; · iapply (ctx_reached I K c (ro (e34 (k, 0)))); iexact Hc
  isplitr; · iapply (ctx_reached I K c (ro (e34 (k, 1)))); iexact Hc
  isplitr; · iapply (ctx_reached I K c (ro (e34 (k, 2)))); iexact Hc
  iapply (ctx_reached I K c (ro (e34 (k, 3)))); iexact Hc

/-- What the barrier brings. -/
theorem bar_take : (bigSep Finset.univ fun k : Fin 3 => (barPay c k : sProp 𝕄))
    ⊢ iprop(xland c 0 ∗ xland c 1 ∗ xland c 2 ∗ bigSep Finset.univ fun j : Fin 12 => oland c j) := by
  unfold barPay
  rw [bs_sep, bs12 (fun j => oland c j), bs3]
  iintro ⟨⟨H0, H1, H2⟩, H⟩
  isplitl [H0]; · iexact H0
  isplitl [H1]; · iexact H1
  isplitl [H2] <;> iassumption

/-- The partial outputs before any is sent. -/
theorem gam_intro : iprop((bigSep Finset.univ fun j : Fin 12 => iprop(dutyTok ER (dC c (os j)) 0 0 ∗ dutyTok ER (dC (oto c j) (ro (jrev j))) 0 0 ∗ atPos ER (dC c (os j)) 0 ∅ 0))
      ∗ (bigSep Finset.univ fun j : Fin 12 => oland c j) ∗ bigSep Finset.univ fun j : Fin 12 => anyAt (c : Thread nD τ) (omS j))
    ⊢ (gam c 0 : sProp 𝕄) := by
  rw [← bs_sep, ← bs_sep]
  unfold gam
  refine bs_mono fun j => ?_
  rw [if_neg (Nat.not_lt_zero _)]
  unfold unsent
  iintro ⟨⟨Ha, Hb, Hc⟩, Hd, He⟩
  isplitl [Ha]; · iexact Ha
  isplitl [Hb]; · iexact Hb
  isplitl [Hd]; · iexact Hd
  isplitl [He] <;> iassumption

/-- A family before any wait. -/
theorem fam_intro {n : ℕ} (f : Fin n → Role) : (bigSep Finset.univ fun j : Fin n => (pend c (f j) : sProp 𝕄)) ⊢ fam I c f 0 := by
  unfold fam
  refine bs_mono fun j => ?_
  rw [if_neg (Nat.not_lt_zero _)]

/-- What the last wait of a family brought, lent out. -/
theorem fam_take {n : ℕ} (f : Fin n → Role) (j : Fin n) : fam I c f (j.val + 1) ⊢ (iprop(pay I c (f j) ∗ (pay I c (f j) -∗ fam I c f (j.val + 1))) : sProp 𝕄) := by
  unfold fam
  rw [(split_step (fun j => got I c (f j)) (fun j => pend c (f j)) j).2]
  unfold got
  iintro ⟨⟨Ha, Hp⟩, Hr⟩
  isplitl [Hp]; · iexact Hp
  iintro Hp
  isplitr [Hr]; · isplitl [Ha] <;> iassumption
  iexact Hr

/-- The own activations stored in slot zero. -/
theorem step_xstore {i1 i2} {hl} {hx} {hm} {w : S1x256x1024.Idx → Elt F .bf16} {kt : PUnit → Prog (TpuEff nD τ sig (Elt F) Λ₀ .tc) α} :
    (anyAt (c : Thread nD τ) (xgS 0) : sProp 𝕄)
      ⊢ iprop((owns (c : Thread nD τ) (xgS 0) fullShare w -∗ wp frame (wpE (defs₀ (F := F)) 𝒱₀ (c : Thread nD τ) none) Set.univ (kt ⟨⟩) Q)
        -∗ wp frame (wpE (defs₀ (F := F)) 𝒱₀ (c : Thread nD τ) none) Set.univ
          (.op (.load xgM (Rect.unit (s := S4x256x1024) ![0, 0, 0] S1x256x1024.size i1).toLoadRect hl) fun _ =>
           .op (.store xgM (Rect.unit (s := S4x256x1024) ![0, 0, 0] S1x256x1024.size i2) w Finset.univ hx hm) kt) Q) := by
  unfold anyAt
  iintro ⟨%X, H⟩ Hk
  iapply (wp_loadS 𝒱₀ (c : Thread nD τ) none (m := xgM) (r := xgR 0) (fun _ => rfl)) $$ H
  iintro H
  iapply (wp_storeS 𝒱₀ (c : Thread nD τ) none (m := xgM) (r := xgR 0) (fun _ => rfl)) $$ H
  iintro H
  iapply Hk
  iexact H

/-- A check that holds. -/
theorem step_assume {P : Prop} (h : P) {d : Decidable P} {kt : PLift P → Prog (TpuEff nD τ sig (Elt F) Λ₀ .tc) α} :
    (wp frame (wpE (defs₀ (F := F)) 𝒱₀ (c : Thread nD τ) none) Set.univ (kt ⟨h⟩) Q : sProp 𝕄)
      ⊢ wp frame (wpE (defs₀ (F := F)) 𝒱₀ (c : Thread nD τ) none) Set.univ (.op (.assume P d) kt) Q :=
  wp_assume 𝒱₀ (c : Thread nD τ) none Set.univ h

/-- A load of a slot of the gathered activations. -/
theorem step_xload (k : Fin 4) {off : Fin 3 → ℕ} (ho : off = ![k.val, 0, 0]) {hin} {hl} {q : PosShare TreeShare} {X : S1x256x1024.Idx → Elt F .bf16}
    {kt : (S1x256x1024.Idx → Elt F .bf16) → Prog (TpuEff nD τ sig (Elt F) Λ₀ .tc) α} :
    (owns (c : Thread nD τ) (xgS k) q X : sProp 𝕄)
      ⊢ iprop((owns (c : Thread nD τ) (xgS k) q X -∗ wp frame (wpE (defs₀ (F := F)) 𝒱₀ (c : Thread nD τ) none) Set.univ (kt X) Q)
        -∗ wp frame (wpE (defs₀ (F := F)) 𝒱₀ (c : Thread nD τ) none) Set.univ (.op (.load xgM (Rect.unit (s := S4x256x1024) off S1x256x1024.size hin).toLoadRect hl) kt) Q) := by
  subst ho
  exact wp_loadS 𝒱₀ (c : Thread nD τ) none (m := xgM) (r := xgR k) (fun _ => rfl)

/-- A step's queries: the slot of gathered activations through the query weights. -/
theorem ph_q (k : Fin 4) {off : Fin 3 → ℕ} (ho : off = ![k.val, 0, 0]) {hin} {hl} {q : PosShare TreeShare} {X : S1x256x1024.Idx → Elt F .bf16} {Wq : S1024x1024.Idx → Elt F .f32}
    {i1} {l1} {i2} {l2} {x2} {m2} {kt : PUnit → Prog (TpuEff nD τ sig (Elt F) Λ₀ .tc) α} :
    iprop(owns (c : Thread nD τ) (xgS k) q X ∗ owns (c : Thread nD τ) wqM fullShare Wq ∗ anyAt (c : Thread nD τ) qM)
      ⊢ iprop((owns (c : Thread nD τ) (xgS k) q X ∗ owns (c : Thread nD τ) wqM fullShare Wq ∗ owns (c : Thread nD τ) qM fullShare (k0_pay6 X Wq)
          -∗ wp frame (wpE (defs₀ (F := F)) 𝒱₀ (c : Thread nD τ) none) Set.univ (kt ⟨⟩) Q)
        -∗ wp frame (wpE (defs₀ (F := F)) 𝒱₀ (c : Thread nD τ) none) Set.univ
          (.op (.load xgM (Rect.unit (s := S4x256x1024) off S1x256x1024.size hin).toLoadRect hl) fun v52 =>
           .op (.load wqM (Rect.unit (s := S1024x1024) ![0, 0] S1024x1024.size i1).toLoadRect l1) fun v55 =>
           .op (.load qM (Rect.unit (s := S256x1024) ![0, 0] S256x1024.size i2).toLoadRect l2) fun _ =>
           .op (.store qM (Rect.unit (s := S256x1024) ![0, 0] S256x1024.size i2) (k0_pay6 v52 v55) Finset.univ x2 m2) kt) Q) := by
  unfold anyAt
  iintro ⟨Hx, Hw, ⟨%Y, Hq⟩⟩ Hk
  iapply (step_xload c k ho) $$ Hx
  iintro Hx
  iapply (wp_loadW 𝒱₀ (c : Thread nD τ) none (m := wqM) (by decide)) $$ Hw
  iintro Hw
  iapply (wp_loadW 𝒱₀ (c : Thread nD τ) none (m := qM) (by decide)) $$ Hq
  iintro Hq
  iapply (wp_storeW 𝒱₀ (c : Thread nD τ) none (m := qM) (by decide)) $$ Hq
  iintro Hq
  iapply Hk
  isplitl [Hx]; · iexact Hx
  isplitl [Hw] <;> iassumption

/-- A load of a block's rows of the queries. -/
theorem step_qload (s : ℕ) (b : Fin 4) {off : Fin 2 → ℕ} (ho : off = ![64 * b.val, 0]) {hin} {hl}
    {kt : (S64x1024.Idx → Elt F .f32) → Prog (TpuEff nD τ sig (Elt F) Λ₀ .tc) α} :
    (owns (c : Thread nD τ) qM fullShare (qv I c s) : sProp 𝕄)
      ⊢ iprop((owns (c : Thread nD τ) qM fullShare (qv I c s) -∗ wp frame (wpE (defs₀ (F := F)) 𝒱₀ (c : Thread nD τ) none) Set.univ (kt (qrows I c s b)) Q)
        -∗ wp frame (wpE (defs₀ (F := F)) 𝒱₀ (c : Thread nD τ) none) Set.univ (.op (.load qM (Rect.unit (s := S256x1024) off S64x1024.size hin).toLoadRect hl) kt) Q) := by
  subst ho
  exact wp_loadO 𝒱₀ (c : Thread nD τ) none (m := qM) (r := qR b)

/-- The operands of a block: its rows of the queries, its keys and values. -/
theorem ph_tail (s : ℕ) (b : Fin 4) {off : Fin 2 → ℕ} (ho : off = ![64 * b.val, 0]) {hin} {hl} {arg5 arg6 : Memref sig .tc .vmem S1x16x1x64x8x128 .f32}
    {kX vX : S1x16x1x64x8x128.Idx → Elt F .f32} {i1} {l1} {l2} {f : (S64x1024.Idx → Elt F .f32) → (S1x16x1x64x8x128.Idx → Elt F .f32) → (S1x16x1x64x8x128.Idx → Elt F .f32) → α} :
    iprop(owns (c : Thread nD τ) qM fullShare (qv I c s) ∗ owns (c : Thread nD τ) arg5 fullShare kX ∗ owns (c : Thread nD τ) arg6 fullShare vX)
      ⊢ iprop((owns (c : Thread nD τ) qM fullShare (qv I c s) ∗ owns (c : Thread nD τ) arg5 fullShare kX ∗ owns (c : Thread nD τ) arg6 fullShare vX
          -∗ Q (f (qrows I c s b) kX vX))
        -∗ wp frame (wpE (defs₀ (F := F)) 𝒱₀ (c : Thread nD τ) none) Set.univ
          (.op (.load qM (Rect.unit (s := S256x1024) off S64x1024.size hin).toLoadRect hl) fun v16 =>
           .op (.load arg5 (Rect.unit (s := S1x16x1x64x8x128) ![0, 0, 0, 0, 0, 0] S1x16x1x64x8x128.size i1).toLoadRect l1) fun v18 =>
           .op (.load arg6 (Rect.unit (s := S1x16x1x64x8x128) ![0, 0, 0, 0, 0, 0] S1x16x1x64x8x128.size i1).toLoadRect l2) fun v21 =>
           .ret (f v16 v18 v21)) Q) := by
  iintro ⟨Hq, Hk, Hv⟩ Hkt
  iapply (step_qload I c s b ho) $$ Hq
  iintro Hq
  iapply (wp_loadW 𝒱₀ (c : Thread nD τ) none (m := arg5) (by decide)) $$ Hk
  iintro Hk
  iapply (wp_loadW 𝒱₀ (c : Thread nD τ) none (m := arg6) (by decide)) $$ Hv
  iintro Hv
  rw [wp_ret]
  imodintro
  iapply Hkt
  isplitl [Hq]; · iexact Hq
  isplitl [Hk] <;> iassumption

end Bits
end Cert.KernelIdeal.Attn
-- ==== Proof.KernelIdeal.First.lean ====
/-
  The first point: weights copied in, the barrier, the activations sent round.
-/
module

public import proofs.«01_k».proof.Proof.Gen.KernelIdeal
public import proofs.«01_k».proof.Proof.Gen.KernelIdeal.Skeleton
public import proofs.«01_k».proof.Proof.KernelIdeal.Bits
public import Idealize.ShloMosaic.Lib.Pipeline.Regions
public import Idealize.ShloMosaic.Lib.Pipeline.Kit
public import Idealize.ShloMosaic.Lib.Rounds
public import Idealize.ShloMosaic.Lib.Memref
public import Idealize.ShloMosaic.Lib.MemrefSat
public import Idealize.ShloMosaic.Lib.Tactic

@[expose] public section

set_option synthInstance.maxSize 4096

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Attn
open Facts₀ Facts

variable {F : FTy → Type} [FloatOps F] [∀ e, Nonempty (Elt F e)]

local notation "𝕄" => MT nD τ sig Unit (Elt F) ℕ UU ℕ

section First

variable (I : In F) (K : GSem nD τ sig → ℕ) (c : Dev nD)
variable {arg3 : Memref sig .tc .vmem S1x256x1024 .f32} {harg3 : arg3.IsWhole}
variable {arg5 arg6 : Memref sig .tc .vmem S1x16x1x64x8x128 .f32} {harg5 : arg5.IsWhole} {harg6 : arg6.IsWhole}
variable {arg8 : Memref sig .tc .vmem S1x256x1024 .f32} {harg8 : arg8.IsWhole}
variable {harg2 : (Memref.whole main_v7).IsWhole} {harg4 : wqH.IsWhole} {harg7 : woH.IsWhole} {harg9 : xgM.IsWhole} {harg10 : qM.IsWhole}
  {harg11 : omM.IsWhole} {harg12 : orM.IsWhole} {harg13 : wqM.IsWhole} {harg14 : woM.IsWhole}

/-- The opening of the first point: the barrier, the three sends of activations, the weights, the queries. -/
theorem part12_first (i : grid0.Coords) (hs : (i 0).val = 0) (hb : (i 1).val = 0) (q : PosShare TreeShare)
    (kX vX : S1x16x1x64x8x128.Idx → Elt F .f32) {Kt : _ → sProp (MT nD τ sig Unit (Elt F) ℕ UU ℕ)} :
    iprop(ctx I K c ∗ start I c ∗ anyAt (c : Thread nD τ) qM ∗ ow c (O₀ c) ∗ tab c q
        ∗ owns (c : Thread nD τ) arg3 fullShare (I.x c) ∗ owns (c : Thread nD τ) arg5 fullShare kX ∗ owns (c : Thread nD τ) arg6 fullShare vX)
      ⊢ iprop((stC I c ∗ fam I c xr 0 ∗ gam c 0 ∗ owns (c : Thread nD τ) qM fullShare (qv I c 0) ∗ ow c (od c 0) ∗ tab c q
          ∗ owns (c : Thread nD τ) arg3 fullShare (I.x c) ∗ owns (c : Thread nD τ) arg5 fullShare kX ∗ owns (c : Thread nD τ) arg6 fullShare vX
          -∗ Kt ⟨BitVec.ofNat 32 (i 0).val, BitVec.ofNat 32 (i 1).val, BitVec.ofNat 32 c.val, chk_at c i, k0_pay7 vX, k0_pay8 (qrows I c 0 0) kX, k0_pay9⟩)
        -∗ wp frame (wpE (defs₀ (F := F)) 𝒱₀ (c : Thread nD τ) none) Set.univ
          (k0_part12 (F := F) i (Memref.whole main_v7) harg2 arg3 harg3 wqH harg4 arg5 harg5 arg6 harg6 woH harg7 arg8 harg8 xgM harg9 qM harg10
            omM harg11 orM harg12 wqM harg13 woM harg14 cc0_scratch6 cc0_scratch7 cc0_scratch8 cc0_scratch9 cc0_scratch10) Kt) := by
  have h1 : k0_cond1 i = 1#1 := (cond1_iff i).mpr ⟨hs, hb⟩
  have h2 : ¬ k0_cond2 i = 1#1 := fun h => by have := (cond2_iff i).mp h; omega
  have h3 : k0_cond3 i = 1#1 := (cond3_iff i).mpr hb
  simp only [k0_part12_eq_skeleton]; unfold k0_part12_skel
  simp only [dif_pos h1, dif_neg h2, dif_pos h3]
  simp only [k0_part1_eq_skeleton, k0_part2_eq_skeleton, k0_part3_eq_skeleton]; unfold k0_part1_skel k0_part2_skel k0_part3_skel
  simp only [smemLoad, smemLoadElt, semSignalWord, semWaitWord, Prog.lift, Prog.bind_op, Prog.bind_ret, Prog.pure_eq_ret, Prog.bind_assoc]
  unfold tab start
  rw [bs2, bs3, bs3, bs4, ← bs12 (fun j => anyAt (c : Thread nD τ) (orS j)), bs3]
  iintro ⟨#Hc, Hst, Hq, HO, Htab, Hx, Hk, Hv⟩ Hkt
  iapply (wp_loadW 𝒱₀ (c : Thread nD τ) none (m := Memref.whole main_v7) (by decide)) $$ Htab
  iintro Htab
  beta_reduce
  iapply (step_assume c (chk_at c i))
  icases Hst with ⟨Hwq, Hwo, HwqH, HwoH, Hxg, Hom, Hor, Hbc, Hba, Hbt, Hxt, Hfx, Hfr, Hot, Hwt⟩
  icases Hwt with ⟨⟨Hw0, Ha0⟩, Hw1, Ha1⟩
  icases Hbt with ⟨Hb0, Hb1, Hb2⟩
  icases Hxt with ⟨⟨Hs0, Hr0, Hsa0⟩, ⟨Hs1, Hr1, Hsa1⟩, Hs2, Hr2, Hsa2⟩
  icases Hxg with ⟨Hx0, Hx1, Hx2, Hx3⟩
  icases Hor with ⟨Ho0, Ho1, Ho2⟩
  -- the weights copied in
  iapply (step_wcopy I K c 0 (src := wqH) (dst := wqM) (BI.Entails.refl _) (sem_wr 0 rfl _ _)) $$ [HwqH Hwq Hw0]
  · isplitr; · iexact Hc
    isplitl [HwqH]; · iexact HwqH
    isplitl [Hwq] <;> iassumption
  iintro Hc0
  iapply (step_wcopy I K c 1 (src := woH) (dst := woM) (BI.Entails.refl _) (sem_wr 1 rfl _ _)) $$ [HwoH Hwo Hw1]
  · isplitr; · iexact Hc
    isplitl [HwoH]; · iexact HwoH
    isplitl [Hwo] <;> iassumption
  iintro Hc1
  -- the barrier
  ihave Hp0 := (bar_give I K c 0) $$ [Hx1 Ho0]
  · isplitr; · iexact Hc
    isplitl [Hx1]; · iexact Hx1
    iexact Ho0
  ihave Hp1 := (bar_give I K c 1) $$ [Hx2 Ho1]
  · isplitr; · iexact Hc
    isplitl [Hx2]; · iexact Hx2
    iexact Ho1
  ihave Hp2 := (bar_give I K c 2) $$ [Hx3 Ho2]
  · isplitr; · iexact Hc
    isplitl [Hx3]; · iexact Hx3
    iexact Ho2
  iapply (step_signal I K c 0 (Fin.ext (dev1_at c)) rfl rfl) $$ [HO Hb0 Hp0]
  · isplitr; · iexact Hc
    isplitl [HO]; · iexact HO
    isplitl [Hb0] <;> iassumption
  iintro HO
  iapply (step_signal I K c 1 (Fin.ext (dev2_at c)) rfl rfl) $$ [HO Hb1 Hp1]
  · isplitr; · iexact Hc
    isplitl [HO]; · iexact HO
    isplitl [Hb1] <;> iassumption
  iintro HO
  iapply (step_signal I K c 2 (Fin.ext (dev3_at c)) rfl rfl) $$ [HO Hb2 Hp2]
  · isplitr; · iexact Hc
    isplitl [HO]; · iexact HO
    isplitl [Hb2] <;> iassumption
  iintro HO
  iapply (step_bwait I K c rfl (O := od c 0 + xdue c 0 + xdue c 1 + xdue c 2)
    (above_add (above_add (above_add (above_od (by decide) c 0) (above_xdue (by decide) c 0)) (above_xdue (by decide) c 1)) (above_xdue (by decide) c 2)) rfl) $$ [HO Hbc Hba]
  · isplitr; · iexact Hc
    isplitl [HO]; · iexact HO
    isplitl [Hbc] <;> iassumption
  iintro ⟨HO, Hba, Hbp⟩
  ihave Hbp' := (bar_take c) $$ Hbp
  icases Hbp' with ⟨Hl0, Hl1, Hl2, Hol⟩
  -- the activations stored and sent round
  iapply (wp_loadW 𝒱₀ (c : Thread nD τ) none (m := arg3) (by decide)) $$ Hx
  iintro Hx
  iapply (step_xstore c) $$ Hx0
  iintro Hx0
  ihave Hx0' := (x0_split c (k0_pay3 (I.x c))) $$ Hx0
  icases Hx0' with ⟨Hx0, Hy0, Hy1, Hy2⟩
  iapply (step_xsend I K c 2 (Fin.ext (dev4_at c)) rfl rfl (sem_xs 2 rfl _ _) (sem_xr 0 rfl _ _)) $$ [HO Hy2 Hl2 Hs2 Hr2]
  · isplitr; · iexact Hc
    isplitl [HO]; · iexact HO
    isplitl [Hy2]; · iexact Hy2
    isplitl [Hl2]; · iexact Hl2
    isplitl [Hs2] <;> iassumption
  iintro ⟨HO, Hs2⟩
  iapply (step_xsend I K c 1 (Fin.ext (dev5_at c)) rfl rfl (sem_xs 1 rfl _ _) (sem_xr 1 rfl _ _)) $$ [HO Hy1 Hl1 Hs1 Hr1]
  · isplitr; · iexact Hc
    isplitl [HO]; · iexact HO
    isplitl [Hy1]; · iexact Hy1
    isplitl [Hl1]; · iexact Hl1
    isplitl [Hs1] <;> iassumption
  iintro ⟨HO, Hs1⟩
  iapply (step_xsend I K c 0 (Fin.ext (dev6_at c)) rfl rfl (sem_xs 0 rfl _ _) (sem_xr 2 rfl _ _)) $$ [HO Hy0 Hl0 Hs0 Hr0]
  · isplitr; · iexact Hc
    isplitl [HO]; · iexact HO
    isplitl [Hy0]; · iexact Hy0
    isplitl [Hl0]; · iexact Hl0
    isplitl [Hs0] <;> iassumption
  iintro ⟨HO, Hs0⟩
  -- the weights are there
  iapply (step_wait I K c (wr 0) (sem_wr 0 rfl _ _) (O := od c 0) (above_od (by decide) c 0) rfl) $$ [HO Hc0 Ha0]
  · isplitr; · iexact Hc
    isplitl [HO]; · iexact HO
    isplitl [Hc0] <;> iassumption
  iintro ⟨HO, Ha0, Hp0⟩
  iapply (step_wait I K c (wr 1) (sem_wr 1 rfl _ _) (O := od c 0) (above_od (by decide) c 0) rfl) $$ [HO Hc1 Ha1]
  · isplitr; · iexact Hc
    isplitl [HO]; · iexact HO
    isplitl [Hc1] <;> iassumption
  iintro ⟨HO, Ha1, Hp1⟩
  ihave Hp0' := (show pay I c (wr 0) ⊢ iprop(owns (c : Thread nD τ) wqM fullShare (I.wq c) ∗ owns (c : Thread nD τ) wqH fullShare (I.wq c)) from BI.Entails.refl _) $$ Hp0
  icases Hp0' with ⟨Hwq, HwqH⟩
  ihave Hp1' := (show pay I c (wr 1) ⊢ iprop(owns (c : Thread nD τ) woM fullShare (I.wo c) ∗ owns (c : Thread nD τ) woH fullShare (I.wo c)) from BI.Entails.refl _) $$ Hp1
  icases Hp1' with ⟨Hwo, HwoH⟩
  -- the queries of the own step
  iapply (ph_q c 0 (by rw [k0_off3_eq, hs]; rfl)) $$ [Hx0 Hwq Hq]
  · isplitl [Hx0]; · iexact Hx0
    isplitl [Hwq] <;> iassumption
  iintro ⟨Hx0, Hwq, Hq⟩
  ihave Hq' := (show owns (c : Thread nD τ) qM fullShare (k0_pay6 (k0_pay3 (I.x c)) (I.wq c)) ⊢ owns (c : Thread nD τ) qM fullShare (qv I c 0) from by
    unfold qv xb; rw [nb_zero]) $$ Hq
  iapply (ph_tail I c 0 0 (by rw [k0_off4_eq, hb]; rfl)) $$ [Hq' Hk Hv]
  · isplitl [Hq']; · iexact Hq'
    isplitl [Hk] <;> iassumption
  iintro ⟨Hq, Hk, Hv⟩
  iapply Hkt
  isplitr [Hfx Hot Hol Hom Hq HO Htab Hx Hk Hv]
  · unfold stC
    isplitl [Hwq]; · iexact Hwq
    isplitl [Hwo]; · iexact Hwo
    isplitl [HwqH]; · iexact HwqH
    isplitl [HwoH]; · iexact HwoH
    isplitl [Hx0]; · iexact Hx0
    isplitl [Hba]; · iexact Hba
    isplitl [Ha0 Ha1]; · rw [bs2]; isplitl [Ha0] <;> iassumption
    isplitr [Hfr]
    · iapply (fam_intro I c xs)
      rw [bs3]
      unfold pend
      isplitl [Hs0 Hsa0]; · isplitl [Hs0] <;> iassumption
      isplitl [Hs1 Hsa1]; · isplitl [Hs1] <;> iassumption
      isplitl [Hs2] <;> iassumption
    iexact Hfr
  isplitl [Hfx]; · iexact Hfx
  isplitl [Hot Hol Hom]
  · iapply (gam_intro c)
    isplitl [Hot]; · iexact Hot
    isplitl [Hol] <;> iassumption
  isplitl [Hq]; · iexact Hq
  isplitl [HO]; · iexact HO
  isplitl [Htab]; · iexact Htab
  isplitl [Hx]; · iexact Hx
  isplitl [Hk] <;> iassumption

end First
end Cert.KernelIdeal.Attn
-- ==== Proof.KernelIdeal.Next.lean ====
/-
  The later points up to the operands of the block: at the start of a step the activations arrive.
-/
module

public import proofs.«01_k».proof.Proof.Gen.KernelIdeal
public import proofs.«01_k».proof.Proof.Gen.KernelIdeal.Skeleton
public import proofs.«01_k».proof.Proof.KernelIdeal.First
public import Idealize.ShloMosaic.Lib.Pipeline.Regions
public import Idealize.ShloMosaic.Lib.Pipeline.Kit
public import Idealize.ShloMosaic.Lib.Rounds
public import Idealize.ShloMosaic.Lib.Memref
public import Idealize.ShloMosaic.Lib.MemrefSat
public import Idealize.ShloMosaic.Lib.Tactic

@[expose] public section

set_option synthInstance.maxSize 4096

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Attn
open Facts₀ Facts

variable {F : FTy → Type} [FloatOps F] [∀ e, Nonempty (Elt F e)]

local notation "𝕄" => MT nD τ sig Unit (Elt F) ℕ UU ℕ

section Next

variable (I : In F) (K : GSem nD τ sig → ℕ) (c : Dev nD)
variable {arg3 : Memref sig .tc .vmem S1x256x1024 .f32} {harg3 : arg3.IsWhole}
variable {arg5 arg6 : Memref sig .tc .vmem S1x16x1x64x8x128 .f32} {harg5 : arg5.IsWhole} {harg6 : arg6.IsWhole}
variable {arg8 : Memref sig .tc .vmem S1x256x1024 .f32} {harg8 : arg8.IsWhole}
variable {harg2 : (Memref.whole main_v7).IsWhole} {harg4 : wqH.IsWhole} {harg7 : woH.IsWhole} {harg9 : xgM.IsWhole} {harg10 : qM.IsWhole}
  {harg11 : omM.IsWhole} {harg12 : orM.IsWhole} {harg13 : wqM.IsWhole} {harg14 : woM.IsWhole}

/-- The opening of a later step: the wait for its activations, then the queries. -/
theorem part12_next (i : grid0.Coords) (j : Fin 3) (hs : (i 0).val = j.val + 1) (hb : (i 1).val = 0) (q : PosShare TreeShare) (t : ℕ)
    (kX vX : S1x16x1x64x8x128.Idx → Elt F .f32) {Kt : _ → sProp (MT nD τ sig Unit (Elt F) ℕ UU ℕ)} :
    iprop(ctx I K c ∗ owns (c : Thread nD τ) wqM fullShare (I.wq c) ∗ fam I c xr j.val ∗ anyAt (c : Thread nD τ) qM ∗ ow c (od c t) ∗ tab c q
        ∗ owns (c : Thread nD τ) arg5 fullShare kX ∗ owns (c : Thread nD τ) arg6 fullShare vX)
      ⊢ iprop((owns (c : Thread nD τ) wqM fullShare (I.wq c) ∗ fam I c xr (j.val + 1) ∗ owns (c : Thread nD τ) qM fullShare (qv I c (j.val + 1)) ∗ ow c (od c t) ∗ tab c q
          ∗ owns (c : Thread nD τ) arg5 fullShare kX ∗ owns (c : Thread nD τ) arg6 fullShare vX
          -∗ Kt ⟨BitVec.ofNat 32 (i 0).val, BitVec.ofNat 32 (i 1).val, BitVec.ofNat 32 c.val, chk_at c i, k0_pay7 vX, k0_pay8 (qrows I c (j.val + 1) 0) kX, k0_pay9⟩)
        -∗ wp frame (wpE (defs₀ (F := F)) 𝒱₀ (c : Thread nD τ) none) Set.univ
          (k0_part12 (F := F) i (Memref.whole main_v7) harg2 arg3 harg3 wqH harg4 arg5 harg5 arg6 harg6 woH harg7 arg8 harg8 xgM harg9 qM harg10
            omM harg11 orM harg12 wqM harg13 woM harg14 cc0_scratch6 cc0_scratch7 cc0_scratch8 cc0_scratch9 cc0_scratch10) Kt) := by
  have h1 : ¬ k0_cond1 i = 1#1 := fun h => by have := (cond1_iff i).mp h; omega
  have h2 : k0_cond2 i = 1#1 := (cond2_iff i).mpr ⟨by omega, hb⟩
  have h3 : k0_cond3 i = 1#1 := (cond3_iff i).mpr hb
  simp only [k0_part12_eq_skeleton]; unfold k0_part12_skel
  simp only [dif_neg h1, dif_pos h2, dif_pos h3]
  simp only [smemLoad, smemLoadElt, semSignalWord, semWaitWord, Prog.lift, Prog.bind_op, Prog.bind_ret, Prog.pure_eq_ret, Prog.bind_assoc]
  unfold tab
  iintro ⟨#Hc, Hwq, Hf, Hq, HO, Htab, Hk, Hv⟩ Hkt
  iapply (wp_loadW 𝒱₀ (c : Thread nD τ) none (m := Memref.whole main_v7) (by decide)) $$ Htab
  iintro Htab
  beta_reduce
  iapply (step_assume c (chk_at c i))
  iapply (step_fam I K c xr j (sem_xr j (by rw [off1_at i (by omega), hs]; rfl) _ _) (O := od c t) (above_od (show 2 < 3 from by decide) c t) rfl) $$ [HO Hf]
  · isplitr; · iexact Hc
    isplitl [HO] <;> iassumption
  iintro ⟨HO, Hf⟩
  ihave Hf' := (fam_take I c xr j) $$ Hf
  icases Hf' with ⟨Hx, Hf⟩
  ihave Hx' := (show pay I c (xr j) ⊢ owns (c : Thread nD τ) (xgS j.succ) fullShare (xb I (nb c (j.val + 1))) from BI.Entails.refl _) $$ Hx
  iapply (ph_q c j.succ (by rw [k0_off3_eq, hs]; rfl)) $$ [Hx' Hwq Hq]
  · isplitl [Hx']; · iexact Hx'
    isplitl [Hwq] <;> iassumption
  iintro ⟨Hx, Hwq, Hq⟩
  ihave Hx' := (show owns (c : Thread nD τ) (xgS j.succ) fullShare (xb I (nb c (j.val + 1))) ⊢ pay I c (xr j) from BI.Entails.refl _) $$ Hx
  ihave Hf' := Hf $$ Hx'
  ihave Hq' := (show owns (c : Thread nD τ) qM fullShare (k0_pay6 (xb I (nb c (j.val + 1))) (I.wq c)) ⊢ owns (c : Thread nD τ) qM fullShare (qv I c (j.val + 1)) from BI.Entails.refl _) $$ Hq
  iapply (ph_tail I c (j.val + 1) 0 (by rw [k0_off4_eq, hb]; rfl)) $$ [Hq' Hk Hv]
  · isplitl [Hq']; · iexact Hq'
    isplitl [Hk] <;> iassumption
  iintro ⟨Hq, Hk, Hv⟩
  iapply Hkt
  isplitl [Hwq]; · iexact Hwq
  isplitl [Hf']; · iexact Hf'
  isplitl [Hq]; · iexact Hq
  isplitl [HO]; · iexact HO
  isplitl [Htab]; · iexact Htab
  isplitl [Hk] <;> iassumption

/-- A point that does not open a step goes on with the queries it has. -/
theorem part12_mid (i : grid0.Coords) (s : ℕ) (b : Fin 4) (hb : (i 1).val = b.val) (hb0 : b ≠ 0) (q : PosShare TreeShare)
    (kX vX : S1x16x1x64x8x128.Idx → Elt F .f32) {Kt : _ → sProp (MT nD τ sig Unit (Elt F) ℕ UU ℕ)} :
    iprop(owns (c : Thread nD τ) qM fullShare (qv I c s) ∗ tab c q
        ∗ owns (c : Thread nD τ) arg5 fullShare kX ∗ owns (c : Thread nD τ) arg6 fullShare vX)
      ⊢ iprop((owns (c : Thread nD τ) qM fullShare (qv I c s) ∗ tab c q
          ∗ owns (c : Thread nD τ) arg5 fullShare kX ∗ owns (c : Thread nD τ) arg6 fullShare vX
          -∗ Kt ⟨BitVec.ofNat 32 (i 0).val, BitVec.ofNat 32 (i 1).val, BitVec.ofNat 32 c.val, chk_at c i, k0_pay7 vX, k0_pay8 (qrows I c s b) kX, k0_pay9⟩)
        -∗ wp frame (wpE (defs₀ (F := F)) 𝒱₀ (c : Thread nD τ) none) Set.univ
          (k0_part12 (F := F) i (Memref.whole main_v7) harg2 arg3 harg3 wqH harg4 arg5 harg5 arg6 harg6 woH harg7 arg8 harg8 xgM harg9 qM harg10
            omM harg11 orM harg12 wqM harg13 woM harg14 cc0_scratch6 cc0_scratch7 cc0_scratch8 cc0_scratch9 cc0_scratch10) Kt) := by
  have hne : (i 1).val ≠ 0 := fun h => hb0 (Fin.ext (hb.symm.trans h))
  have h1 : ¬ k0_cond1 i = 1#1 := fun h => hne ((cond1_iff i).mp h).2
  have h2 : ¬ k0_cond2 i = 1#1 := fun h => hne ((cond2_iff i).mp h).2
  have h3 : ¬ k0_cond3 i = 1#1 := fun h => hne ((cond3_iff i).mp h)
  simp only [k0_part12_eq_skeleton]; unfold k0_part12_skel
  simp only [dif_neg h1, dif_neg h2, dif_neg h3]
  simp only [smemLoad, smemLoadElt, semSignalWord, semWaitWord, Prog.lift, Prog.bind_op, Prog.bind_ret, Prog.pure_eq_ret, Prog.bind_assoc]
  unfold tab
  iintro ⟨Hq, Htab, Hk, Hv⟩ Hkt
  iapply (wp_loadW 𝒱₀ (c : Thread nD τ) none (m := Memref.whole main_v7) (by decide)) $$ Htab
  iintro Htab
  beta_reduce
  iapply (step_assume c (chk_at c i))
  iapply (ph_tail I c s b (by rw [k0_off4_eq, hb])) $$ [Hq Hk Hv]
  · isplitl [Hq]; · iexact Hq
    isplitl [Hk] <;> iassumption
  iintro ⟨Hq, Hk, Hv⟩
  iapply Hkt
  isplitl [Hq]; · iexact Hq
  isplitl [Htab]; · iexact Htab
  isplitl [Hk] <;> iassumption

end Next
end Cert.KernelIdeal.Attn
-- ==== Proof.KernelIdeal.Out.lean ====
/-
  The output block: what a point leaves in it, and the end of the last point.
-/
module

public import proofs.«01_k».proof.Proof.Gen.KernelIdeal
public import proofs.«01_k».proof.Proof.Gen.KernelIdeal.Skeleton
public import proofs.«01_k».proof.Proof.KernelIdeal.Next
public import Idealize.ShloMosaic.Lib.Pipeline.Regions
public import Idealize.ShloMosaic.Lib.Pipeline.Kit
public import Idealize.ShloMosaic.Lib.Rounds
public import Idealize.ShloMosaic.Lib.Memref
public import Idealize.ShloMosaic.Lib.MemrefSat
public import Idealize.ShloMosaic.Lib.Tactic

@[expose] public section

set_option synthInstance.maxSize 4096

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Attn
open Facts₀ Facts

variable {F : FTy → Type} [FloatOps F] [∀ e, Nonempty (Elt F e)]

local notation "𝕄" => MT nD τ sig Unit (Elt F) ℕ UU ℕ

/-- The rows of block `b` in the output block. -/
abbrev rowR (b : Fin 4) : Rect S1x256x1024 :=
  Rect.unit (s := S1x256x1024) ![0, 64 * b.val, 0] S1x64x1024.size (by revert b; decide)
/-- What one device sent, in the received partial outputs. -/
abbrev sR (k : Fin 3) : Rect S3x256x1024 :=
  Rect.unit (s := S3x256x1024) ![k.val, 0, 0] S1x256x1024.size (by revert k; decide)

section Out

variable (I : In F) (K : GSem nD τ sig → ℕ) (c : Dev nD)
variable {α : Type} {Q : α → sProp (MT nD τ sig Unit (Elt F) ℕ UU ℕ)}

/-- The received partial outputs, all twelve blocks. -/
def orv : S3x256x1024.Idx → Elt F .bf16 := (glue (F := F) oR oR_disj (vrec I c)).choose
/-- The received partial outputs, block by block. -/
theorem orv_emb (t : Fin 12) (j) : orv I c ((oR t).emb j) = vrec I c t j := (glue (F := F) oR oR_disj (vrec I c)).choose_spec t j
/-- The partial outputs from one device. -/
def rcv (k : Fin 3) : S1x256x1024.Idx → Elt F .bf16 := fun j => orv I c ((sR k).emb j)

/-- The output block after the point of step `s` and block `b`. -/
def outStep (s : ℕ) (b : Fin 4) (Y : S1x256x1024.Idx → Elt F .f32) : S1x256x1024.Idx → Elt F .f32 :=
  if s = 0 then (rowR b).overlay Y (k0_pay2 (k0_pay7 (I.vb c 0 b.val)) (k0_pay8 (qrows I c 0 b) (I.kb c 0 b.val)) k0_pay9 (I.wo c))
  else if s = 3 ∧ b.val = 3 then k0_pay5 Y (rcv I c 0) (rcv I c 1) (rcv I c 2) else Y

/-- A point of the first step stores its block of the own part. -/
theorem outStep_zero (b : Fin 4) (Y : S1x256x1024.Idx → Elt F .f32) :
    outStep I c 0 b Y = (rowR b).overlay Y (k0_pay2 (k0_pay7 (I.vb c 0 b.val)) (k0_pay8 (qrows I c 0 b) (I.kb c 0 b.val)) k0_pay9 (I.wo c)) := if_pos rfl
/-- The last point adds what was received. -/
theorem outStep_last (Y : S1x256x1024.Idx → Elt F .f32) : outStep I c 3 3 Y = k0_pay5 Y (rcv I c 0) (rcv I c 1) (rcv I c 2) :=
  (if_neg (by decide)).trans (if_pos ⟨rfl, rfl⟩)
/-- A point that sends leaves the output block as it is. -/
theorem outStep_send (s : ℕ) (b : Fin 4) (hs : s ≠ 0) (hl : ¬ (s = 3 ∧ b.val = 3)) (Y : S1x256x1024.Idx → Elt F .f32) : outStep I c s b Y = Y :=
  (if_neg hs).trans (if_neg hl)

/-- After the last point nothing is owed. -/
theorem above_done (n : ℕ) : Above n (od c 16) := by rw [od_done c 16 (le_refl _)]; exact above_zero n

/-- After the last send the partial outputs sent are a family to wait for. -/
theorem gam_done : (gam c 12 : sProp 𝕄) ⊢ fam I c os 0 := by
  unfold gam fam
  refine bs_mono fun j => ?_
  rw [if_pos j.isLt, if_neg (Nat.not_lt_zero _)]

/-- A family all waited for. -/
theorem fam_full {n : ℕ} (f : Fin n → Role) : (fam I c f n : sProp 𝕄)
    ⊢ iprop((bigSep Finset.univ fun j : Fin n => atPos ER (dC c (f j)) 1 ∅ 0) ∗ bigSep Finset.univ fun j : Fin n => pay I c (f j)) := by
  rw [← bs_sep]
  unfold fam
  refine bs_mono fun j => ?_
  rw [if_pos j.isLt]
  unfold got
  exact BI.Entails.refl _

/-- The received partial outputs glued. -/
theorem or_all : (bigSep Finset.univ fun j : Fin 12 => pay I c (ro j) : sProp 𝕄) ⊢ owns (c : Thread nD τ) orM fullShare (orv I c) :=
  (bs_mono fun t => by
    rw [show (fun j => orv I c ((oR t).emb j)) = vrec I c t from funext fun j => orv_emb I c t j]; exact BI.Entails.refl _).trans
    (owns_of_rects (c : Thread nD τ) orM fullShare oR (fun _ _ => rfl) oR_disj oR_cov (orv I c))

/-- A wait of a family, its place given by a number. -/
theorem step_famN {n : ℕ} (f : Fin n → Role) (m m' : ℕ) (hm : m < n) (hm' : m' = m + 1) {s : DmaSem sig} (hs : s = dsem (f ⟨m, hm⟩))
    {sp sp' : Space} {sh : Shape} {e : EltTy} {src : Memref sig .tc sp sh e} {dst : Memref sig .tc sp' sh e}
    (hN : dst.view.dmaCredit = amt (f ⟨m, hm⟩)) {h₁ : src.view.WordExact} {h₂ : dst.view.WordExact}
    {k : PUnit → Prog (TpuEff nD τ sig (Elt F) Λ₀ .tc) α} :
    iprop(ctx I K c ∗ ow c (od c 16) ∗ fam I c f m)
      ⊢ iprop((ow c (od c 16) ∗ fam I c f m' -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 s src dst h₁ h₂) k) Q) := by
  subst hm'
  exact step_fam I K c f ⟨m, hm⟩ hs (above_done c _) hN

/-- The received partial outputs of one device loaded. -/
theorem step_rload (k : Fin 3) {i1} {hl} {kt : (S1x256x1024.Idx → Elt F .bf16) → Prog (TpuEff nD τ sig (Elt F) Λ₀ .tc) α} :
    (owns (c : Thread nD τ) orM fullShare (orv I c) : sProp 𝕄)
      ⊢ iprop((owns (c : Thread nD τ) orM fullShare (orv I c) -∗ wp frame (wpE (defs₀ (F := F)) 𝒱₀ (c : Thread nD τ) none) Set.univ (kt (rcv I c k)) Q)
        -∗ wp frame (wpE (defs₀ (F := F)) 𝒱₀ (c : Thread nD τ) none) Set.univ (.op (.load orM (Rect.unit (s := S3x256x1024) ![k.val, 0, 0] S1x256x1024.size i1).toLoadRect hl) kt) Q) :=
  wp_loadO 𝒱₀ (c : Thread nD τ) none (m := orM) (r := sR k)

/-- The rows of the own step written. -/
theorem ph_own (b : Fin 4) {off : Fin 3 → ℕ} (ho : off = ![0, 64 * b.val, 0]) {arg8 : Memref sig .tc .vmem S1x256x1024 .f32} {Y : S1x256x1024.Idx → Elt F .f32}
    {i0} {l0} {i1} {hl} {i2} {hx} {hm} {g : (S1024x1024.Idx → Elt F .f32) → S1x64x1024.Idx → Elt F .f32} {kt : PUnit → Prog (TpuEff nD τ sig (Elt F) Λ₀ .tc) α} :
    iprop(owns (c : Thread nD τ) woM fullShare (I.wo c) ∗ owns (c : Thread nD τ) arg8 fullShare Y)
      ⊢ iprop((owns (c : Thread nD τ) woM fullShare (I.wo c) ∗ owns (c : Thread nD τ) arg8 fullShare ((rowR b).overlay Y (g (I.wo c)))
          -∗ wp frame (wpE (defs₀ (F := F)) 𝒱₀ (c : Thread nD τ) none) Set.univ (kt ⟨⟩) Q)
        -∗ wp frame (wpE (defs₀ (F := F)) 𝒱₀ (c : Thread nD τ) none) Set.univ
          (.op (.load woM (Rect.unit (s := S1024x1024) ![0, 0] S1024x1024.size i0).toLoadRect l0) fun v38 =>
           .op (.load arg8 (Rect.unit (s := S1x256x1024) off S1x64x1024.size i1).toLoadRect hl) fun _ =>
           .op (.store arg8 (Rect.unit (s := S1x256x1024) off S1x64x1024.size i2) (g v38) Finset.univ hx hm) kt) Q) := by
  subst ho
  iintro ⟨Hw, H⟩ Hk
  iapply (wp_loadW 𝒱₀ (c : Thread nD τ) none (m := woM) (by decide)) $$ Hw
  iintro Hw
  iapply (wp_loadO 𝒱₀ (c : Thread nD τ) none (m := arg8) (r := rowR b)) $$ H
  iintro H
  iapply (wp_storeO 𝒱₀ (c : Thread nD τ) none (m := arg8) (r := rowR b) (fun _ => rfl)) $$ H
  iintro H
  iapply Hk
  isplitl [Hw] <;> iassumption

/-- A partial output computed, stored and sent. -/
theorem ph_send (j : Fin 12) {d : Dev nD} (hd : d = oto c j) {dst : Memref sig .tc .vmem S1x64x1024 .bf16}
    {off off' : Fin 3 → ℕ} (ho : off = ![j.val / 4, 64 * (j.val % 4), 0]) (ho' : off' = ![j.val / 4, 64 * (j.val % 4), 0]) {i0} {l0} {hin hin'} {hu}
    (hdst : dst = orS (jrev j)) {sS sR : DmaSem sig} (hsS : sS = dsem (os j)) (hsR : sR = dsem (ro (jrev j)))
    {hl} {hx} {hmm} {g : (S1024x1024.Idx → Elt F .f32) → S1x64x1024.Idx → Elt F .bf16} (hw : g (I.wo c) = vrem I c j)
    {h₁} {h₂ : dst.view.WordExact} {hsc : dst.view.ref.isScScratch = false}
    {hsem : DmaTarget.Typed .vmem (.dma sR) (.remote (d : Thread nD τ) dst (.dma sS) hsc)}
    {kt : PUnit → Prog (TpuEff nD τ sig (Elt F) Λ₀ .tc) α} :
    iprop(ctx I K c ∗ owns (c : Thread nD τ) woM fullShare (I.wo c) ∗ ow c (od c (j.val + 4)) ∗ gam c j.val)
      ⊢ iprop((owns (c : Thread nD τ) woM fullShare (I.wo c) ∗ ow c (od c (j.val + 4 + 1)) ∗ gam c (j.val + 1)
          -∗ wp frame (wpE (defs₀ (F := F)) 𝒱₀ (c : Thread nD τ) none) Set.univ (kt ⟨⟩) Q)
        -∗ wp frame (wpE (defs₀ (F := F)) 𝒱₀ (c : Thread nD τ) none) Set.univ
            (.op (.load woM (Rect.unit (s := S1024x1024) ![0, 0] S1024x1024.size i0).toLoadRect l0) fun v38 =>
             .op (.load omM (Rect.unit (s := S3x256x1024) off S1x64x1024.size hin).toLoadRect hl) fun _ =>
             .op (.store omM (Rect.unit (s := S3x256x1024) off S1x64x1024.size hin) (g v38) Finset.univ hx hmm) fun _ =>
             .op (.enqueueDma (omM.slice (Rect.unit (s := S3x256x1024) off' S1x64x1024.size hin') hu) (.remote (d : Thread nD τ) dst (.dma sS) hsc) (.dma sR) h₁ h₂ hsem) kt) Q) := by
  iintro ⟨#Hc, Hw, HO, Hg⟩ Hk
  iapply (wp_loadW 𝒱₀ (c : Thread nD τ) none (m := woM) (by decide)) $$ Hw
  iintro Hw
  iapply (step_gam I K c j hd rfl ho ho' hdst hsS hsR hw) $$ [HO Hg]
  · isplitr; · iexact Hc
    isplitl [HO] <;> iassumption
  iintro ⟨HO, Hg⟩
  iapply Hk
  isplitl [Hw]; · iexact Hw
  isplitl [HO] <;> iassumption

end Out
end Cert.KernelIdeal.Attn
-- ==== Proof.KernelIdeal.Root.lean ====
/-
  The body at a point, by the kinds of points there are.
-/
module

public import proofs.«01_k».proof.Proof.Gen.KernelIdeal
public import proofs.«01_k».proof.Proof.Gen.KernelIdeal.Skeleton
public import proofs.«01_k».proof.Proof.KernelIdeal.Out
public import Idealize.ShloMosaic.Lib.Pipeline.Regions
public import Idealize.ShloMosaic.Lib.Pipeline.Kit
public import Idealize.ShloMosaic.Lib.Rounds
public import Idealize.ShloMosaic.Lib.Memref
public import Idealize.ShloMosaic.Lib.MemrefSat
public import Idealize.ShloMosaic.Lib.Tactic

@[expose] public section

set_option synthInstance.maxSize 4096

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Attn
open Facts₀ Facts

variable {F : FTy → Type} [FloatOps F] [∀ e, Nonempty (Elt F e)]

local notation "𝕄" => MT nD τ sig Unit (Elt F) ℕ UU ℕ
section Root

variable (I : In F) (K : GSem nD τ sig → ℕ) (c : Dev nD)
/-- The output weights lent out. -/
theorem stC_wo : stC I c ⊢ (iprop(owns (c : Thread nD τ) woM fullShare (I.wo c) ∗ (owns (c : Thread nD τ) woM fullShare (I.wo c) -∗ stC I c)) : sProp 𝕄) := by
  unfold stC
  iintro ⟨Ha, Hb, Hc⟩
  isplitl [Hb]; · iexact Hb
  iintro Hb
  isplitl [Ha]; · iexact Ha
  isplitl [Hb] <;> iassumption

/-- Both weights lent out. -/
theorem stC_wqo : stC I c ⊢ (iprop(owns (c : Thread nD τ) wqM fullShare (I.wq c) ∗ owns (c : Thread nD τ) woM fullShare (I.wo c)
    ∗ (owns (c : Thread nD τ) wqM fullShare (I.wq c) ∗ owns (c : Thread nD τ) woM fullShare (I.wo c) -∗ stC I c)) : sProp 𝕄) := by
  unfold stC
  iintro ⟨Ha, Hb, Hc⟩
  isplitl [Ha]; · iexact Ha
  isplitl [Hb]; · iexact Hb
  iintro ⟨Ha, Hb⟩
  isplitl [Ha]; · iexact Ha
  isplitl [Hb] <;> iassumption

/-- The receiver of a partial output, by step and block. -/
theorem oto_e34 : ∀ (c : Dev nD) (k : Fin 3) (b : Fin 4), (oto c (e34 (k, b))).val = (nb c (k.val + 1)).val := by decide
/-- The number of a partial output sent at a step. -/
theorem e34_val : ∀ (k : Fin 3) (b : Fin 4), (e34 (k, b)).val = (k.val + 1 - 1) * 4 + b.val := by decide
/-- Where a partial output sent at a step is in the send buffer. -/
theorem e34_off : ∀ (k : Fin 3) (b : Fin 4), (![(e34 (k, b)).val / 4, 64 * ((e34 (k, b)).val % 4), 0] : Fin 3 → ℕ) = ![k.val + 1 - 1, 64 * b.val, 0] := by decide
/-- Where it lands in the receive buffer. -/
theorem e34_roff : ∀ (k : Fin 3) (b : Fin 4), (![3 - (k.val + 1), 64 * b.val, 0] : Fin 3 → ℕ) = ![(jrev (e34 (k, b))).val / 4, 64 * ((jrev (e34 (k, b))).val % 4), 0] := by decide
/-- Its receive semaphore's number. -/
theorem jrev_val : ∀ (k : Fin 3) (b : Fin 4), (![(3 - (k.val + 1)) * 4 + b.val] : Fin 1 → ℕ) = ![(jrev (e34 (k, b))).val] := by decide
/-- The step of a partial output. -/
theorem e34_div : ∀ (k : Fin 3) (b : Fin 4), (e34 (k, b)).val / 4 = k.val := by decide
/-- The block of a partial output. -/
theorem e34_mod : ∀ (k : Fin 3) (b : Fin 4), (⟨(e34 (k, b)).val % 4, Nat.mod_lt _ (by decide)⟩ : Fin 4) = b := by decide
/-- The partial output sent at a step. -/
theorem vrem_e34 (k : Fin 3) (b : Fin 4) : vrem I c (e34 (k, b)) = k0_pay4 (part I c (k.val + 1) b) := by
  unfold vrem
  rw [e34_mod, e34_div]

variable {arg3 : Memref sig .tc .vmem S1x256x1024 .f32} {harg3 : arg3.IsWhole}
variable {arg5 arg6 : Memref sig .tc .vmem S1x16x1x64x8x128 .f32} {harg5 : arg5.IsWhole} {harg6 : arg6.IsWhole}
variable {arg8 : Memref sig .tc .vmem S1x256x1024 .f32} {harg8 : arg8.IsWhole}
variable {harg2 : (Memref.whole main_v7).IsWhole} {harg4 : wqH.IsWhole} {harg7 : woH.IsWhole} {harg9 : xgM.IsWhole} {harg10 : qM.IsWhole}
  {harg11 : omM.IsWhole} {harg12 : orM.IsWhole} {harg13 : wqM.IsWhole} {harg14 : woM.IsWhole}

/-- The first point. -/
theorem body_first (i : grid0.Coords) (hs : (i 0).val = 0) (hb : (i 1).val = 0) (q : PosShare TreeShare) (Y : S1x256x1024.Idx → Elt F .f32)
    {Kt : _ → sProp (MT nD τ sig Unit (Elt F) ℕ UU ℕ)} :
    iprop(ctx I K c ∗ start I c ∗ anyAt (c : Thread nD τ) qM ∗ ow c (O₀ c) ∗ tab c q
        ∗ owns (c : Thread nD τ) arg3 fullShare (I.x c) ∗ owns (c : Thread nD τ) arg5 fullShare (I.kb c 0 (0 : Fin 4).val) ∗ owns (c : Thread nD τ) arg6 fullShare (I.vb c 0 (0 : Fin 4).val) ∗ owns (c : Thread nD τ) arg8 fullShare Y)
      ⊢ iprop((stC I c ∗ fam I c xr 0 ∗ gam c 0 ∗ owns (c : Thread nD τ) qM fullShare (qv I c 0) ∗ ow c (od c 0) ∗ tab c q
          ∗ owns (c : Thread nD τ) arg3 fullShare (I.x c) ∗ owns (c : Thread nD τ) arg5 fullShare (I.kb c 0 (0 : Fin 4).val) ∗ owns (c : Thread nD τ) arg6 fullShare (I.vb c 0 (0 : Fin 4).val) ∗ owns (c : Thread nD τ) arg8 fullShare (outStep I c 0 0 Y)
          -∗ Kt ⟨⟩)
        -∗ wp frame (wpE (defs₀ (F := F)) 𝒱₀ (c : Thread nD τ) none) Set.univ
          (cc0_body (F := F) i (Memref.whole main_v7) harg2 arg3 harg3 wqH harg4 arg5 harg5 arg6 harg6 woH harg7 arg8 harg8 xgM harg9 qM harg10
            omM harg11 orM harg12 wqM harg13 woM harg14 cc0_scratch6 cc0_scratch7 cc0_scratch8 cc0_scratch9 cc0_scratch10) Kt) := by
  have h4 : k0_cond4 i = 1#1 := (cond4_iff i).mpr hs
  have h5 : ¬ k0_cond5 i = 1#1 := fun h => by have := (cond5_iff i).mp h; omega
  have h6 : ¬ k0_cond6 i = 1#1 := fun h => by have := (cond6_iff i).mp h; omega
  rw [outStep_zero]
  simp only [cc0_body_eq_skeleton]; unfold cc0_body_skel
  simp only [dif_pos h4, dif_neg h5, dif_neg h6]
  simp only [Prog.lift, Prog.bind_op, Prog.bind_ret, Prog.pure_eq_ret, Prog.bind_assoc, wp_bind]
  iintro ⟨#Hc, Hst, Hq, HO, Htab, Hx, Hk, Hv, H8⟩ Hkt
  iapply (part12_first I K c i hs hb q (I.kb c 0 (0 : Fin 4).val) (I.vb c 0 (0 : Fin 4).val)) $$ [Hst Hq HO Htab Hx Hk Hv]
  · isplitr; · iexact Hc
    isplitl [Hst]; · iexact Hst
    isplitl [Hq]; · iexact Hq
    isplitl [HO]; · iexact HO
    isplitl [Htab]; · iexact Htab
    isplitl [Hx]; · iexact Hx
    isplitl [Hk] <;> iassumption
  iintro ⟨Hst, Hf, Hg, Hq, HO, Htab, Hx, Hk, Hv⟩
  dsimp only
  ihave Hst' := (stC_wo I c) $$ Hst
  icases Hst' with ⟨Hw, Hst⟩
  iapply (ph_own I c 0 (by rw [k0_off5_eq, hb]; rfl)
    (g := fun w => k0_pay2 (k0_pay7 (I.vb c 0 (0 : Fin 4).val)) (k0_pay8 (qrows I c 0 0) (I.kb c 0 (0 : Fin 4).val)) k0_pay9 w)) $$ [Hw H8]
  · isplitl [Hw] <;> iassumption
  iintro ⟨Hw, H8⟩
  ihave Hst' := Hst $$ Hw
  rw [wp_ret]
  imodintro
  iapply Hkt
  isplitl [Hst']; · iexact Hst'
  isplitl [Hf]; · iexact Hf
  isplitl [Hg]; · iexact Hg
  isplitl [Hq]; · iexact Hq
  isplitl [HO]; · iexact HO
  isplitl [Htab]; · iexact Htab
  isplitl [Hx]; · iexact Hx
  isplitl [Hk]; · iexact Hk
  isplitl [Hv]; · iexact Hv
  iexact H8

/-- The other points of the own step. -/
theorem body_own (i : grid0.Coords) (b : Fin 4) (hs : (i 0).val = 0) (hb : (i 1).val = b.val) (hb0 : b ≠ 0) (q : PosShare TreeShare) (Y : S1x256x1024.Idx → Elt F .f32)
    {Kt : _ → sProp (MT nD τ sig Unit (Elt F) ℕ UU ℕ)} :
    iprop(stC I c ∗ owns (c : Thread nD τ) qM fullShare (qv I c 0) ∗ tab c q
        ∗ owns (c : Thread nD τ) arg5 fullShare (I.kb c 0 b.val) ∗ owns (c : Thread nD τ) arg6 fullShare (I.vb c 0 b.val) ∗ owns (c : Thread nD τ) arg8 fullShare Y)
      ⊢ iprop((stC I c ∗ owns (c : Thread nD τ) qM fullShare (qv I c 0) ∗ tab c q
          ∗ owns (c : Thread nD τ) arg5 fullShare (I.kb c 0 b.val) ∗ owns (c : Thread nD τ) arg6 fullShare (I.vb c 0 b.val) ∗ owns (c : Thread nD τ) arg8 fullShare (outStep I c 0 b Y)
          -∗ Kt ⟨⟩)
        -∗ wp frame (wpE (defs₀ (F := F)) 𝒱₀ (c : Thread nD τ) none) Set.univ
          (cc0_body (F := F) i (Memref.whole main_v7) harg2 arg3 harg3 wqH harg4 arg5 harg5 arg6 harg6 woH harg7 arg8 harg8 xgM harg9 qM harg10
            omM harg11 orM harg12 wqM harg13 woM harg14 cc0_scratch6 cc0_scratch7 cc0_scratch8 cc0_scratch9 cc0_scratch10) Kt) := by
  have h4 : k0_cond4 i = 1#1 := (cond4_iff i).mpr hs
  have h5 : ¬ k0_cond5 i = 1#1 := fun h => by have := (cond5_iff i).mp h; omega
  have h6 : ¬ k0_cond6 i = 1#1 := fun h => by have := (cond6_iff i).mp h; omega
  rw [outStep_zero]
  simp only [cc0_body_eq_skeleton]; unfold cc0_body_skel
  simp only [dif_pos h4, dif_neg h5, dif_neg h6]
  simp only [Prog.lift, Prog.bind_op, Prog.bind_ret, Prog.pure_eq_ret, Prog.bind_assoc, wp_bind]
  iintro ⟨Hst, Hq, Htab, Hk, Hv, H8⟩ Hkt
  iapply (part12_mid I c i 0 b hb hb0 q (I.kb c 0 b.val) (I.vb c 0 b.val)) $$ [Hq Htab Hk Hv]
  · isplitl [Hq]; · iexact Hq
    isplitl [Htab]; · iexact Htab
    isplitl [Hk] <;> iassumption
  iintro ⟨Hq, Htab, Hk, Hv⟩
  dsimp only
  ihave Hst' := (stC_wo I c) $$ Hst
  icases Hst' with ⟨Hw, Hst⟩
  iapply (ph_own I c b (by rw [k0_off5_eq, hb])
    (g := fun w => k0_pay2 (k0_pay7 (I.vb c 0 b.val)) (k0_pay8 (qrows I c 0 b) (I.kb c 0 b.val)) k0_pay9 w)) $$ [Hw H8]
  · isplitl [Hw] <;> iassumption
  iintro ⟨Hw, H8⟩
  ihave Hst' := Hst $$ Hw
  rw [wp_ret]
  imodintro
  iapply Hkt
  isplitl [Hst']; · iexact Hst'
  isplitl [Hq]; · iexact Hq
  isplitl [Htab]; · iexact Htab
  isplitl [Hk]; · iexact Hk
  isplitl [Hv]; · iexact Hv
  iexact H8

/-- The first point of a step of another device. -/
theorem body_next (i : grid0.Coords) (k : Fin 3) (b : Fin 4) (hb0 : b = 0) (hs : (i 0).val = k.val + 1) (hb : (i 1).val = b.val) (q : PosShare TreeShare)
    {Kt : _ → sProp (MT nD τ sig Unit (Elt F) ℕ UU ℕ)} :
    iprop(ctx I K c ∗ stC I c ∗ fam I c xr k.val ∗ gam c (e34 (k, b)).val ∗ anyAt (c : Thread nD τ) qM ∗ ow c (od c ((e34 (k, b)).val + 4)) ∗ tab c q
        ∗ owns (c : Thread nD τ) arg5 fullShare (I.kb c (k.val + 1) b.val) ∗ owns (c : Thread nD τ) arg6 fullShare (I.vb c (k.val + 1) b.val))
      ⊢ iprop((stC I c ∗ fam I c xr (k.val + 1) ∗ gam c ((e34 (k, b)).val + 1) ∗ owns (c : Thread nD τ) qM fullShare (qv I c (k.val + 1)) ∗ ow c (od c ((e34 (k, b)).val + 4 + 1)) ∗ tab c q
          ∗ owns (c : Thread nD τ) arg5 fullShare (I.kb c (k.val + 1) b.val) ∗ owns (c : Thread nD τ) arg6 fullShare (I.vb c (k.val + 1) b.val)
          -∗ Kt ⟨⟩)
        -∗ wp frame (wpE (defs₀ (F := F)) 𝒱₀ (c : Thread nD τ) none) Set.univ
          (cc0_body (F := F) i (Memref.whole main_v7) harg2 arg3 harg3 wqH harg4 arg5 harg5 arg6 harg6 woH harg7 arg8 harg8 xgM harg9 qM harg10
            omM harg11 orM harg12 wqM harg13 woM harg14 cc0_scratch6 cc0_scratch7 cc0_scratch8 cc0_scratch9 cc0_scratch10) Kt) := by
  subst hb0
  have h4 : ¬ k0_cond4 i = 1#1 := fun h => by have := (cond4_iff i).mp h; omega
  have h5 : k0_cond5 i = 1#1 := (cond5_iff i).mpr (by omega)
  have h6 : ¬ k0_cond6 i = 1#1 := fun h => by have := (cond6_iff i).mp h; omega
  simp only [cc0_body_eq_skeleton]; unfold cc0_body_skel
  simp only [dif_neg h4, dif_pos h5, dif_neg h6]
  simp only [k0_part4_eq_skeleton, k0_part4_skel, Prog.lift, Prog.bind_op, Prog.bind_ret, Prog.pure_eq_ret, Prog.bind_assoc, wp_bind]
  iintro ⟨#Hc, Hst, Hf, Hg, Hq, HO, Htab, Hk, Hv⟩ Hkt
  ihave Hst' := (stC_wqo I c) $$ Hst
  icases Hst' with ⟨Hwq, Hw, Hst⟩
  iapply (part12_next I K c i k hs hb q _ (I.kb c (k.val + 1) (0 : Fin 4).val) (I.vb c (k.val + 1) (0 : Fin 4).val)) $$ [Hwq Hf Hq HO Htab Hk Hv]
  · isplitr; · iexact Hc
    isplitl [Hwq]; · iexact Hwq
    isplitl [Hf]; · iexact Hf
    isplitl [Hq]; · iexact Hq
    isplitl [HO]; · iexact HO
    isplitl [Htab]; · iexact Htab
    isplitl [Hk] <;> iassumption
  iintro ⟨Hwq, Hf, Hq, HO, Htab, Hk, Hv⟩
  dsimp only
  iapply (ph_send I K c (e34 (k, 0)) (Fin.ext ((dev7_at c i).trans (by rw [hs, oto_e34]))) (by rw [off6_at i (by omega), hs, hb, e34_off])
    (by rw [off10_at i (by omega), hs, hb, e34_off]) (orS_eq _ (by rw [k0_off9_eq, hs, hb, e34_roff]) _ _)
    (sem_os _ (by rw [off7_at i (by omega), hs, hb, e34_val]) _ _) (sem_ro _ (by rw [off8_at i (by omega), hs, hb, jrev_val]) _ _)
    (g := fun w => k0_pay4 (k0_pay1 (k0_pay7 (I.vb c (k.val + 1) (0 : Fin 4).val)) (k0_pay8 (qrows I c (k.val + 1) 0) (I.kb c (k.val + 1) (0 : Fin 4).val)) k0_pay9 w))
    (vrem_e34 I c k 0).symm) $$ [Hw HO Hg]
  · isplitr; · iexact Hc
    isplitl [Hw]; · iexact Hw
    isplitl [HO] <;> iassumption
  iintro ⟨Hw, HO, Hg⟩
  ihave Hst' := Hst $$ [Hwq Hw]
  · isplitl [Hwq] <;> iassumption
  rw [wp_ret]
  imodintro
  iapply Hkt
  isplitl [Hst']; · iexact Hst'
  isplitl [Hf]; · iexact Hf
  isplitl [Hg]; · iexact Hg
  isplitl [Hq]; · iexact Hq
  isplitl [HO]; · iexact HO
  isplitl [Htab]; · iexact Htab
  isplitl [Hk] <;> iassumption

/-- The other points of a step of another device, the last but for. -/
theorem body_send (i : grid0.Coords) (k : Fin 3) (b : Fin 4) (hb0 : b ≠ 0) (hs : (i 0).val = k.val + 1) (hb : (i 1).val = b.val) (hl : ¬ ((i 0).val = 3 ∧ (i 1).val = 3)) (q : PosShare TreeShare)
    {Kt : _ → sProp (MT nD τ sig Unit (Elt F) ℕ UU ℕ)} :
    iprop(ctx I K c ∗ stC I c ∗ gam c (e34 (k, b)).val ∗ owns (c : Thread nD τ) qM fullShare (qv I c (k.val + 1)) ∗ ow c (od c ((e34 (k, b)).val + 4)) ∗ tab c q
        ∗ owns (c : Thread nD τ) arg5 fullShare (I.kb c (k.val + 1) b.val) ∗ owns (c : Thread nD τ) arg6 fullShare (I.vb c (k.val + 1) b.val))
      ⊢ iprop((stC I c ∗ gam c ((e34 (k, b)).val + 1) ∗ owns (c : Thread nD τ) qM fullShare (qv I c (k.val + 1)) ∗ ow c (od c ((e34 (k, b)).val + 4 + 1)) ∗ tab c q
          ∗ owns (c : Thread nD τ) arg5 fullShare (I.kb c (k.val + 1) b.val) ∗ owns (c : Thread nD τ) arg6 fullShare (I.vb c (k.val + 1) b.val)
          -∗ Kt ⟨⟩)
        -∗ wp frame (wpE (defs₀ (F := F)) 𝒱₀ (c : Thread nD τ) none) Set.univ
          (cc0_body (F := F) i (Memref.whole main_v7) harg2 arg3 harg3 wqH harg4 arg5 harg5 arg6 harg6 woH harg7 arg8 harg8 xgM harg9 qM harg10
            omM harg11 orM harg12 wqM harg13 woM harg14 cc0_scratch6 cc0_scratch7 cc0_scratch8 cc0_scratch9 cc0_scratch10) Kt) := by
  have h4 : ¬ k0_cond4 i = 1#1 := fun h => by have := (cond4_iff i).mp h; omega
  have h5 : k0_cond5 i = 1#1 := (cond5_iff i).mpr (by omega)
  have h6 : ¬ k0_cond6 i = 1#1 := fun h => hl ((cond6_iff i).mp h)
  simp only [cc0_body_eq_skeleton]; unfold cc0_body_skel
  simp only [dif_neg h4, dif_pos h5, dif_neg h6]
  simp only [k0_part4_eq_skeleton, k0_part4_skel, Prog.lift, Prog.bind_op, Prog.bind_ret, Prog.pure_eq_ret, Prog.bind_assoc, wp_bind]
  iintro ⟨#Hc, Hst, Hg, Hq, HO, Htab, Hk, Hv⟩ Hkt
  ihave Hst' := (stC_wo I c) $$ Hst
  icases Hst' with ⟨Hw, Hst⟩
  iapply (part12_mid I c i (k.val + 1) b hb hb0 q (I.kb c (k.val + 1) b.val) (I.vb c (k.val + 1) b.val)) $$ [Hq Htab Hk Hv]
  · isplitl [Hq]; · iexact Hq
    isplitl [Htab]; · iexact Htab
    isplitl [Hk] <;> iassumption
  iintro ⟨Hq, Htab, Hk, Hv⟩
  dsimp only
  iapply (ph_send I K c (e34 (k, b)) (Fin.ext ((dev7_at c i).trans (by rw [hs, oto_e34]))) (by rw [off6_at i (by omega), hs, hb, e34_off])
    (by rw [off10_at i (by omega), hs, hb, e34_off]) (orS_eq _ (by rw [k0_off9_eq, hs, hb, e34_roff]) _ _)
    (sem_os _ (by rw [off7_at i (by omega), hs, hb, e34_val]) _ _) (sem_ro _ (by rw [off8_at i (by omega), hs, hb, jrev_val]) _ _)
    (g := fun w => k0_pay4 (k0_pay1 (k0_pay7 (I.vb c (k.val + 1) b.val)) (k0_pay8 (qrows I c (k.val + 1) b) (I.kb c (k.val + 1) b.val)) k0_pay9 w))
    (vrem_e34 I c k b).symm) $$ [Hw HO Hg]
  · isplitr; · iexact Hc
    isplitl [Hw]; · iexact Hw
    isplitl [HO] <;> iassumption
  iintro ⟨Hw, HO, Hg⟩
  ihave Hst' := Hst $$ Hw
  rw [wp_ret]
  imodintro
  iapply Hkt
  isplitl [Hst']; · iexact Hst'
  isplitl [Hg]; · iexact Hg
  isplitl [Hq]; · iexact Hq
  isplitl [HO]; · iexact HO
  isplitl [Htab]; · iexact Htab
  isplitl [Hk] <;> iassumption

end Root
end Cert.KernelIdeal.Attn
-- ==== Proof.KernelIdeal.Last.lean ====
/-
  The last point: everything waited for, the received partial outputs added up.
-/
module

public import proofs.«01_k».proof.Proof.Gen.KernelIdeal
public import proofs.«01_k».proof.Proof.Gen.KernelIdeal.Skeleton
public import proofs.«01_k».proof.Proof.KernelIdeal.Root
public import Idealize.ShloMosaic.Lib.Pipeline.Regions
public import Idealize.ShloMosaic.Lib.Pipeline.Kit
public import Idealize.ShloMosaic.Lib.Rounds
public import Idealize.ShloMosaic.Lib.Memref
public import Idealize.ShloMosaic.Lib.MemrefSat
public import Idealize.ShloMosaic.Lib.Tactic

@[expose] public section

set_option synthInstance.maxSize 4096

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Attn
open Facts₀ Facts

variable {F : FTy → Type} [FloatOps F] [∀ e, Nonempty (Elt F e)]

local notation "𝕄" => MT nD τ sig Unit (Elt F) ℕ UU ℕ
section Last

variable (I : In F) (K : GSem nD τ sig → ℕ) (c : Dev nD)
variable {arg3 : Memref sig .tc .vmem S1x256x1024 .f32} {harg3 : arg3.IsWhole}
variable {arg5 arg6 : Memref sig .tc .vmem S1x16x1x64x8x128 .f32} {harg5 : arg5.IsWhole} {harg6 : arg6.IsWhole}
variable {arg8 : Memref sig .tc .vmem S1x256x1024 .f32} {harg8 : arg8.IsWhole}
variable {harg2 : (Memref.whole main_v7).IsWhole} {harg4 : wqH.IsWhole} {harg7 : woH.IsWhole} {harg9 : xgM.IsWhole} {harg10 : qM.IsWhole}
  {harg11 : omM.IsWhole} {harg12 : orM.IsWhole} {harg13 : wqM.IsWhole} {harg14 : woM.IsWhole}

/-- The last point. -/
theorem body_last (i : grid0.Coords) (hs : (i 0).val = 3) (hb : (i 1).val = 3) (q : PosShare TreeShare) (Y : S1x256x1024.Idx → Elt F .f32)
    {Kt : _ → sProp (MT nD τ sig Unit (Elt F) ℕ UU ℕ)} :
    iprop(ctx I K c ∗ stC I c ∗ gam c (e34 (2, 3)).val ∗ owns (c : Thread nD τ) qM fullShare (qv I c 3) ∗ ow c (od c ((e34 (2, 3)).val + 4)) ∗ tab c q
        ∗ owns (c : Thread nD τ) arg5 fullShare (I.kb c 3 (3 : Fin 4).val) ∗ owns (c : Thread nD τ) arg6 fullShare (I.vb c 3 (3 : Fin 4).val) ∗ owns (c : Thread nD τ) arg8 fullShare Y)
      ⊢ iprop((owns (c : Thread nD τ) wqM fullShare (I.wq c) ∗ owns (c : Thread nD τ) woM fullShare (I.wo c)
            ∗ owns (c : Thread nD τ) wqH fullShare (I.wq c) ∗ owns (c : Thread nD τ) woH fullShare (I.wo c)
            ∗ owns (c : Thread nD τ) (xgS 0) fullShare.left (xb I c)
            ∗ atPos ER (bC c) 1 ∅ 0 ∗ (bigSep Finset.univ fun k : Fin 2 => atPos ER (dC c (wr k)) 1 ∅ 0)
            ∗ fam I c xs 3 ∗ (bigSep Finset.univ fun j : Fin 12 => atPos ER (dC c (ro j)) 1 ∅ 0) ∗ owns (c : Thread nD τ) orM fullShare (orv I c) ∗ fam I c os 12
            ∗ owns (c : Thread nD τ) qM fullShare (qv I c 3) ∗ ow c (od c 16) ∗ tab c q
            ∗ owns (c : Thread nD τ) arg5 fullShare (I.kb c 3 (3 : Fin 4).val) ∗ owns (c : Thread nD τ) arg6 fullShare (I.vb c 3 (3 : Fin 4).val) ∗ owns (c : Thread nD τ) arg8 fullShare (outStep I c 3 3 Y)
          -∗ |={Set.univ}=> Kt ⟨⟩)
        -∗ wp frame (wpE (defs₀ (F := F)) 𝒱₀ (c : Thread nD τ) none) Set.univ
          (cc0_body (F := F) i (Memref.whole main_v7) harg2 arg3 harg3 wqH harg4 arg5 harg5 arg6 harg6 woH harg7 arg8 harg8 xgM harg9 qM harg10
            omM harg11 orM harg12 wqM harg13 woM harg14 cc0_scratch6 cc0_scratch7 cc0_scratch8 cc0_scratch9 cc0_scratch10) Kt) := by
  have h4 : ¬ k0_cond4 i = 1#1 := fun h => by have := (cond4_iff i).mp h; omega
  have h5 : k0_cond5 i = 1#1 := (cond5_iff i).mpr (by omega)
  have h6 : k0_cond6 i = 1#1 := (cond6_iff i).mpr ⟨hs, hb⟩
  rw [outStep_last]
  simp only [cc0_body_eq_skeleton]; unfold cc0_body_skel
  simp only [dif_neg h4, dif_pos h5, dif_pos h6]
  simp only [k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, Prog.lift, Prog.bind_op, Prog.bind_ret, Prog.pure_eq_ret, Prog.bind_assoc, wp_bind]
  unfold stC
  iintro ⟨#Hc, ⟨Hwq, Hw, HwqH, HwoH, Hx0, Hbar, Hwr, Hxs, Hro⟩, Hg, Hq, HO, Htab, Hk, Hv, H8⟩ Hkt
  iapply (part12_mid I c i 3 3 hb (by decide) q (I.kb c 3 (3 : Fin 4).val) (I.vb c 3 (3 : Fin 4).val)) $$ [Hq Htab Hk Hv]
  · isplitl [Hq]; · iexact Hq
    isplitl [Htab]; · iexact Htab
    isplitl [Hk] <;> iassumption
  iintro ⟨Hq, Htab, Hk, Hv⟩
  dsimp only
  iapply (ph_send I K c (e34 (2, 3)) (Fin.ext ((dev7_at c i).trans (by rw [hs, oto_e34]; rfl))) (by rw [off6_at i (by omega), hs, hb]; decide)
    (by rw [off10_at i (by omega), hs, hb]; decide) (orS_eq _ (by rw [k0_off9_eq, hs, hb]; decide) _ _)
    (sem_os _ (by rw [off7_at i (by omega), hs, hb]; decide) _ _) (sem_ro _ (by rw [off8_at i (by omega), hs, hb]; decide) _ _)
    (g := fun w => k0_pay4 (k0_pay1 (k0_pay7 (I.vb c 3 (3 : Fin 4).val)) (k0_pay8 (qrows I c 3 3) (I.kb c 3 (3 : Fin 4).val)) k0_pay9 w))
    (vrem_e34 I c 2 3).symm) $$ [Hw HO Hg]
  · isplitr; · iexact Hc
    isplitl [Hw]; · iexact Hw
    isplitl [HO] <;> iassumption
  iintro ⟨Hw, HO, Hg⟩
  ihave HO' := (show ow c (od c ((e34 (2, 3)).val + 4 + 1)) ⊢ (ow c (od c 16) : sProp (MT nD τ sig Unit (Elt F) ℕ UU ℕ)) from by
    rw [show (e34 (2, 3)).val + 4 + 1 = 16 from by decide]) $$ HO
  ihave Hos := (show gam c ((e34 (2, 3)).val + 1) ⊢ (fam I c os 0 : sProp (MT nD τ sig Unit (Elt F) ℕ UU ℕ)) from by
    rw [show (e34 (2, 3)).val + 1 = 12 from by decide]; exact gam_done I c) $$ Hg
  irename HO' => HO
  iapply (step_famN I K c ro 0 1 (by decide) rfl (sem_ro 0 rfl _ _) rfl) $$ [HO Hro]
  · isplitr; · iexact Hc
    isplitl [HO] <;> iassumption
  iintro ⟨HO, Hro⟩
  iapply (step_famN I K c ro 1 2 (by decide) rfl (sem_ro 1 rfl _ _) rfl) $$ [HO Hro]
  · isplitr; · iexact Hc
    isplitl [HO] <;> iassumption
  iintro ⟨HO, Hro⟩
  iapply (step_famN I K c ro 2 3 (by decide) rfl (sem_ro 2 rfl _ _) rfl) $$ [HO Hro]
  · isplitr; · iexact Hc
    isplitl [HO] <;> iassumption
  iintro ⟨HO, Hro⟩
  iapply (step_famN I K c ro 3 4 (by decide) rfl (sem_ro 3 rfl _ _) rfl) $$ [HO Hro]
  · isplitr; · iexact Hc
    isplitl [HO] <;> iassumption
  iintro ⟨HO, Hro⟩
  iapply (step_famN I K c ro 4 5 (by decide) rfl (sem_ro 4 rfl _ _) rfl) $$ [HO Hro]
  · isplitr; · iexact Hc
    isplitl [HO] <;> iassumption
  iintro ⟨HO, Hro⟩
  iapply (step_famN I K c ro 5 6 (by decide) rfl (sem_ro 5 rfl _ _) rfl) $$ [HO Hro]
  · isplitr; · iexact Hc
    isplitl [HO] <;> iassumption
  iintro ⟨HO, Hro⟩
  iapply (step_famN I K c ro 6 7 (by decide) rfl (sem_ro 6 rfl _ _) rfl) $$ [HO Hro]
  · isplitr; · iexact Hc
    isplitl [HO] <;> iassumption
  iintro ⟨HO, Hro⟩
  iapply (step_famN I K c ro 7 8 (by decide) rfl (sem_ro 7 rfl _ _) rfl) $$ [HO Hro]
  · isplitr; · iexact Hc
    isplitl [HO] <;> iassumption
  iintro ⟨HO, Hro⟩
  iapply (step_famN I K c ro 8 9 (by decide) rfl (sem_ro 8 rfl _ _) rfl) $$ [HO Hro]
  · isplitr; · iexact Hc
    isplitl [HO] <;> iassumption
  iintro ⟨HO, Hro⟩
  iapply (step_famN I K c ro 9 10 (by decide) rfl (sem_ro 9 rfl _ _) rfl) $$ [HO Hro]
  · isplitr; · iexact Hc
    isplitl [HO] <;> iassumption
  iintro ⟨HO, Hro⟩
  iapply (step_famN I K c ro 10 11 (by decide) rfl (sem_ro 10 rfl _ _) rfl) $$ [HO Hro]
  · isplitr; · iexact Hc
    isplitl [HO] <;> iassumption
  iintro ⟨HO, Hro⟩
  iapply (step_famN I K c ro 11 12 (by decide) rfl (sem_ro 11 rfl _ _) rfl) $$ [HO Hro]
  · isplitr; · iexact Hc
    isplitl [HO] <;> iassumption
  iintro ⟨HO, Hro⟩
  ihave Hro' := (fam_full I c ro) $$ Hro
  icases Hro' with ⟨Hroa, Hrop⟩
  ihave Hor := (or_all I c) $$ Hrop
  iapply (wp_loadW 𝒱₀ (c : Thread nD τ) none (m := arg8) (by decide)) $$ H8
  iintro H8
  iapply (step_rload I c 0) $$ Hor
  iintro Hor
  iapply (step_rload I c 1) $$ Hor
  iintro Hor
  iapply (step_rload I c 2) $$ Hor
  iintro Hor
  iapply (wp_loadW 𝒱₀ (c : Thread nD τ) none (m := arg8) (by decide)) $$ H8
  iintro H8
  iapply (wp_storeW 𝒱₀ (c : Thread nD τ) none (m := arg8) (by decide)) $$ H8
  iintro H8
  iapply (step_famN I K c xs 0 1 (by decide) rfl (sem_xs 0 rfl _ _) rfl) $$ [HO Hxs]
  · isplitr; · iexact Hc
    isplitl [HO] <;> iassumption
  iintro ⟨HO, Hxs⟩
  iapply (step_famN I K c os 0 1 (by decide) rfl (sem_os 0 rfl _ _) rfl) $$ [HO Hos]
  · isplitr; · iexact Hc
    isplitl [HO] <;> iassumption
  iintro ⟨HO, Hos⟩
  iapply (step_famN I K c os 1 2 (by decide) rfl (sem_os 1 rfl _ _) rfl) $$ [HO Hos]
  · isplitr; · iexact Hc
    isplitl [HO] <;> iassumption
  iintro ⟨HO, Hos⟩
  iapply (step_famN I K c os 2 3 (by decide) rfl (sem_os 2 rfl _ _) rfl) $$ [HO Hos]
  · isplitr; · iexact Hc
    isplitl [HO] <;> iassumption
  iintro ⟨HO, Hos⟩
  iapply (step_famN I K c os 3 4 (by decide) rfl (sem_os 3 rfl _ _) rfl) $$ [HO Hos]
  · isplitr; · iexact Hc
    isplitl [HO] <;> iassumption
  iintro ⟨HO, Hos⟩
  iapply (step_famN I K c xs 1 2 (by decide) rfl (sem_xs 1 rfl _ _) rfl) $$ [HO Hxs]
  · isplitr; · iexact Hc
    isplitl [HO] <;> iassumption
  iintro ⟨HO, Hxs⟩
  iapply (step_famN I K c os 4 5 (by decide) rfl (sem_os 4 rfl _ _) rfl) $$ [HO Hos]
  · isplitr; · iexact Hc
    isplitl [HO] <;> iassumption
  iintro ⟨HO, Hos⟩
  iapply (step_famN I K c os 5 6 (by decide) rfl (sem_os 5 rfl _ _) rfl) $$ [HO Hos]
  · isplitr; · iexact Hc
    isplitl [HO] <;> iassumption
  iintro ⟨HO, Hos⟩
  iapply (step_famN I K c os 6 7 (by decide) rfl (sem_os 6 rfl _ _) rfl) $$ [HO Hos]
  · isplitr; · iexact Hc
    isplitl [HO] <;> iassumption
  iintro ⟨HO, Hos⟩
  iapply (step_famN I K c os 7 8 (by decide) rfl (sem_os 7 rfl _ _) rfl) $$ [HO Hos]
  · isplitr; · iexact Hc
    isplitl [HO] <;> iassumption
  iintro ⟨HO, Hos⟩
  iapply (step_famN I K c xs 2 3 (by decide) rfl (sem_xs 2 rfl _ _) rfl) $$ [HO Hxs]
  · isplitr; · iexact Hc
    isplitl [HO] <;> iassumption
  iintro ⟨HO, Hxs⟩
  iapply (step_famN I K c os 8 9 (by decide) rfl (sem_os 8 rfl _ _) rfl) $$ [HO Hos]
  · isplitr; · iexact Hc
    isplitl [HO] <;> iassumption
  iintro ⟨HO, Hos⟩
  iapply (step_famN I K c os 9 10 (by decide) rfl (sem_os 9 rfl _ _) rfl) $$ [HO Hos]
  · isplitr; · iexact Hc
    isplitl [HO] <;> iassumption
  iintro ⟨HO, Hos⟩
  iapply (step_famN I K c os 10 11 (by decide) rfl (sem_os 10 rfl _ _) rfl) $$ [HO Hos]
  · isplitr; · iexact Hc
    isplitl [HO] <;> iassumption
  iintro ⟨HO, Hos⟩
  iapply (step_famN I K c os 11 12 (by decide) rfl (sem_os 11 rfl _ _) rfl) $$ [HO Hos]
  · isplitr; · iexact Hc
    isplitl [HO] <;> iassumption
  iintro ⟨HO, Hos⟩
  rw [wp_ret]
  iapply Hkt
  isplitl [Hwq]; · iexact Hwq
  isplitl [Hw]; · iexact Hw
  isplitl [HwqH]; · iexact HwqH
  isplitl [HwoH]; · iexact HwoH
  isplitl [Hx0]; · iexact Hx0
  isplitl [Hbar]; · iexact Hbar
  isplitl [Hwr]; · iexact Hwr
  isplitl [Hxs]; · iexact Hxs
  isplitl [Hroa]; · iexact Hroa
  isplitl [Hor]; · iexact Hor
  isplitl [Hos]; · iexact Hos
  isplitl [Hq]; · iexact Hq
  isplitl [HO]; · iexact HO
  isplitl [Htab]; · iexact Htab
  isplitl [Hk]; · iexact Hk
  isplitl [Hv]; · iexact Hv
  iexact H8

end Last
end Cert.KernelIdeal.Attn
-- ==== Proof.KernelIdeal.Close.lean ====
module

public import proofs.«01_k».proof.Proof.Gen.KernelIdeal
public import proofs.«01_k».proof.Proof.Gen.KernelIdeal.Skeleton
public import proofs.«01_k».proof.Proof.KernelIdeal.Last
public import Idealize.ShloMosaic.Lib.Pipeline.Regions
public import Idealize.ShloMosaic.Lib.Pipeline.Kit
public import Idealize.ShloMosaic.Lib.Rounds
public import Idealize.ShloMosaic.Lib.Memref
public import Idealize.ShloMosaic.Lib.MemrefSat
public import Idealize.ShloMosaic.Lib.Tactic

@[expose] public section

set_option synthInstance.maxSize 4096

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Attn
open Facts₀ Facts

variable {F : FTy → Type} [FloatOps F] [∀ e, Nonempty (Elt F e)]

local notation "𝕄" => MT nD τ sig Unit (Elt F) ℕ UU ℕ

section Close

variable (I : In F) (K : GSem nD τ sig → ℕ) (c : Dev nD)

/-- What a device is left with after the last point: every semaphore closed at zero, every scratch buffer whole, the weights. -/
def done : sProp 𝕄 :=
  iprop(semVal (bC c) 0 ∗ (bigSep Finset.univ fun r : Role => semVal (dC c r) 0)
    ∗ anyAt (c : Thread nD τ) xgM ∗ anyAt (c : Thread nD τ) qM ∗ anyAt (c : Thread nD τ) omM ∗ anyAt (c : Thread nD τ) orM
    ∗ anyAt (c : Thread nD τ) wqM ∗ anyAt (c : Thread nD τ) woM
    ∗ owns (c : Thread nD τ) wqH fullShare (I.wq c) ∗ owns (c : Thread nD τ) woH fullShare (I.wo c))

/-- A semaphore all of whose duties are done is closed. -/
theorem close_d (r : Role) : iprop(ctx I K c ∗ atPos ER (dC c r) 1 ∅ 0) ⊢ (|={Set.univ}=> semVal (dC c r) 0 : sProp 𝕄) := by
  have h := Rounds.cell_close ER (Rd I) (g := dC c r) (κ := K (dC c r)) (Set.mem_univ (K (dC c r))) id (R := 1) (duties_later I (dC c r))
  iintro ⟨#Hc, H⟩
  ihave Hi := (ctx_inv I K c c r) $$ Hc
  iapply h
  isplitl [Hi] <;> iassumption

/-- The barrier cell closes at zero once its round is over. -/
theorem close_b : iprop(ctx I K c ∗ atPos ER (bC c) 1 ∅ 0) ⊢ (|={Set.univ}=> semVal (bC c) 0 : sProp 𝕄) := by
  have h := Rounds.cell_close ER (Rd I) (g := bC c) (κ := K (bC c)) (Set.mem_univ (K (bC c))) id (R := 1) (duties_later I (bC c))
  iintro ⟨#Hc, H⟩
  ihave Hi := (ctx_binv I K c c) $$ Hc
  iapply h
  isplitl [Hi] <;> iassumption

/-- A family of them. -/
theorem close_bs {n : ℕ} (f : Fin n → Role) : iprop(ctx I K c ∗ bigSep Finset.univ fun j : Fin n => atPos ER (dC c (f j)) 1 ∅ 0)
    ⊢ (|={Set.univ}=> bigSep Finset.univ fun j : Fin n => semVal (dC c (f j)) 0 : sProp 𝕄) := by
  refine BIBase.Entails.trans ?_ (BI.bigSep_fupd Finset.univ _)
  refine BIBase.Entails.trans ?_ (bs_mono (fun j => close_d I K c (f j)))
  rw [bs_sep]
  iintro ⟨#Hc, H⟩
  isplitr
  · iapply (BI.bigSep_intro_persistent (S := Finset.univ) fun (j : Fin n) _ => (BI.Entails.refl (ctx I K c : sProp 𝕄))); iexact Hc
  iexact H

/-- A family of finished waits: the positions past the round, and what landed. -/
theorem fam_out {n : ℕ} (f : Fin n → Role) : fam I c f n
    ⊢ iprop((bigSep Finset.univ fun j : Fin n => atPos ER (dC c (f j)) 1 ∅ 0) ∗ bigSep Finset.univ fun j : Fin n => pay I c (f j)) := by
  rw [← bs_sep]
  unfold fam
  refine bs_mono fun j => ?_
  rw [if_pos j.isLt]; exact BI.Entails.refl _

/-- The semaphores by role. -/
theorem roles (Φ : Role → sProp 𝕄) : bigSep Finset.univ Φ = iprop((bigSep Finset.univ fun k => Φ (xs k)) ∗ (bigSep Finset.univ fun k => Φ (xr k))
    ∗ (bigSep Finset.univ fun k => Φ (os k)) ∗ (bigSep Finset.univ fun k => Φ (ro k)) ∗ bigSep Finset.univ fun k => Φ (wr k)) := by
  rw [bigSep_univ_sum, bigSep_univ_sum, bigSep_univ_sum, bigSep_univ_sum]; rfl

/-- The activations' buffer back whole. -/
theorem xg_back : iprop(owns (c : Thread nD τ) (xgS 0) fullShare.left (xb I c) ∗ (bigSep Finset.univ fun k : Fin 3 => pay I c (xs k))
    ∗ bigSep Finset.univ fun k : Fin 3 => pay I c (xr k)) ⊢ (anyAt (c : Thread nD τ) xgM : sProp 𝕄) := by
  refine BIBase.Entails.trans ?_ (xg_join c)
  rw [bs3, bs3, bs4]
  unfold pay
  iintro ⟨H0, ⟨Ha, Hb, Hd⟩, ⟨H1, H2, H3⟩⟩
  isplitl [H0 Ha Hb Hd]
  · iapply (anyAt_intro (c : Thread nD τ) (xb I c))
    iapply (x0_join c (xb I c))
    isplitl [H0]; · iexact H0
    isplitl [Ha]; · iexact Ha
    isplitl [Hb]; · iexact Hb
    iexact Hd
  isplitl [H1]; · iapply (anyAt_intro (c : Thread nD τ) (m := xgS 1) (xb I (nb c 1))); iexact H1
  isplitl [H2]; · iapply (anyAt_intro (c : Thread nD τ) (m := xgS 2) (xb I (nb c 2))); iexact H2
  iapply (anyAt_intro (c : Thread nD τ) (m := xgS 3) (xb I (nb c 3))); iexact H3

/-- The blocks that were sent make up the send buffer again. -/
theorem om_back : (bigSep Finset.univ fun j : Fin 12 => pay I c (os j)) ⊢ (anyAt (c : Thread nD τ) omM : sProp 𝕄) := by
  refine BIBase.Entails.trans (bs_mono fun j => ?_) (om_join c)
  exact anyAt_intro (c : Thread nD τ) (m := omS j) (vrem I c j)

/-- All of it together. -/
theorem close_all : iprop(ctx I K c ∗ owns (c : Thread nD τ) wqM fullShare (I.wq c) ∗ owns (c : Thread nD τ) woM fullShare (I.wo c)
      ∗ owns (c : Thread nD τ) wqH fullShare (I.wq c) ∗ owns (c : Thread nD τ) woH fullShare (I.wo c)
      ∗ owns (c : Thread nD τ) (xgS 0) fullShare.left (xb I c)
      ∗ atPos ER (bC c) 1 ∅ 0 ∗ (bigSep Finset.univ fun k : Fin 2 => atPos ER (dC c (wr k)) 1 ∅ 0)
      ∗ fam I c xs 3 ∗ (bigSep Finset.univ fun j : Fin 12 => atPos ER (dC c (ro j)) 1 ∅ 0) ∗ owns (c : Thread nD τ) orM fullShare (orv I c) ∗ fam I c os 12
      ∗ owns (c : Thread nD τ) qM fullShare (qv I c 3) ∗ fam I c xr 3) ⊢ (|={Set.univ}=> done I c : sProp 𝕄) := by
  unfold done
  rw [roles]
  iintro ⟨#Hc, Hwq, Hwo, HwqH, HwoH, Hx0, Hbar, Hwr, Hxs, Hro, Hor, Hos, Hq, Hxr⟩
  ihave Hxs' := (fam_out I c xs) $$ Hxs
  icases Hxs' with ⟨Hxs, Pxs⟩
  ihave Hxr' := (fam_out I c xr) $$ Hxr
  icases Hxr' with ⟨Hxr, Pxr⟩
  ihave Hos' := (fam_out I c os) $$ Hos
  icases Hos' with ⟨Hos, Pos⟩
  imod (close_b I K c) $$ [Hbar] with Hbar
  · isplitr; · iexact Hc
    iexact Hbar
  imod (close_bs I K c xs) $$ [Hxs] with Hxs
  · isplitr; · iexact Hc
    iexact Hxs
  imod (close_bs I K c xr) $$ [Hxr] with Hxr
  · isplitr; · iexact Hc
    iexact Hxr
  imod (close_bs I K c os) $$ [Hos] with Hos
  · isplitr; · iexact Hc
    iexact Hos
  imod (close_bs I K c ro) $$ [Hro] with Hro
  · isplitr; · iexact Hc
    iexact Hro
  imod (close_bs I K c wr) $$ [Hwr] with Hwr
  · isplitr; · iexact Hc
    iexact Hwr
  imodintro
  isplitl [Hbar]; · iexact Hbar
  isplitl [Hxs Hxr Hos Hro Hwr]
  · isplitl [Hxs]; · iexact Hxs
    isplitl [Hxr]; · iexact Hxr
    isplitl [Hos]; · iexact Hos
    isplitl [Hro]; · iexact Hro
    iexact Hwr
  isplitl [Hx0 Pxs Pxr]
  · iapply (xg_back I c)
    isplitl [Hx0]; · iexact Hx0
    isplitl [Pxs] <;> iassumption
  isplitl [Hq]; · iapply (anyAt_intro (c : Thread nD τ) (qv I c 3)); iexact Hq
  isplitl [Pos]; · iapply (om_back I c); iexact Pos
  isplitl [Hor]; · iapply (anyAt_intro (c : Thread nD τ) (orv I c)); iexact Hor
  isplitl [Hwq]; · iapply (anyAt_intro (c : Thread nD τ) (I.wq c)); iexact Hwq
  isplitl [Hwo]; · iapply (anyAt_intro (c : Thread nD τ) (I.wo c)); iexact Hwo
  isplitl [HwqH] <;> iassumption

end Close

end Cert.KernelIdeal.Attn
-- ==== Proof.KernelIdeal.Data.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.KernelIdeal.Close
public import Idealize.ShloMosaic.Lib.Pipeline.Regions
public import Idealize.ShloMosaic.Lib.Pipeline.Kit
public import Idealize.ShloMosaic.Lib.Rounds
public import Idealize.ShloMosaic.Lib.Memref
public import Idealize.ShloMosaic.Lib.MemrefSat
public import Idealize.ShloMosaic.Lib.Tactic

@[expose] public section

set_option synthInstance.maxSize 4096

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Attn
open Facts₀ Facts
open Idealize.ShloMosaic.Pipeline (RDat)

variable {F : FTy → Type} [FloatOps F] [∀ e, Nonempty (Elt F e)]

local notation "𝕄" => MT nD τ sig Unit (Elt F) ℕ UU ℕ

/-! ## The table -/

/-- A block's place in the cached keys or values, from the word in the table. -/
def tix (v0 : BitVec 32) (i : grid0.Coords) : Fin 6 → ℕ :=
  let v3 : BitVec 32 := Scalar.select (Scalar.cmpi .eq 4#32 0#32) 1#32 4#32
  let v4 : BitVec 32 := Scalar.remsi (Scalar.addi v0 (BitVec.ofNat 32 (i 0).val)) v3
  let v9 : BitVec 1 := Scalar.andi (Scalar.xori (Scalar.cmpi .slt v4 0#32) (Scalar.cmpi .slt v3 0#32)) (Scalar.cmpi .ne v4 0#32)
  ![(Scalar.select v9 (Scalar.addi v4 v3) v4).toNat, (0#32 : BitVec 32).toNat, (BitVec.ofNat 32 (i 1).val).toNat, (0#32 : BitVec 32).toNat, v0.toNat, (0#32 : BitVec 32).toNat]

/-- The block a device reads at step `s`, block of rows `b`. -/
def kvOff (c s b : ℕ) : Fin 6 → ℕ := ![(c + s) % 4, 0, b % 4, 0, c % 4, 0]

/-- The table's index map gives the block the device reads. -/
theorem tix_at : ∀ (c : Dev nD) (i : grid0.Coords), tix (BitVec.ofNat 32 c.val) i = kvOff c.val (i 0).val (i 1).val := by decide

/-- The block a device reads lies inside the cached keys and values. -/
theorem kv_inb (c s b : ℕ) : ∀ a, (kvOff c s b a + 1) * S1x16x1x64x8x128.size a ≤ S4x16x4x64x32x128.size a := by
  intro a
  match a with
  | 0 => show ((c + s) % 4 + 1) * 1 ≤ 4; omega
  | 1 => show (0 + 1) * 16 ≤ 16; omega
  | 2 => show (b % 4 + 1) * 1 ≤ 4; omega
  | 3 => show (0 + 1) * 64 ≤ 64; omega
  | 4 => show (c % 4 + 1) * 8 ≤ 32; omega
  | 5 => show (0 + 1) * 128 ≤ 128; omega

/-- The table's contents on device `c`. -/
def pfOf (c : Dev nD) : pre0.Contents (Elt F) :=
  fun | 0 => (fun _ => BitVec.ofNat 32 c.val : S1.Idx → Elt F .i32) | ⟨_ + 1, h⟩ => absurd h (Nat.not_lt.2 (Nat.le_add_left _ _))

/-- The keys' index map, from the table the device holds. -/
theorem t2_eq (c : Dev nD) (i : grid0.Coords) : cc0_transform_2 Facts₀.inb_S1_S1_0 Facts₀.numel1_S1 (pfOf (F := F) c) i = kvOff c.val (i 0).val (i 1).val :=
  (show cc0_transform_2 Facts₀.inb_S1_S1_0 Facts₀.numel1_S1 (pfOf (F := F) c) i = tix (BitVec.ofNat 32 c.val) i from rfl).trans (tix_at c i)
/-- The values' index map, from the table the device holds. -/
theorem t3_eq (c : Dev nD) (i : grid0.Coords) : cc0_transform_3 Facts₀.inb_S1_S1_0 Facts₀.numel1_S1 (pfOf (F := F) c) i = kvOff c.val (i 0).val (i 1).val :=
  (show cc0_transform_3 Facts₀.inb_S1_S1_0 Facts₀.numel1_S1 (pfOf (F := F) c) i = tix (BitVec.ofNat 32 c.val) i from rfl).trans (tix_at c i)

/-- The table the device holds keeps every block in bounds. -/
theorem ok_pf (c : Dev nD) : ok0 (pfOf (F := F) c) :=
  ⟨fun i => ⟨fun a => by rw [t2_eq]; exact kv_inb _ _ _ a, .inl rfl⟩, fun i => ⟨fun a => by rw [t3_eq]; exact kv_inb _ _ _ a, .inl rfl⟩⟩

/-- The tables each device's region runs on. -/
def adm (c : Dev nD) (p : Fin 1) : (pcfgs (F := F) p).Adm := ⟨pfOf c, ok_pf c⟩

/-! ## The values -/

/-- A device's block of the cached keys or values. -/
def kvBlk {α : Type} (X : S4x16x4x64x32x128.Idx → α) (c s b : ℕ) : S1x16x1x64x8x128.Idx → α := fun j =>
  X ((Rect.block (s := S4x16x4x64x32x128) S1x16x1x64x8x128.size (kvOff c s b) (kv_inb c s b)).emb j)

section Run

variable (m : (ℓ : Loc nD τ sig) → Buf (Elt F) ℓ)

/-- The kernel's inputs, from memory at launch. -/
def inOf : In F where
  x c := V1 m c main_arg0
  wq c := V1 m c main_arg1
  wo c := V1 m c main_arg4
  kb c s b := kvBlk (V1 m c main_v5) c.val s b
  vb c s b := kvBlk (V1 m c main_v6) c.val s b

/-- The context, its invariants' names hidden. -/
def cx (I : In F) (c : Dev nD) : sProp 𝕄 := iprop(∃ K : GSem nD τ sig → ℕ, ctx I K c)

/-- The state between points. -/
def Φ (I : In F) (c : Dev nD) (t : ℕ) : sProp 𝕄 :=
  if t = 0 then iprop(cx I c ∗ start I c ∗ anyAt (c : Thread nD τ) qM ∗ tab c fullShare)
  else if t < 16 then iprop(cx I c ∗ stC I c ∗ fam I c xr ((t - 1) / 4) ∗ gam c (t - 4) ∗ owns (c : Thread nD τ) qM fullShare (qv I c ((t - 1) / 4)) ∗ tab c fullShare)
  else done I c

/-- The region's data. -/
def rdat (p : Fin 1) (c : Dev nD) : RDat τ (Elt F) Unit ℕ UU ℕ (Pipeline.pinD (pcfgs (F := F)) adm c p) c where
  A w := V1 m c (Pipeline.arrRef spec0 w)
  after w t Y X := match w with
    | 0 => X = Y
    | 1 => X = Y
    | 2 => X = Y
    | 3 => X = outStep (inOf m) c (t.val / 4) ⟨t.val % 4, Nat.mod_lt _ (by decide)⟩ Y
    | ⟨_ + 4, h⟩ => absurd h (Nat.not_lt.2 (Nat.le_add_left _ _))
  Φ t := Φ (inOf m) c t.val
  q _ := fullShare
  owed t := owedAt c t.val

end Run

end Cert.KernelIdeal.Attn
-- ==== Proof.KernelIdeal.Points.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.KernelIdeal.Data
public import Idealize.ShloMosaic.Lib.Pipeline.Regions
public import Idealize.ShloMosaic.Lib.Pipeline.Kit
public import Idealize.ShloMosaic.Lib.Rounds
public import Idealize.ShloMosaic.Lib.Memref
public import Idealize.ShloMosaic.Lib.MemrefSat
public import Idealize.ShloMosaic.Lib.Tactic

@[expose] public section

set_option synthInstance.maxSize 4096

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Attn
open Facts₀ Facts
open Idealize.ShloMosaic.Pipeline (RDat)

variable {F : FTy → Type} [FloatOps F] [∀ e, Nonempty (Elt F e)]

local notation "𝕄" => MT nD τ sig Unit (Elt F) ℕ UU ℕ

section Points

variable (I : In F) (c : Dev nD)
variable {arg3 : Memref sig .tc .vmem S1x256x1024 .f32} {harg3 : arg3.IsWhole}
variable {arg5 arg6 : Memref sig .tc .vmem S1x16x1x64x8x128 .f32} {harg5 : arg5.IsWhole} {harg6 : arg6.IsWhole}
variable {arg8 : Memref sig .tc .vmem S1x256x1024 .f32} {harg8 : arg8.IsWhole}
variable {harg2 : (Memref.whole main_v7).IsWhole} {harg4 : wqH.IsWhole} {harg7 : woH.IsWhole} {harg9 : xgM.IsWhole} {harg10 : qM.IsWhole}
  {harg11 : omM.IsWhole} {harg12 : orM.IsWhole} {harg13 : wqM.IsWhole} {harg14 : woM.IsWhole}

/-- The state before a point that is not the first. -/
theorem Φ_mid (t s g : ℕ) (h0 : t ≠ 0) (h1 : t < 16) (hs : (t - 1) / 4 = s) (hg : t - 4 = g) :
    Φ I c t = (iprop(cx I c ∗ stC I c ∗ fam I c xr s ∗ gam c g ∗ owns (c : Thread nD τ) qM fullShare (qv I c s) ∗ tab c fullShare) : sProp 𝕄) := by
  subst hs hg; unfold Φ; rw [if_neg h0, if_pos h1]
/-- The state before the first point. -/
theorem Φ_zero : Φ I c 0 = (iprop(cx I c ∗ start I c ∗ anyAt (c : Thread nD τ) qM ∗ tab c fullShare) : sProp 𝕄) := if_pos rfl
/-- The state after the last point. -/
theorem Φ_done (t : ℕ) (h : 16 ≤ t) : Φ I c t = (done I c : sProp 𝕄) := by
  unfold Φ; rw [if_neg (by omega), if_neg (by omega)]
/-- The debts after the first point are partial outputs alone. -/
theorem owedAt_pos (t : ℕ) (h : t ≠ 0) : owedAt c t = od c t := if_neg h
/-- The query buffer, its contents forgotten. -/
theorem any_q (X : S256x1024.Idx → Elt F .f32) : (owns (c : Thread nD τ) qM fullShare X : sProp 𝕄) ⊢ anyAt (c : Thread nD τ) qM := anyAt_intro _ X

/-- The first point. -/
theorem point_first (i : grid0.Coords) (t : ℕ) (hs : (i 0).val = 0) (hb : (i 1).val = 0) (ht : t = 0) (Y : S1x256x1024.Idx → Elt F .f32) :
    iprop(Φ I c t ∗ ow c (owedAt c t) ∗ owns (c : Thread nD τ) arg3 fullShare (I.x c) ∗ owns (c : Thread nD τ) arg5 fullShare (I.kb c 0 (0 : Fin 4).val) ∗ owns (c : Thread nD τ) arg6 fullShare (I.vb c 0 (0 : Fin 4).val) ∗ owns (c : Thread nD τ) arg8 fullShare Y)
      ⊢ wp frame (wpE (defs₀ (F := F)) 𝒱₀ (c : Thread nD τ) none) Set.univ (cc0_body (F := F) i (Memref.whole main_v7) harg2 arg3 harg3 wqH harg4 arg5 harg5 arg6 harg6 woH harg7 arg8 harg8 xgM harg9 qM harg10
          omM harg11 orM harg12 wqM harg13 woM harg14 cc0_scratch6 cc0_scratch7 cc0_scratch8 cc0_scratch9 cc0_scratch10)
        fun _ => iprop(Φ I c (t + 1) ∗ ow c (owedAt c (t + 1)) ∗ owns (c : Thread nD τ) arg3 fullShare (I.x c) ∗ owns (c : Thread nD τ) arg5 fullShare (I.kb c 0 (0 : Fin 4).val) ∗ owns (c : Thread nD τ) arg6 fullShare (I.vb c 0 (0 : Fin 4).val) ∗ owns (c : Thread nD τ) arg8 fullShare (outStep I c 0 (0 : Fin 4) Y)) := by
  subst ht
  rw [Φ_zero, Φ_mid I c (0 + 1) 0 0 (by decide) (by decide) rfl rfl, owedAt_pos c (0 + 1) (by decide), od_early c (0 + 1) (by decide), show owedAt c 0 = O₀ c from rfl]
  unfold cx
  iintro ⟨⟨⟨%K, #Hc⟩, Hst, Hq, Htab⟩, HO, Hx, Hk, Hv, H8⟩
  iapply (body_first I K c i hs hb fullShare Y) $$ [Hst Hq Htab HO Hx Hk Hv H8]
  · isplitr; · iexact Hc
    isplitl [Hst]; · iexact Hst
    isplitl [Hq]; · iexact Hq
    isplitl [HO]; · iexact HO
    isplitl [Htab]; · iexact Htab
    isplitl [Hx]; · iexact Hx
    isplitl [Hk]; · iexact Hk
    isplitl [Hv] <;> iassumption
  iintro ⟨Hst, Hf, Hg, Hq, HO, Htab, Hx, Hk, Hv, H8⟩
  isplitl [Hst Hf Hg Hq Htab]
  · isplitr; · iexists K; iexact Hc
    isplitl [Hst]; · iexact Hst
    isplitl [Hf]; · iexact Hf
    isplitl [Hg]; · iexact Hg
    isplitl [Hq] <;> iassumption
  isplitl [HO]; · iexact HO
  isplitl [Hx]; · iexact Hx
  isplitl [Hk]; · iexact Hk
  isplitl [Hv] <;> iassumption

/-- A later block of rows of the own activations. -/
theorem point_own (i : grid0.Coords) (t : ℕ) (b : Fin 4) (hs : (i 0).val = 0) (hb : (i 1).val = b.val) (hb0 : b ≠ 0) (ht : t = b.val) (Y : S1x256x1024.Idx → Elt F .f32) :
    iprop(Φ I c t ∗ ow c (owedAt c t) ∗ owns (c : Thread nD τ) arg3 fullShare (I.x c) ∗ owns (c : Thread nD τ) arg5 fullShare (I.kb c 0 b.val) ∗ owns (c : Thread nD τ) arg6 fullShare (I.vb c 0 b.val) ∗ owns (c : Thread nD τ) arg8 fullShare Y)
      ⊢ wp frame (wpE (defs₀ (F := F)) 𝒱₀ (c : Thread nD τ) none) Set.univ (cc0_body (F := F) i (Memref.whole main_v7) harg2 arg3 harg3 wqH harg4 arg5 harg5 arg6 harg6 woH harg7 arg8 harg8 xgM harg9 qM harg10
          omM harg11 orM harg12 wqM harg13 woM harg14 cc0_scratch6 cc0_scratch7 cc0_scratch8 cc0_scratch9 cc0_scratch10)
        fun _ => iprop(Φ I c (t + 1) ∗ ow c (owedAt c (t + 1)) ∗ owns (c : Thread nD τ) arg3 fullShare (I.x c) ∗ owns (c : Thread nD τ) arg5 fullShare (I.kb c 0 b.val) ∗ owns (c : Thread nD τ) arg6 fullShare (I.vb c 0 b.val) ∗ owns (c : Thread nD τ) arg8 fullShare (outStep I c 0 b Y)) := by
  have hb1 : b.val ≠ 0 := fun h => hb0 (Fin.ext h)
  subst ht
  rw [Φ_mid I c b.val 0 0 hb1 (by omega) (by omega) (by omega), Φ_mid I c (b.val + 1) 0 0 (by omega) (by omega) (by omega) (by omega),
    owedAt_pos c b.val hb1, owedAt_pos c (b.val + 1) (by omega), od_early c b.val (by omega), od_early c (b.val + 1) (by omega)]
  iintro ⟨⟨Hc, Hst, Hf, Hg, Hq, Htab⟩, HO, Hx, Hk, Hv, H8⟩
  iapply (body_own I c i b hs hb hb0 fullShare Y) $$ [Hst Hq Htab Hk Hv H8]
  · isplitl [Hst]; · iexact Hst
    isplitl [Hq]; · iexact Hq
    isplitl [Htab]; · iexact Htab
    isplitl [Hk]; · iexact Hk
    isplitl [Hv] <;> iassumption
  iintro ⟨Hst, Hq, Htab, Hk, Hv, H8⟩
  isplitl [Hc Hst Hf Hg Hq Htab]
  · isplitl [Hc]; · iexact Hc
    isplitl [Hst]; · iexact Hst
    isplitl [Hf]; · iexact Hf
    isplitl [Hg]; · iexact Hg
    isplitl [Hq] <;> iassumption
  isplitl [HO]; · iexact HO
  isplitl [Hx]; · iexact Hx
  isplitl [Hk]; · iexact Hk
  isplitl [Hv] <;> iassumption

/-- The first block of rows of the next activations. -/
theorem point_next (i : grid0.Coords) (t : ℕ) (k : Fin 3) (b : Fin 4) (hs : (i 0).val = k.val + 1) (hb : (i 1).val = b.val) (hb0 : b = 0) (ht : t = (e34 (k, b)).val + 4) (Y : S1x256x1024.Idx → Elt F .f32) :
    iprop(Φ I c t ∗ ow c (owedAt c t) ∗ owns (c : Thread nD τ) arg3 fullShare (I.x c) ∗ owns (c : Thread nD τ) arg5 fullShare (I.kb c (k.val + 1) b.val) ∗ owns (c : Thread nD τ) arg6 fullShare (I.vb c (k.val + 1) b.val) ∗ owns (c : Thread nD τ) arg8 fullShare Y)
      ⊢ wp frame (wpE (defs₀ (F := F)) 𝒱₀ (c : Thread nD τ) none) Set.univ (cc0_body (F := F) i (Memref.whole main_v7) harg2 arg3 harg3 wqH harg4 arg5 harg5 arg6 harg6 woH harg7 arg8 harg8 xgM harg9 qM harg10
          omM harg11 orM harg12 wqM harg13 woM harg14 cc0_scratch6 cc0_scratch7 cc0_scratch8 cc0_scratch9 cc0_scratch10)
        fun _ => iprop(Φ I c (t + 1) ∗ ow c (owedAt c (t + 1)) ∗ owns (c : Thread nD τ) arg3 fullShare (I.x c) ∗ owns (c : Thread nD τ) arg5 fullShare (I.kb c (k.val + 1) b.val) ∗ owns (c : Thread nD τ) arg6 fullShare (I.vb c (k.val + 1) b.val) ∗ owns (c : Thread nD τ) arg8 fullShare (outStep I c (k.val + 1) b Y)) := by
  have hb1 : b.val = 0 := by rw [hb0]; rfl
  have he := e34_val k b
  rw [outStep_send I c (k.val + 1) b (by omega) (by omega)]
  subst ht
  rw [Φ_mid I c ((e34 (k, b)).val + 4) k.val (e34 (k, b)).val (by omega) (by omega) (by omega) (by omega),
    Φ_mid I c ((e34 (k, b)).val + 4 + 1) (k.val + 1) ((e34 (k, b)).val + 1) (by omega) (by omega) (by omega) (by omega),
    owedAt_pos c ((e34 (k, b)).val + 4) (by omega), owedAt_pos c ((e34 (k, b)).val + 4 + 1) (by omega)]
  unfold cx
  iintro ⟨⟨⟨%K, #Hc⟩, Hst, Hf, Hg, Hq, Htab⟩, HO, Hx, Hk, Hv, H8⟩
  iapply (body_next I K c i k b hb0 hs hb fullShare) $$ [Hst Hf Hg Hq Htab HO Hk Hv]
  · isplitr; · iexact Hc
    isplitl [Hst]; · iexact Hst
    isplitl [Hf]; · iexact Hf
    isplitl [Hg]; · iexact Hg
    isplitl [Hq]; · iapply (any_q c); iexact Hq
    isplitl [HO]; · iexact HO
    isplitl [Htab]; · iexact Htab
    isplitl [Hk] <;> iassumption
  iintro ⟨Hst, Hf, Hg, Hq, HO, Htab, Hk, Hv⟩
  isplitl [Hst Hf Hg Hq Htab]
  · isplitr; · iexists K; iexact Hc
    isplitl [Hst]; · iexact Hst
    isplitl [Hf]; · iexact Hf
    isplitl [Hg]; · iexact Hg
    isplitl [Hq] <;> iassumption
  isplitl [HO]; · iexact HO
  isplitl [Hx]; · iexact Hx
  isplitl [Hk]; · iexact Hk
  isplitl [Hv] <;> iassumption

/-- A later block of rows of the next activations. -/
theorem point_send (i : grid0.Coords) (t : ℕ) (k : Fin 3) (b : Fin 4) (hs : (i 0).val = k.val + 1) (hb : (i 1).val = b.val) (hb0 : b ≠ 0) (hl : ¬ (k.val + 1 = 3 ∧ b.val = 3)) (ht : t = (e34 (k, b)).val + 4) (Y : S1x256x1024.Idx → Elt F .f32) :
    iprop(Φ I c t ∗ ow c (owedAt c t) ∗ owns (c : Thread nD τ) arg3 fullShare (I.x c) ∗ owns (c : Thread nD τ) arg5 fullShare (I.kb c (k.val + 1) b.val) ∗ owns (c : Thread nD τ) arg6 fullShare (I.vb c (k.val + 1) b.val) ∗ owns (c : Thread nD τ) arg8 fullShare Y)
      ⊢ wp frame (wpE (defs₀ (F := F)) 𝒱₀ (c : Thread nD τ) none) Set.univ (cc0_body (F := F) i (Memref.whole main_v7) harg2 arg3 harg3 wqH harg4 arg5 harg5 arg6 harg6 woH harg7 arg8 harg8 xgM harg9 qM harg10
          omM harg11 orM harg12 wqM harg13 woM harg14 cc0_scratch6 cc0_scratch7 cc0_scratch8 cc0_scratch9 cc0_scratch10)
        fun _ => iprop(Φ I c (t + 1) ∗ ow c (owedAt c (t + 1)) ∗ owns (c : Thread nD τ) arg3 fullShare (I.x c) ∗ owns (c : Thread nD τ) arg5 fullShare (I.kb c (k.val + 1) b.val) ∗ owns (c : Thread nD τ) arg6 fullShare (I.vb c (k.val + 1) b.val) ∗ owns (c : Thread nD τ) arg8 fullShare (outStep I c (k.val + 1) b Y)) := by
  have hb1 : b.val ≠ 0 := fun h => hb0 (Fin.ext h)
  have he := e34_val k b
  rw [outStep_send I c (k.val + 1) b (by omega) hl]
  subst ht
  rw [Φ_mid I c ((e34 (k, b)).val + 4) (k.val + 1) (e34 (k, b)).val (by omega) (by omega) (by omega) (by omega),
    Φ_mid I c ((e34 (k, b)).val + 4 + 1) (k.val + 1) ((e34 (k, b)).val + 1) (by omega) (by omega) (by omega) (by omega),
    owedAt_pos c ((e34 (k, b)).val + 4) (by omega), owedAt_pos c ((e34 (k, b)).val + 4 + 1) (by omega)]
  unfold cx
  iintro ⟨⟨⟨%K, #Hc⟩, Hst, Hf, Hg, Hq, Htab⟩, HO, Hx, Hk, Hv, H8⟩
  iapply (body_send I K c i k b hb0 hs hb (by rw [hs, hb]; exact hl) fullShare) $$ [Hst Hg Hq Htab HO Hk Hv]
  · isplitr; · iexact Hc
    isplitl [Hst]; · iexact Hst
    isplitl [Hg]; · iexact Hg
    isplitl [Hq]; · iexact Hq
    isplitl [HO]; · iexact HO
    isplitl [Htab]; · iexact Htab
    isplitl [Hk] <;> iassumption
  iintro ⟨Hst, Hg, Hq, HO, Htab, Hk, Hv⟩
  isplitl [Hst Hf Hg Hq Htab]
  · isplitr; · iexists K; iexact Hc
    isplitl [Hst]; · iexact Hst
    isplitl [Hf]; · iexact Hf
    isplitl [Hg]; · iexact Hg
    isplitl [Hq] <;> iassumption
  isplitl [HO]; · iexact HO
  isplitl [Hx]; · iexact Hx
  isplitl [Hk]; · iexact Hk
  isplitl [Hv] <;> iassumption

/-- The last point. -/
theorem point_last (i : grid0.Coords) (t : ℕ) (hs : (i 0).val = 3) (hb : (i 1).val = 3) (ht : t = 15) (Y : S1x256x1024.Idx → Elt F .f32) :
    iprop(Φ I c t ∗ ow c (owedAt c t) ∗ owns (c : Thread nD τ) arg3 fullShare (I.x c) ∗ owns (c : Thread nD τ) arg5 fullShare (I.kb c 3 (3 : Fin 4).val) ∗ owns (c : Thread nD τ) arg6 fullShare (I.vb c 3 (3 : Fin 4).val) ∗ owns (c : Thread nD τ) arg8 fullShare Y)
      ⊢ wp frame (wpE (defs₀ (F := F)) 𝒱₀ (c : Thread nD τ) none) Set.univ (cc0_body (F := F) i (Memref.whole main_v7) harg2 arg3 harg3 wqH harg4 arg5 harg5 arg6 harg6 woH harg7 arg8 harg8 xgM harg9 qM harg10
          omM harg11 orM harg12 wqM harg13 woM harg14 cc0_scratch6 cc0_scratch7 cc0_scratch8 cc0_scratch9 cc0_scratch10)
        fun _ => iprop(Φ I c (t + 1) ∗ ow c (owedAt c (t + 1)) ∗ owns (c : Thread nD τ) arg3 fullShare (I.x c) ∗ owns (c : Thread nD τ) arg5 fullShare (I.kb c 3 (3 : Fin 4).val) ∗ owns (c : Thread nD τ) arg6 fullShare (I.vb c 3 (3 : Fin 4).val) ∗ owns (c : Thread nD τ) arg8 fullShare (outStep I c 3 (3 : Fin 4) Y)) := by
  subst ht
  rw [Φ_mid I c 15 3 (e34 (2, 3)).val (by decide) (by decide) (by decide) (by decide), Φ_done I c (15 + 1) (by decide),
    owedAt_pos c 15 (by decide), owedAt_pos c (15 + 1) (by decide), show od c 15 = od c ((e34 (2, 3)).val + 4) from rfl, show od c (15 + 1) = od c 16 from rfl]
  unfold cx
  iintro ⟨⟨⟨%K, #Hc⟩, Hst, Hf, Hg, Hq, Htab⟩, HO, Hx, Hk, Hv, H8⟩
  iapply (body_last I K c i hs hb fullShare Y) $$ [Hst Hg Hq Htab HO Hk Hv H8]
  · isplitr; · iexact Hc
    isplitl [Hst]; · iexact Hst
    isplitl [Hg]; · iexact Hg
    isplitl [Hq]; · iexact Hq
    isplitl [HO]; · iexact HO
    isplitl [Htab]; · iexact Htab
    isplitl [Hk]; · iexact Hk
    isplitl [Hv] <;> iassumption
  iintro ⟨Hwq, Hwo, HwqH, HwoH, Hx0, Hbar, Hwr, Hxs, Hro, Hor, Hos, Hq, HO, Htab, Hk, Hv, H8⟩
  imod (close_all I K c) $$ [Hwq Hwo HwqH HwoH Hx0 Hbar Hwr Hxs Hro Hor Hos Hq Hf] with Hd
  · isplitr; · iexact Hc
    isplitl [Hwq]; · iexact Hwq
    isplitl [Hwo]; · iexact Hwo
    isplitl [HwqH]; · iexact HwqH
    isplitl [HwoH]; · iexact HwoH
    isplitl [Hx0]; · iexact Hx0
    isplitl [Hbar]; · iexact Hbar
    isplitl [Hwr]; · iexact Hwr
    isplitl [Hxs]; · iexact Hxs
    isplitl [Hro]; · iexact Hro
    isplitl [Hor]; · iexact Hor
    isplitl [Hos]; · iexact Hos
    isplitl [Hq]; · iexact Hq
    iexact Hf
  imodintro
  isplitl [Hd]; · iexact Hd
  isplitl [HO]; · iexact HO
  isplitl [Hx]; · iexact Hx
  isplitl [Hk]; · iexact Hk
  isplitl [Hv] <;> iassumption

end Points

end Cert.KernelIdeal.Attn
-- ==== Proof.KernelIdeal.Obl.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.FrameBody
public import proofs.«01_k».proof.Proof.KernelIdeal.Points
public import Idealize.ShloMosaic.Lib.Pipeline.Regions
public import Idealize.ShloMosaic.Lib.Pipeline.Kit
public import Idealize.ShloMosaic.Lib.Rounds
public import Idealize.ShloMosaic.Lib.Memref
public import Idealize.ShloMosaic.Lib.MemrefSat
public import Idealize.ShloMosaic.Lib.Tactic

@[expose] public section

set_option synthInstance.maxSize 4096

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Attn
open Facts₀ Facts
open Idealize.ShloMosaic.Pipeline (RDat)

variable {F : FTy → Type} [FloatOps F] [∀ e, Nonempty (Elt F e)]

local notation "𝕄" => MT nD τ sig Unit (Elt F) ℕ UU ℕ

variable (m : (ℓ : Loc nD τ sig) → Buf (Elt F) ℓ) (c : Dev nD)

/-- A point's coordinates. -/
theorem coords0 : ∀ t : Fin grid0.N, (grid0.coords t 0).val = t.val / 4 ∧ (grid0.coords t 1).val = t.val % 4 := by decide

/-- The number of a partial output, by sender and block. -/
theorem e34_inv : ∀ (k : Fin 3) (b : Fin 4), (e34 (k, b)).val = 4 * k.val + b.val := by decide

/-- A block read at equal offsets. -/
theorem blk_congr {α : Type} (X : S4x16x4x64x32x128.Idx → α) {o o' : Fin 6 → ℕ} (h : o = o')
    (hi : ∀ a, (o a + 1) * S1x16x1x64x8x128.size a ≤ S4x16x4x64x32x128.size a) (hi' : ∀ a, (o' a + 1) * S1x16x1x64x8x128.size a ≤ S4x16x4x64x32x128.size a) :
    (fun j => X ((Rect.block (s := S4x16x4x64x32x128) S1x16x1x64x8x128.size o hi).emb j)) = fun j => X ((Rect.block (s := S4x16x4x64x32x128) S1x16x1x64x8x128.size o' hi').emb j) := by
  subst h; rfl

/-- The keys fetched for a point. -/
theorem fetched1 (t : Fin grid0.N) (d) : (rdat m 0 c).fetched 1 t d = (inOf m).kb c (t.val / 4) (t.val % 4) := by
  have h := t2_eq (F := F) c (grid0.coords t)
  rw [(coords0 t).1, (coords0 t).2] at h
  exact blk_congr (V1 m c main_v5) h (((adm (F := F) c 0).2.1 (grid0.coords t)).1) (kv_inb _ _ _)

/-- The values fetched for a point. -/
theorem fetched2 (t : Fin grid0.N) (d) : (rdat m 0 c).fetched 2 t d = (inOf m).vb c (t.val / 4) (t.val % 4) := by
  have h := t3_eq (F := F) c (grid0.coords t)
  rw [(coords0 t).1, (coords0 t).2] at h
  exact blk_congr (V1 m c main_v6) h (((adm (F := F) c 0).2.2 (grid0.coords t)).1) (kv_inb _ _ _)

/-- The activations' one block is the whole array. -/
theorem x_emb (j : S1x256x1024.Idx) (h) : (Rect.block (s := S1x256x1024) S1x256x1024.size ![0, 0, 0] h).emb j = j := by
  funext a
  apply Fin.ext
  match a with
  | 0 => show 0 * 1 + 1 * (j 0).val = (j 0).val; omega
  | 1 => show 0 * 256 + 1 * (j 1).val = (j 1).val; omega
  | 2 => show 0 * 1024 + 1 * (j 2).val = (j 2).val; omega

/-- The activations fetched. -/
theorem fetched0 (t : Fin grid0.N) (d) : (rdat m 0 c).fetched 0 t d = (inOf m).x c := by
  funext j
  exact congrArg (V1 m c main_arg0) (x_emb j (by intro a; match a with | 0 => decide | 1 => decide | 2 => decide))

/-- A point finds the activations in place. -/
theorem finds0 (t : Fin grid0.N) (Y) (h : (rdat m 0 c).Finds 0 t Y) : Y = (inOf m).x c := by
  obtain ⟨d, rfl⟩ := (rdat m 0 c).finds_in_eq_fetched 0 rfl (fun _ _ _ => rfl) (fun _ _ _ h => h) t Y h
  exact fetched0 m c t d
/-- A point finds its block of keys. -/
theorem finds1 (t : Fin grid0.N) (Y) (h : (rdat m 0 c).Finds 1 t Y) : Y = (inOf m).kb c (t.val / 4) (t.val % 4) := by
  obtain ⟨d, rfl⟩ := (rdat m 0 c).finds_in_eq_fetched 1 rfl (fun _ _ _ => rfl) (fun _ _ _ h => h) t Y h
  exact fetched1 m c t d
/-- A point finds its block of values. -/
theorem finds2 (t : Fin grid0.N) (Y) (h : (rdat m 0 c).Finds 2 t Y) : Y = (inOf m).vb c (t.val / 4) (t.val % 4) := by
  obtain ⟨d, rfl⟩ := (rdat m 0 c).finds_in_eq_fetched 2 rfl (fun _ _ _ => rfl) (fun _ _ _ h => h) t Y h
  exact fetched2 m c t d

/-- What the result's buffer holds before a point. -/
def outAcc (I : In F) (c : Dev nD) : ℕ → (S1x256x1024.Idx → Elt F .f32) → (S1x256x1024.Idx → Elt F .f32)
  | 0, Y => Y
  | t + 1, Y => outStep I c (t / 4) ⟨t % 4, Nat.mod_lt _ (by decide)⟩ (outAcc I c t Y)

/-- No write back before the last point. -/
theorem noflush (n : ℕ) (hn : n + 1 < grid0.N) (h : n + 1 - 1 < grid0.N) : ((Pipeline.pinD (pcfgs (F := F)) adm c 0).win 3).flush ⟨n + 1 - 1, h⟩ = false := by
  unfold Pipeline.Window.flush
  refine (Bool.true_and _).trans ?_
  rw [Bool.or_eq_false_iff]
  exact ⟨decide_eq_false (show ¬ (n + 1 - 1 + 1 = grid0.N) by omega), decide_eq_false (fun ⟨_, hh⟩ => hh rfl)⟩

/-- What a point leaves in the output block. -/
theorem leaves3 (t : Fin grid0.N) (X) (h : (rdat m 0 c).Leaves 3 t X) : ∃ Y, X = outAcc (inOf m) c (t.val + 1) Y := by
  obtain ⟨n, hn⟩ := t
  induction n generalizing X with
  | zero =>
    obtain ⟨Y, -, hX⟩ := h
    exact ⟨Y, hX⟩
  | succ n ih =>
    obtain ⟨Y, hY, hX⟩ := h
    rcases ((rdat m 0 c).finds_of_pos rfl (Nat.succ_ne_zero n) Y).mp hY with hf | hl
    · exact absurd hf (by rw [noflush c n hn]; decide)
    · obtain ⟨Z, hZ⟩ := ih _ _ hl
      refine ⟨Z, ?_⟩
      have hX' : X = outStep (inOf m) c ((n + 1) / 4) ⟨(n + 1) % 4, Nat.mod_lt _ (by decide)⟩ Y := hX
      rw [hX', hZ]; rfl

/-- The debts before a point, in the region's form. -/
theorem owesAt_intro (t : Fin (grid0.N + 1)) : (ow c (owedAt c t.val) : sProp 𝕄) ⊢ (rdat m 0 c).owesAt () t := by
  unfold ow RDat.owesAt Pipeline.owesWithin RDat.bound
  iintro ⟨%W, HO⟩
  iexists W
  isplitr; · ipureintro; exact fun _ _ => Or.inl trivial
  iexact HO
/-- The debts before a point, out of the region's form. -/
theorem owesAt_elim (t : Fin (grid0.N + 1)) : (rdat m 0 c).owesAt () t ⊢ (ow c (owedAt c t.val) : sProp 𝕄) := by
  unfold ow RDat.owesAt Pipeline.owesWithin
  iintro ⟨%W, -, HO⟩; iexists W; iexact HO

section Point

variable (I : In F)
variable {arg3 : Memref sig .tc .vmem S1x256x1024 .f32} {harg3 : arg3.IsWhole}
variable {arg5 arg6 : Memref sig .tc .vmem S1x16x1x64x8x128 .f32} {harg5 : arg5.IsWhole} {harg6 : arg6.IsWhole}
variable {arg8 : Memref sig .tc .vmem S1x256x1024 .f32} {harg8 : arg8.IsWhole}
variable {harg2 : (Memref.whole main_v7).IsWhole} {harg4 : wqH.IsWhole} {harg7 : woH.IsWhole} {harg9 : xgM.IsWhole} {harg10 : qM.IsWhole}
  {harg11 : omM.IsWhole} {harg12 : orM.IsWhole} {harg13 : wqM.IsWhole} {harg14 : woM.IsWhole}

/-- Every point. -/
theorem point (i : grid0.Coords) (t : ℕ) (s : ℕ) (b : Fin 4) (hs : (i 0).val = s) (hb : (i 1).val = b.val) (ht : t < 16) (hst : t = 4 * s + b.val) (Y : S1x256x1024.Idx → Elt F .f32) :
    iprop(Φ I c t ∗ ow c (owedAt c t) ∗ owns (c : Thread nD τ) arg3 fullShare (I.x c) ∗ owns (c : Thread nD τ) arg5 fullShare (I.kb c s b.val) ∗ owns (c : Thread nD τ) arg6 fullShare (I.vb c s b.val) ∗ owns (c : Thread nD τ) arg8 fullShare Y)
      ⊢ wp frame (wpE (defs₀ (F := F)) 𝒱₀ (c : Thread nD τ) none) Set.univ (cc0_body (F := F) i (Memref.whole main_v7) harg2 arg3 harg3 wqH harg4 arg5 harg5 arg6 harg6 woH harg7 arg8 harg8 xgM harg9 qM harg10
          omM harg11 orM harg12 wqM harg13 woM harg14 cc0_scratch6 cc0_scratch7 cc0_scratch8 cc0_scratch9 cc0_scratch10)
        fun _ => iprop(Φ I c (t + 1) ∗ ow c (owedAt c (t + 1)) ∗ owns (c : Thread nD τ) arg3 fullShare (I.x c) ∗ owns (c : Thread nD τ) arg5 fullShare (I.kb c s b.val) ∗ owns (c : Thread nD τ) arg6 fullShare (I.vb c s b.val) ∗ owns (c : Thread nD τ) arg8 fullShare (outStep I c s b Y)) := by
  rcases Nat.eq_zero_or_pos s with h0 | h0
  · subst h0
    by_cases hb0 : b = 0
    · subst hb0; exact point_first I c i t hs hb (by simpa using hst) Y
    · exact point_own I c i t b hs hb hb0 (by omega) Y
  · obtain ⟨k, rfl⟩ : ∃ k : ℕ, s = k + 1 := ⟨s - 1, by omega⟩
    have hk : k < 3 := by omega
    have he := e34_inv ⟨k, hk⟩ b
    dsimp only at he
    by_cases hb0 : b = 0
    · exact point_next I c i t ⟨k, hk⟩ b hs hb hb0 (by omega) Y
    · by_cases hl : k + 1 = 3 ∧ b.val = 3
      · obtain ⟨h1, h2⟩ := hl
        obtain rfl : k = 2 := by omega
        obtain rfl : b = 3 := Fin.ext h2
        exact point_last I c i t hs hb (by omega) Y
      · exact point_send I c i t ⟨k, hk⟩ b hs hb hb0 hl (by omega) Y

end Point

/-- The body's obligation. -/
theorem obl : (rdat m 0 c).BodyObligation (defs₀ (F := F)) 𝒱₀ () Set.univ := fun t Y hY => by
  have ht : t.val < 16 := lt_of_lt_of_eq t.isLt N_0
  have h0 := finds0 m c t _ (hY 0)
  have h1 := finds1 m c t _ (hY 1)
  have h2 := finds2 m c t _ (hY 2)
  rw [bigSep_W0, bigSep_W0, h0, h1, h2, show (rdat m 0 c).Φ t.castSucc = Φ (inOf m) c t.val from rfl, show (rdat m 0 c).Φ t.succ = Φ (inOf m) c (t.val + 1) from rfl]
  have hp := point (c := c) (inOf m) (harg2 := Memref.isWhole_whole _) (harg3 := Facts₀.hstage0_0 ((Pipeline.pinD (pcfgs (F := F)) adm c 0).slots t 0)) (harg4 := Memref.isWhole_whole _)
    (harg5 := Facts₀.hstage0_1 ((Pipeline.pinD (pcfgs (F := F)) adm c 0).slots t 1)) (harg6 := Facts₀.hstage0_2 ((Pipeline.pinD (pcfgs (F := F)) adm c 0).slots t 2)) (harg7 := Memref.isWhole_whole _)
    (harg8 := Facts₀.hstage0_3 ((Pipeline.pinD (pcfgs (F := F)) adm c 0).slots t 3)) (harg9 := Memref.isWhole_whole _) (harg10 := Memref.isWhole_whole _) (harg11 := Memref.isWhole_whole _) (harg12 := Memref.isWhole_whole _)
    (harg13 := Memref.isWhole_whole _) (harg14 := Memref.isWhole_whole _) (grid0.coords t) t.val (t.val / 4) ⟨t.val % 4, Nat.mod_lt _ (by decide)⟩ (coords0 t).1 (coords0 t).2 ht (by dsimp only; omega) (Y 3)
  refine BIBase.Entails.trans ?_ (BIBase.Entails.trans hp ?_)
  · iintro ⟨HΦ, HO, Hx, Hk, Hv, H8⟩
    isplitl [HΦ]; · iexact HΦ
    isplitl [HO]; · iapply (owesAt_elim m c t.castSucc); iexact HO
    isplitl [Hx]; · iexact Hx
    isplitl [Hk]; · iexact Hk
    isplitl [Hv]; · iexact Hv
    iexact H8
  · refine wp_mono _ _ _ (fun _ => ?_)
    iintro ⟨HΦ, HO, Hx, Hk, Hv, H8⟩
    isplitl [HΦ]; · iexact HΦ
    isplitl [HO]; · iapply (owesAt_intro m c t.succ); iexact HO
    isplitl [Hx]; · iexists _; isplitr; · ipureintro; exact rfl
                    iexact Hx
    isplitl [Hk]; · iexists _; isplitr; · ipureintro; exact rfl
                    iexact Hk
    isplitl [Hv]; · iexists _; isplitr; · ipureintro; exact rfl
                    iexact Hv
    iexists _; isplitr; · ipureintro; exact rfl
    iexact H8

end Cert.KernelIdeal.Attn
-- ==== Proof.KernelIdeal.Ghost.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.FrameBody
public import proofs.«01_k».proof.Proof.KernelIdeal.Obl
public import Idealize.ShloMosaic.Lib.Pipeline.Regions
public import Idealize.ShloMosaic.Lib.Pipeline.Kit
public import Idealize.ShloMosaic.Lib.Rounds
public import Idealize.ShloMosaic.Lib.Memref
public import Idealize.ShloMosaic.Lib.MemrefSat
public import Idealize.ShloMosaic.Lib.Tactic

@[expose] public section

set_option synthInstance.maxSize 4096

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Attn
open Facts₀ Facts
open Idealize.ShloMosaic.Pipeline (RDat)

variable {F : FTy → Type} [FloatOps F] [∀ e, Nonempty (Elt F e)]

local notation "𝕄" => MT nD τ sig Unit (Elt F) ℕ UU ℕ

/-! ## Whose token a device pays with -/

/-- The semaphore that a device's duty of a role pays. -/
def tgt : Dev nD × Role → Dev nD × Role
  | (c, .inr (.inl k)) => (xto c k, xr k.rev)
  | (c, .inr (.inr (.inr (.inl j)))) => (oto c j, ro (jrev j))
  | (c, r) => (c, r)
/-- The other end of the other end of a transfer is the transfer itself. -/
theorem tgt_tgt : ∀ p, tgt (tgt p) = p := by
  rintro ⟨c, k | k | k | k | k⟩
  · rfl
  · exact Prod.ext (xto_xto c k) (by show xr k.rev.rev = xr k; rw [Fin.rev_rev])
  · rfl
  · exact Prod.ext (oto_oto c k) (by show ro (jrev (jrev k)) = ro k; rw [jrev_jrev])
  · rfl
/-- Swapping the ends of every transfer, as a bijection. -/
def tgtE : Dev nD × Role ≃ Dev nD × Role := ⟨tgt, tgt, tgt_tgt, tgt_tgt⟩

/-- The barrier duty a device pays. -/
def btgt (p : Dev nD × Fin 3) : Dev nD × Fin 3 := (xto p.1 p.2, p.2.rev)
/-- The same of the barrier's signals. -/
theorem btgt_btgt : ∀ p, btgt (btgt p) = p := fun p => Prod.ext (xto_xto p.1 p.2) (Fin.rev_rev _)
/-- Swapping the ends of every barrier signal, as a bijection. -/
def btgtE : Dev nD × Fin 3 ≃ Dev nD × Fin 3 := ⟨btgt, btgt, btgt_btgt, btgt_btgt⟩

/-! ## Cells and tokens -/

/-- Different roles and devices have different cells. -/
theorem dC_inj {p p' : Dev nD × Role} (h : dC p.1 p.2 = dC p'.1 p'.2) : p = p' :=
  Prod.ext (congrArg (fun g : GSem nD τ sig => g.1.1) h) (dsem_inj (SemLoc.dma.inj (congrArg Prod.snd h)))
/-- The DMA cells, as an embedding. -/
def dEmb : Dev nD × Role ↪ GSem nD τ sig := ⟨fun p => dC p.1 p.2, fun _ _ h => dC_inj h⟩
/-- The barrier cells, as an embedding. -/
def bEmb : Dev nD ↪ GSem nD τ sig := ⟨fun c => bC c, fun _ _ h => congrArg (fun g : GSem nD τ sig => g.1.1) h⟩
abbrev dCells : Finset (GSem nD τ sig) := Finset.univ.map dEmb
abbrev bCells : Finset (GSem nD τ sig) := Finset.univ.map bEmb
/-- A barrier cell is not a DMA cell. -/
theorem cells_disj : Disjoint (bCells : Finset (GSem nD τ sig)) dCells := by
  rw [Finset.disjoint_left]
  rintro g h₁ h₂
  obtain ⟨c, -, rfl⟩ := Finset.mem_map.mp h₁
  obtain ⟨p, -, h⟩ := Finset.mem_map.mp h₂
  have := congrArg Prod.snd h
  cases this

/-- The token of each duty. -/
def tokOf : (Dev nD × Role) ⊕ (Dev nD × Fin 3) → GSem nD τ sig × ℕ × Fin 3
  | .inl p => (dC p.1 p.2, 0, 0)
  | .inr p => (bC p.1, 0, p.2)
/-- Different duties have different tokens. -/
theorem tokOf_inj : Function.Injective tokOf := by
  rintro (p | p) (p' | p') h
  · exact congrArg Sum.inl (dC_inj (congrArg Prod.fst h))
  · have := congrArg (fun x : GSem nD τ sig × ℕ × Fin 3 => x.1.2) h; cases this
  · have := congrArg (fun x : GSem nD τ sig × ℕ × Fin 3 => x.1.2) h; cases this
  · exact congrArg Sum.inr (Prod.ext (congrArg (fun x : GSem nD τ sig × ℕ × Fin 3 => x.1.1.1) h) (congrArg (fun x : GSem nD τ sig × ℕ × Fin 3 => x.2.2) h))
/-- All the duties' tokens. -/
def toks : Finset (GSem nD τ sig × ℕ × Fin 3) := Finset.univ.map ⟨tokOf, tokOf_inj⟩

/-! ## The state before the region -/

variable (I : In F) (K : GSem nD τ sig → ℕ) (c : Dev nD)

/-- The invariants, and the barriers open. -/
def invs : sProp 𝕄 :=
  iprop((bigSep Finset.univ fun p : Dev nD × Role => cellInv ER (Rd I) (K (dC p.1 p.2)) (dC p.1 p.2))
    ∗ (bigSep Finset.univ fun d : Dev nD => cellInv ER (Rd I) (K (bC d)) (bC d))
    ∗ (bigSep Finset.univ fun d : Dev nD => reached ER (bC d) 0))
/-- The invariants can be kept and used again. -/
instance invs_persistent : BI.Persistent (invs I K) := by unfold invs; infer_instance

/-- What stays with a device: its place at the barrier, the right to open its semaphores, the tokens of what it pays. -/
def lin : sProp 𝕄 :=
  iprop(atPos ER (bC c) 0 ∅ 0 ∗ (bigSep Finset.univ fun r : Role => openTok ER (dC c r))
    ∗ (bigSep Finset.univ fun k : Fin 3 => dutyTok ER (bC (xto c k)) 0 k.rev)
    ∗ bigSep Finset.univ fun r : Role => dutyTok ER (dC (tgt (c, r)).1 (tgt (c, r)).2) 0 0)

/-- What others owe a device at launch. -/
def crd : sProp 𝕄 :=
  iprop(cred (tallyAt (bC c) () 3) ∗ (bigSep Finset.univ fun k : Fin 3 => cred (tallyAt (dC c (xr k)) () (amt (xr k))))
    ∗ bigSep Finset.univ fun j : Fin 12 => cred (tallyAt (dC c (ro j)) () (amt (ro j))))

/-- What a device starts from, its buffers aside. -/
def tailS : sProp 𝕄 :=
  iprop(cred (tallyAt (bC c) () 3) ∗ atPos ER (bC c) 0 ∅ 0
    ∗ (bigSep Finset.univ fun k : Fin 3 => dutyTok ER (bC (xto c k)) 0 k.rev)
    ∗ (bigSep Finset.univ fun k : Fin 3 => iprop(dutyTok ER (dC c (xs k)) 0 0 ∗ dutyTok ER (dC (xto c k) (xr k.rev)) 0 0 ∗ atPos ER (dC c (xs k)) 0 ∅ 0))
    ∗ fam I c xr 0 ∗ fam I c ro 0
    ∗ (bigSep Finset.univ fun j : Fin 12 => iprop(dutyTok ER (dC c (os j)) 0 0 ∗ dutyTok ER (dC (oto c j) (ro (jrev j))) 0 0 ∗ atPos ER (dC c (os j)) 0 ∅ 0))
    ∗ (bigSep Finset.univ fun k : Fin 2 => iprop(dutyTok ER (dC c (wr k)) 0 0 ∗ atPos ER (dC c (wr k)) 0 ∅ 0)))

/-- A family of which nothing has been waited for. -/
theorem fam_zero {n : ℕ} (f : Fin n → Role) : fam I c f 0 = bigSep Finset.univ fun j : Fin n => iprop(cred (tallyAt (dC c (f j)) () (amt (f j))) ∗ atPos ER (dC c (f j)) 0 ∅ 0) :=
  bigSep_congr fun j _ => if_neg (Nat.not_lt_zero _)

/-- The semaphores opened. -/
theorem open_all : iprop(invs I K ∗ (bigSep Finset.univ fun r : Role => openTok ER (dC c r)) ∗ bigSep Finset.univ fun r : Role => semVal (dC c r) 0)
    ⊢ (|={Set.univ}=> iprop((bigSep Finset.univ fun r : Role => atPos ER (dC c r) 0 ∅ 0) ∗ bigSep Finset.univ fun r : Role => reached ER (dC c r) 0) : sProp 𝕄) := by
  rw [← bigSep_sep', ← bigSep_sep']
  iintro ⟨#Hi, H⟩
  iapply (bigSep_fupd (Fr := frame) (E := Set.univ) Finset.univ (fun r : Role => iprop(atPos ER (dC c r) 0 ∅ 0 ∗ reached ER (dC c r) 0 : sProp 𝕄)))
  iapply (bigSep_with_persistent (R := invs I K) (Φ := fun r : Role => iprop(openTok ER (dC c r) ∗ semVal (dC c r) 0)) (fun r _ => ?_))
  rotate_left
  · isplitr; · iexact Hi
    iexact H
  unfold invs
  iintro ⟨⟨#Hi, -, -⟩, Ho, Hs⟩
  ihave Hc := (bs_elim (F := F) (c, r) (fun p : Dev nD × Role => (cellInv ER (Rd I) (K (dC p.1 p.2)) (dC p.1 p.2) : sProp 𝕄))) $$ Hi
  iapply (Rounds.cell_open ER (Rd I) (g := dC c r) (Set.mem_univ (K (dC c r))))
  isplitl [Hc]; · iexact Hc
  isplitl [Ho] <;> iassumption

/-- What a device takes into its region from the invariants, its own tokens and credits. -/
theorem open_region : iprop(invs I K ∗ lin c ∗ crd c ∗ (bigSep Finset.univ fun r : Role => semVal (dC c r) 0) ∗ levAts L lv)
    ⊢ (|={Set.univ}=> iprop(ctx I K c ∗ tailS I c) : sProp 𝕄) := by
  unfold lin crd tailS
  rw [fam_zero, fam_zero, bigSep_sep', bigSep_sep', bigSep_sep', bigSep_sep', bigSep_sep', bigSep_sep', bigSep_sep', roles (fun r => dutyTok ER (dC (tgt (c, r)).1 (tgt (c, r)).2) 0 0)]
  iintro ⟨#Hi, ⟨Hb, Ho, Htb, Hxs, Hxr, Hos, Hro, Hwr⟩, ⟨Hcb, Hcx, Hco⟩, Hs, #Hl⟩
  imod (open_all I K c) $$ [Ho Hs] with ⟨Ha, #Hr⟩
  · isplitr; · iexact Hi
    isplitl [Ho] <;> iassumption
  imodintro
  isplitr
  · unfold ctx invs
    icases Hi with ⟨#H1, #H2, #H3⟩
    isplitr; · iexact H1
    isplitr; · iexact H2
    isplitr; · iexact Hl
    isplitr; · iexact Hr
    iexact H3
  ihave Ha' := (show (bigSep Finset.univ fun r : Role => atPos ER (dC c r) 0 ∅ 0) ⊢ (_ : sProp 𝕄) from Entails.of_eq (roles (fun r => atPos ER (dC c r) 0 ∅ 0))) $$ Ha
  icases Ha' with ⟨Axs, Axr, Aos, Aro, Awr⟩
  isplitl [Hcb]; · iexact Hcb
  isplitl [Hb]; · iexact Hb
  isplitl [Htb]; · iexact Htb
  isplitl [Hxs Hxr Axs]
  · isplitl [Hxs]; · iexact Hxs
    isplitl [Hxr]; · iexact Hxr
    iexact Axs
  isplitl [Hcx Axr]
  · isplitl [Hcx] <;> iassumption
  isplitl [Hco Aro]
  · isplitl [Hco] <;> iassumption
  isplitl [Hos Hro Aos]
  · isplitl [Hos]; · iexact Hos
    isplitl [Hro]; · iexact Hro
    iexact Aos
  isplitl [Hwr]; · iexact Hwr
  iexact Awr

/-! ## The launch credit -/

/-- What is owed to a device. -/
def owedTo (c : Dev nD) : CellTallies nD τ sig Unit :=
  (∑ j : Fin 12, tallyAt (dC c (ro j)) () No) + (∑ k : Fin 3, tallyAt (dC c (xr k)) () Nx) + ∑ _k : Fin 3, tallyAt (bC c) () 1

/-- What a device owes at launch: its partial outputs, its activations, its barrier signals. -/
theorem O₀_eq (c : Dev nD) : O₀ c = (∑ j : Fin 12, odue c j) + (∑ k : Fin 3, xdue c k) + ∑ k : Fin 3, bdue c k := by
  unfold O₀ od
  rw [Fin.sum_univ_three, Fin.sum_univ_three, Finset.filter_true_of_mem (fun j _ => Nat.zero_le _)]
  ac_rfl

/-- What the devices owe on a kind of cell, summed by the receiving end. -/
theorem sum_role {n : ℕ} (f : Dev nD × Fin n ≃ Dev nD × Fin n) (h : Dev nD × Fin n → CellTallies nD τ sig Unit) :
    (∑ c : Dev nD, ∑ k : Fin n, h (f (c, k))) = ∑ c : Dev nD, ∑ k : Fin n, h (c, k) := by
  rw [← Fintype.sum_prod_type', ← Fintype.sum_prod_type']
  exact Equiv.sum_comp f h

/-- Sender and receiver of a partial output, swapped twice. -/
theorem jE_inv : ∀ p : Dev nD × Fin 12, (fun q : Dev nD × Fin 12 => (oto q.1 q.2, jrev q.2)) ((fun q : Dev nD × Fin 12 => (oto q.1 q.2, jrev q.2)) p) = p :=
  fun p => Prod.ext (oto_oto p.1 p.2) (jrev_jrev _)
/-- Sender and receiver of the partial outputs, swapped, as a bijection. -/
def jE : Dev nD × Fin 12 ≃ Dev nD × Fin 12 := ⟨fun q => (oto q.1 q.2, jrev q.2), fun q => (oto q.1 q.2, jrev q.2), jE_inv, jE_inv⟩

/-- What all devices owe is what is owed to all devices. -/
theorem sum_owed : (∑ d : Dev nD, O₀ d) = ∑ d : Dev nD, owedTo d := by
  have h1 := sum_role jE (fun p => tallyAt (dC p.1 (ro p.2)) () No)
  have h2 := sum_role btgtE (fun p => tallyAt (dC p.1 (xr p.2)) () Nx)
  have h3 := sum_role btgtE (fun p => tallyAt (bC p.1) () 1)
  simp only [O₀_eq, owedTo, Finset.sum_add_distrib]
  exact congrArg₂ (· + ·) (congrArg₂ (· + ·) h1 h2) h3

/-- What is owed to a device is owed on its own cells. -/
theorem owedTo_at (d : Dev nD) (g : GSem nD τ sig) (h : owedTo d g ≠ 0) : g.1 = (d : Thread nD τ) := by
  by_contra hg
  refine h ?_
  have hz (sm : SemLoc sig) (n : ℕ) : (tallyAt ((d : Thread nD τ), sm) () n : CellTallies nD τ sig Unit) g = 0 :=
    Finsupp.ext fun u => by rw [tallyAt_apply, if_neg (fun h => hg (congrArg Prod.fst h.1))]; rfl
  unfold owedTo
  simp only [Pi.add_apply, Finset.sum_apply, hz, Finset.sum_const_zero, add_zero]

/-- The launch's credit covers what each role's waits expect. -/
theorem creds : (Pipeline.launchCred O₀ c : sProp 𝕄) ⊢ crd c := by
  classical
  rw [Pipeline.launchCred_of_sum O₀ owedTo sum_owed owedTo_at c]
  unfold owedTo crd
  have e3 : (∑ _k : Fin 3, tallyAt (bC c) () 1) = (tallyAt (bC c) () 3 : CellTallies nD τ sig Unit) := by
    rw [Fin.sum_univ_three]
    funext g; refine Finsupp.ext fun u => ?_
    rw [Pi.add_apply, Pi.add_apply, Finsupp.add_apply, Finsupp.add_apply, tallyAt_apply, tallyAt_apply]
    split <;> rfl
  rw [e3]
  refine BIBase.Entails.trans (cred_add _ _).1 ?_
  iintro ⟨H, Hb⟩
  ihave H' := (cred_add _ _).1 $$ H
  icases H' with ⟨Ho, Hx⟩
  isplitl [Hb]; · iexact Hb
  isplitl [Hx]
  · iapply (Entails.of_eq (Pipeline.cred_finsetSum Finset.univ fun k : Fin 3 => (tallyAt (dC c (xr k)) () Nx : CellTallies nD τ sig Unit))) $$ Hx
  · iapply (Entails.of_eq (Pipeline.cred_finsetSum Finset.univ fun j : Fin 12 => (tallyAt (dC c (ro j)) () No : CellTallies nD τ sig Unit))) $$ Ho

end Cert.KernelIdeal.Attn
-- ==== Proof.KernelIdeal.HostV.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.FrameBody
public import proofs.«01_k».proof.Proof.KernelIdeal.Ghost
public import Idealize.ShloMosaic.Lib.Pipeline.Regions
public import Idealize.ShloMosaic.Lib.Pipeline.Kit
public import Idealize.ShloMosaic.Lib.Rounds
public import Idealize.ShloMosaic.Lib.Memref
public import Idealize.ShloMosaic.Lib.MemrefSat
public import Idealize.ShloMosaic.Lib.Tactic

@[expose] public section

set_option synthInstance.maxSize 4096

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Attn
open Facts₀ Facts
open Idealize.ShloMosaic.Pipeline (RDat)

variable {F : FTy → Type} [FloatOps F] [∀ e, Nonempty (Elt F e)]
variable (m : (ℓ : Loc nD τ sig) → Buf (Elt F) ℓ) (c : Dev nD)

/-- The device's number as a word. -/
theorem word_dev : ∀ c : Dev nD, IntOp.remui .host (IntOp.divui .host (Dev.word c) 1#32) 4#32 = BitVec.ofNat 32 c.val := by decide

/-- The table holds the device's own number. -/
theorem V1_v7 : V1 m c main_v7 = fun _ => BitVec.ofNat 32 c.val := by
  unfold V1 hostOps0
  after_results_simp
  funext j
  exact word_dev c
/-- The cached keys regrouped. -/
theorem V1_v5 : V1 m c main_v5 = shapeCast S4x16x4x64x32x128 (m ((c : Thread nD τ).loc main_arg2)) Facts₀.shapeCasts_S4x4096x32x128_S4x16x4x64x32x128 := by
  unfold V1 hostOps0
  after_results_simp
  rfl
/-- The cached values regrouped. -/
theorem V1_v6 : V1 m c main_v6 = shapeCast S4x16x4x64x32x128 (m ((c : Thread nD τ).loc main_arg3)) Facts₀.shapeCasts_S4x4096x32x128_S4x16x4x64x32x128 := by
  unfold V1 hostOps0
  after_results_simp
  rfl

end Cert.KernelIdeal.Attn
-- ==== Proof.KernelIdeal.Region.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.FrameBody
public import proofs.«01_k».proof.Proof.KernelIdeal.HostV
public import Idealize.ShloMosaic.Lib.Pipeline.Regions
public import Idealize.ShloMosaic.Lib.Pipeline.Kit
public import Idealize.ShloMosaic.Lib.Rounds
public import Idealize.ShloMosaic.Lib.Memref
public import Idealize.ShloMosaic.Lib.MemrefSat
public import Idealize.ShloMosaic.Lib.Tactic

@[expose] public section

set_option synthInstance.maxSize 4096

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Attn
open Facts₀ Facts
open Idealize.ShloMosaic.Pipeline (RDat)

variable {F : FTy → Type} [FloatOps F] [∀ e, Nonempty (Elt F e)]

local notation "𝕄" => MT nD τ sig Unit (Elt F) ℕ UU ℕ

variable (m : (ℓ : Loc nD τ sig) → Buf (Elt F) ℓ) (c : Dev nD)

/-- The kernel's semaphores as the region names them. -/
def osem (r : Role) : SemLoc sig := .dma (dsem r)
/-- The region's own semaphores are as the schedule takes them. -/
theorem ho : Pipeline.OwnSemFacts spec0 osem := by decide

/-- What rides along beside the buffers up to the region. -/
def rest0 (c : Dev nD) : sProp 𝕄 :=
  iprop((∃ K : GSem nD τ sig → ℕ, invs (inOf m) K ∗ lin c) ∗ crd c ∗ ow c (O₀ c))

/-- The arguments that are no window's array. -/
def args (c : Dev nD) : sProp 𝕄 :=
  iprop((((c : Thread nD τ).loc main_arg2) ↦{fullShare} V1 m c main_arg2) ∗ (((c : Thread nD τ).loc main_arg3) ↦{fullShare} V1 m c main_arg3))
/-- The two weights, in memory as at launch. -/
def wts (c : Dev nD) : sProp 𝕄 :=
  iprop((((c : Thread nD τ).loc main_arg1) ↦{fullShare} V1 m c main_arg1) ∗ (((c : Thread nD τ).loc main_arg4) ↦{fullShare} V1 m c main_arg4))

/-- What the region takes in beside its windows. -/
def regX (c : Dev nD) : sProp 𝕄 := iprop(cx (inOf m) c ∗ tailS (inOf m) c ∗ wts m c)
/-- What the region gives back beside its windows. -/
def regY (c : Dev nD) : sProp 𝕄 := iprop(semVal (bC c) 0 ∗ wts m c)

/-- What a device ends with. -/
def fin0 (c : Dev nD) : sProp 𝕄 :=
  iprop((rdat m 0 c).arraysAt grid0.N ∗ (semVal (bC c) 0 ∗ wts m c) ∗ args m c)

/-- The table held for the region is the state's table. -/
theorem tab_eq : (Pipeline.prefHeld (Ix := Unit) (Name := ℕ) (U := UU) (Lvl := ℕ) pre0 c (fun _ => fullShare) (pfOf (F := F) c) : sProp 𝕄) = tab c fullShare := by
  unfold Pipeline.prefHeld tab
  rw [owns_whole]
  show bigSep (Finset.univ : Finset (Fin 1)) _ = _
  rw [show (Finset.univ : Finset (Fin 1)) = {0} from rfl, bigSep_singleton]; rfl

/-- From the host's arrays to what the region takes. -/
theorem hentry : iprop((iprop(StableHlo.held (c : Thread nD τ) (Pipeline.ucRefs τ sig) (V1 m c) ∗ rest0 m c)) ∗ Pipeline.ownSems0 osem c ∗ levAts L lv)
    ⊢ (|={Set.univ}=> iprop((rdat m 0 c).arrays (rdat m 0 c).A ∗ Pipeline.prefHeld pre0 c (fun _ => fullShare) (pfOf (F := F) c)
        ∗ (rdat m 0 c).owesAt () 0 ∗ regX m c ∗ args m c) : sProp 𝕄) := by
  rw [← Pipeline.unscopedBufs_held]
  have h1 := Pipeline.PerCore.RDat.arrays_of_unscopedBufs (pcfgs (F := F)) adm (rdat m) (p := 0) winFacts0 arr_whole0 c (fun w => by unfold RDat.share; split <;> rfl) (fun b => V1 m c b) (fun w => rfl)
  have h2 := Pipeline.unscopedRest_split (Ix := Unit) (Val := Elt F) (Name := ℕ) (U := UU) (Lvl := ℕ) preFacts0 c (fun b => V1 m c b)
  have h3 : (fun k => V1 m c (pre0.ref k)) = pfOf (F := F) c := by
    funext k; match k with | 0 => exact V1_v7 m c
  rw [h3] at h2
  unfold rest0 regX cx Pipeline.ownSems0 osem wts args
  iintro ⟨⟨Hh, ⟨%K, #Hi, Hl⟩, Hc, HO⟩, Hs, #Hlev⟩
  imod (open_region (inOf m) K c) $$ [Hl Hc Hs] with ⟨Hctx, Ht⟩
  · isplitr; · iexact Hi
    isplitl [Hl]; · iexact Hl
    isplitl [Hc]; · iexact Hc
    isplitl [Hs]; · iexact Hs
    iexact Hlev
  ihave Hh' := h1 $$ Hh
  icases Hh' with ⟨Harr, Hrest⟩
  ihave Hr := (show (Pipeline.unscopedRest (Ix := Unit) (Val := Elt F) (Name := ℕ) (U := UU) (Lvl := ℕ) spec0 c (fun b => V1 m c b) : sProp 𝕄) ⊢ _ from Entails.of_eq h2) $$ Hrest
  icases Hr with ⟨Hpf, Hr⟩
  ihave Hr' := (Entails.of_eq (unscopedRestP0_eq (Ix := Unit) (Val := Elt F) (Name := ℕ) (U := UU) (Lvl := ℕ) c (fun b => V1 m c b))) $$ Hr
  icases Hr' with ⟨H1, H2, H3, H4, -⟩
  imodintro
  isplitl [Harr]; · iexact Harr
  isplitl [Hpf]; · iexact Hpf
  isplitl [HO]; · iapply (owesAt_intro m c 0); iexact HO
  isplitl [Hctx Ht H1 H4]
  · isplitl [Hctx]; · iexists K; iexact Hctx
    isplitl [Ht]; · iexact Ht
    isplitl [H1] <;> iassumption
  isplitl [H2] <;> iassumption

/-- A whole buffer at any contents, its contents forgotten. -/
theorem any_whole {κ : Ref sig .tc} (f : Buf (Elt F) ((c : Thread nD τ).loc κ)) : ((((c : Thread nD τ).loc κ) ↦{fullShare} f) : sProp 𝕄) ⊢ anyAt (c : Thread nD τ) (Memref.whole κ) := by
  rw [← owns_whole]; exact anyAt_intro _ _

/-- What the region takes gives the state before the first point. -/
theorem hin : iprop(regX m c ∗ Pipeline.prefHeld pre0 c (fun _ => fullShare) (pfOf (F := F) c) ∗ Pipeline.scopedRest spec0 c) ⊢ (Φ (inOf m) c 0 : sProp 𝕄) := by
  rw [Φ_zero, tab_eq, scopedRest0_eq]
  unfold regX start wts tailS
  iintro ⟨⟨Hcx, Ht, Hq, Ho⟩, Htab, ⟨%f0, H0⟩, ⟨%f1, H1⟩, ⟨%f2, H2⟩, ⟨%f3, H3⟩, ⟨%f4, H4⟩, ⟨%f5, H5⟩⟩
  isplitl [Hcx]; · iexact Hcx
  isplitr [H1 Htab]
  · isplitl [H4]; · iapply (any_whole c f4) $$ H4
    isplitl [H5]; · iapply (any_whole c f5) $$ H5
    isplitl [Hq]; · iapply (show ((((c : Thread nD τ).loc main_arg1) ↦{fullShare} V1 m c main_arg1 : sProp 𝕄)) ⊢ owns (c : Thread nD τ) wqH fullShare ((inOf m).wq c) from Entails.of_eq (owns_whole _ _ _ _).symm) $$ Hq
    isplitl [Ho]; · iapply (show ((((c : Thread nD τ).loc main_arg4) ↦{fullShare} V1 m c main_arg4 : sProp 𝕄)) ⊢ owns (c : Thread nD τ) woH fullShare ((inOf m).wo c) from Entails.of_eq (owns_whole _ _ _ _).symm) $$ Ho
    isplitl [H0]; · iapply (xg_split c) ; iapply (any_whole c f0) $$ H0
    isplitl [H2]; · iapply (om_split c) ; iapply (any_whole c f2) $$ H2
    isplitl [H3]; · iapply (or_split c) ; iapply (any_whole c f3) $$ H3
    iexact Ht
  isplitl [H1]; · iapply (any_whole c f1) $$ H1
  iexact Htab

/-- A whole buffer whose contents are forgotten is held at some contents. -/
theorem some_whole {κ : Ref sig .tc} : (anyAt (c : Thread nD τ) (Memref.whole κ) : sProp 𝕄) ⊢ iprop(∃ f : Buf (Elt F) ((c : Thread nD τ).loc κ), ((c : Thread nD τ).loc κ) ↦{fullShare} f) := by
  unfold anyAt
  iintro ⟨%X, H⟩
  iexists X
  iapply (Entails.of_eq (owns_whole (c : Thread nD τ) κ fullShare X)) $$ H

/-- The state after the last point gives back what the region must return. -/
theorem hout : (done (inOf m) c : sProp 𝕄) ⊢ iprop(regY m c ∗ Pipeline.ownSems0 osem c ∗ Pipeline.scopedRest spec0 c) := by
  rw [scopedRest0_eq]
  unfold done regY Pipeline.ownSems0 osem wts
  iintro ⟨Hb, Hs, H0, H1, H2, H3, H4, H5, Hq, Ho⟩
  isplitl [Hb Hq Ho]
  · isplitl [Hb]; · iexact Hb
    isplitl [Hq]; · iapply (show owns (c : Thread nD τ) wqH fullShare ((inOf m).wq c) ⊢ ((((c : Thread nD τ).loc main_arg1) ↦{fullShare} V1 m c main_arg1 : sProp 𝕄)) from Entails.of_eq (owns_whole _ _ _ _)) $$ Hq
    iapply (show owns (c : Thread nD τ) woH fullShare ((inOf m).wo c) ⊢ ((((c : Thread nD τ).loc main_arg4) ↦{fullShare} V1 m c main_arg4 : sProp 𝕄)) from Entails.of_eq (owns_whole _ _ _ _)) $$ Ho
  isplitl [Hs]; · iexact Hs
  isplitl [H0]; · iapply (some_whole c) $$ H0
  isplitl [H1]; · iapply (some_whole c) $$ H1
  isplitl [H2]; · iapply (some_whole c) $$ H2
  isplitl [H3]; · iapply (some_whole c) $$ H3
  isplitl [H4]; · iapply (some_whole c) $$ H4
  iapply (some_whole c) $$ H5

/-- The windows' semaphores have no role in the exchange. -/
theorem stage_zero : ∀ (w : Fin 4) (s : Fin (spec0 w).nbuf), roleOf ((spec0 w).sem s) = none := by decide

/-- The kernel's region. -/
def reg : Pipeline.PerCore.RDat.RegionSeg (pcfgs (F := F)) adm (rdat m) () (defs₀ (F := F)) 𝒱₀ L lv 0 where
  win := winFacts0.to₀
  block_pos := block_pos0
  stage_whole := stage_whole0
  K := Role
  osem := osem
  ho := ho
  hbody c := obl m c
  hwaits c := Pipeline.PerCore.RDat.cellsWaits_intro _ (rdat m) () 0 c fun w s t => mayWait_above c _ _ (by
    have h : lv ((c : Thread nD τ), SemLoc.dma ((spec0 w).sem s)) () = 0 := by
      show (match roleOf ((spec0 w).sem s) with | some r => lvR r | none => 0) = 0
      rw [stage_zero]
    show Above (lv ((c : Thread nD τ), SemLoc.dma ((spec0 w).sem s)) ()) _
    rw [h]; exact above_owedAt c t.val)
  pre c := iprop(StableHlo.held (c : Thread nD τ) (Pipeline.ucRefs τ sig) (V1 m c) ∗ rest0 m c)
  post c := iprop(fin0 m c ∗ ∃ W, owes (c : Thread nD τ) (0 : CellTallies nD τ sig Unit) W)
  X c := regX m c
  Y c := regY m c
  Z c := args m c
  hentry c := hentry m c
  hin c := hin m c
  hout c := (show (rdat m 0 c).Φ (Fin.last grid0.N) ⊢ (done (inOf m) c : sProp 𝕄) from Entails.of_eq (Φ_done (inOf m) c grid0.N (by rw [N_0]))).trans (hout m c)
  hexit c := by
    unfold fin0 regY
    iintro ⟨Ha, HO, HY, HZ⟩
    imodintro
    isplitr [HO]
    · isplitl [Ha]; · iexact Ha
      isplitl [HY]; · iexact HY
      iexact HZ
    ihave HO' := (owesAt_elim m c (Fin.last grid0.N)) $$ HO
    have e : owedAt c (Fin.last grid0.N).val = 0 := by
      show owedAt c grid0.N = 0
      rw [N_0, owedAt_pos c 16 (by decide), od_done c 16 (by decide)]
    unfold ow
    rw [e]
    iexact HO'

end Cert.KernelIdeal.Attn
-- ==== Proof.KernelIdeal.Run.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.FrameBody
public import proofs.«01_k».proof.Proof.KernelIdeal.Region
public import Idealize.ShloMosaic.Lib.Pipeline.Regions
public import Idealize.ShloMosaic.Lib.Pipeline.Kit
public import Idealize.ShloMosaic.Lib.Rounds
public import Idealize.ShloMosaic.Lib.Memref
public import Idealize.ShloMosaic.Lib.MemrefSat
public import Idealize.ShloMosaic.Lib.Tactic

@[expose] public section

set_option synthInstance.maxSize 4096

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Attn
open Facts₀ Facts
open Idealize.ShloMosaic.Pipeline (RDat)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg) (c : Dev nD)

/-- The staging cells are distinct. -/
theorem phinj : Function.Injective (Pipeline.PerCore.cellOf (nD := nD) (τ := τ) (Pipeline.pinD (pcfgs (F := F)) adm)) :=
  Pipeline.PerCore.cellOf_injective _
    (fun c p => Pipeline.specSemsDistinct_of_nodup _ (show (Pipeline.specSems (Pipeline.pinD (pcfgs (F := F)) adm c p).spec).Nodup from match p with | 0 => semsDistinct 0))
    (fun _ p p' h => absurd (Subsingleton.elim p p') h)

/-- A holding parked with one device. -/
def parked (X : sProp 𝕄) (c : Dev nD) : sProp 𝕄 := if c = 0 then X else iprop(emp)
/-- What is parked with the first window alone, put together again. -/
theorem bigSep_parked (X : sProp 𝕄) : bigSep Finset.univ (parked X) = X := by
  show bigSep (Finset.univ : Finset (Fin 4)) _ = _
  rw [show (Finset.univ : Finset (Fin 4)) = {0, 1, 2, 3} from by decide, bigSep_insert (by decide), bigSep_insert (by decide), bigSep_insert (by decide), bigSep_singleton]
  unfold parked
  rw [if_pos rfl, if_neg (by decide), if_neg (by decide), if_neg (by decide)]
  have e (Y : sProp 𝕄) : iprop(Y ∗ emp) = Y := BI.equiv_iff.mp sep_emp
  have e' : BI.sep (iprop(emp) : sProp 𝕄) iprop(emp) = iprop(emp) := e _
  rw [e', e']
  exact e X

/-- The protocol's ghost state at launch. -/
def Gq : Dev nD → sProp 𝕄 := parked (BI.own (ER (launchOf bCells dCells toks)))

/-- The ghost state at launch. -/
def u₀ : UU := (Rounds.initOf (Pipeline.PerCore.cells (Pipeline.pinD (pcfgs (F := F)) adm) phinj) (Pipeline.PerCore.launchToks (Pipeline.pinD (pcfgs (F := F)) adm) phinj), launchOf bCells dCells toks)

/-- The one semaphore outside the region is the barrier's. -/
theorem unscoped_sems : (unscopedSems0 c : sProp 𝕄) = semVal (bC c) 0 := by
  unfold unscopedSems0
  rw [show (Finset.univ.filter fun sm : SemLoc sig => ¬ sm.isScoped .tc) = {SemLoc.reg barS} from by decide, BI.bigSep_singleton]

/-- The tokens, each with the device that pays. -/
theorem toks_deal : bigSep toks (fun x => (dutyTok ER x.1 x.2.1 x.2.2 : sProp 𝕄))
    = iprop((bigSep Finset.univ fun c : Dev nD => bigSep Finset.univ fun r : Role => dutyTok ER (dC (tgt (c, r)).1 (tgt (c, r)).2) 0 0)
      ∗ bigSep Finset.univ fun c : Dev nD => bigSep Finset.univ fun k : Fin 3 => dutyTok ER (bC (xto c k)) 0 k.rev) := by
  unfold toks
  rw [bigSep_map, bigSep_univ_sum]
  have e1 := (bigSep_univ_equiv tgtE (fun p : Dev nD × Role => (dutyTok ER (dC p.1 p.2) 0 0 : sProp 𝕄))).trans (bigSep_univ_prod _)
  have e2 := (bigSep_univ_equiv btgtE (fun p : Dev nD × Fin 3 => (dutyTok ER (bC p.1) 0 p.2 : sProp 𝕄))).trans (bigSep_univ_prod _)
  exact congrArg₂ BI.sep e1 e2

/-- What of a device's launch holdings is no ghost state of the protocol. -/
def purse (c : Dev nD) : sProp 𝕄 :=
  iprop(StableHlo.held (c : Thread nD τ) (Pipeline.ucRefs τ sig) (V0 m c) ∗ crd c ∗ ow c (O₀ c))

abbrev T₀ (c : Dev nD) : sProp 𝕄 := iprop(StableHlo.held (c : Thread nD τ) (Pipeline.ucRefs τ sig) (V0 m c) ∗ rest0 m c)

/-- What each device starts with, from the invariants and its share. -/
theorem T₀_make (K : GSem nD τ sig → ℕ) (c : Dev nD) : iprop(invs (inOf m) K ∗ (lin c ∗ purse m c)) ⊢ (T₀ m c : sProp 𝕄) := by
  unfold T₀ purse rest0
  iintro ⟨#Hi, Hl, Hh, Hc, HO⟩
  isplitl [Hh]; · iexact Hh
  isplitl [Hl]
  · iexists K
    isplitr; · iexact Hi
    iexact Hl
  isplitl [Hc] <;> iassumption

/-- A device's launch holdings sorted. -/
theorem sort_core : iprop(unscopedBufs c (fun b => m ((c : Thread nD τ).loc b)) ∗ unscopedSems0 c
      ∗ owes (c : Thread nD τ) (O₀ c) ∅ ∗ Pipeline.launchCred O₀ c ∗ prngReg c (ρ c) ∗ Gq c)
    ⊢ (iprop(purse m c ∗ (semVal (bC c) 0 ∗ Gq c)) : sProp 𝕄) := by
  rw [show unscopedBufs c (fun b => m ((c : Thread nD τ).loc b)) = StableHlo.held (c : Thread nD τ) (Pipeline.ucRefs τ sig) (V0 m c) from Pipeline.unscopedBufs_held c (V0 m c),
    unscoped_sems]
  unfold purse ow
  iintro ⟨Hh, Hs, HO, Hc, -, HG⟩
  isplitl [Hh HO Hc]
  · isplitl [Hh]; · iexact Hh
    isplitl [Hc]; · iapply (creds c); iexact Hc
    iexists ∅; iexact HO
  isplitl [Hs] <;> iassumption

/-- The invariants found at launch. -/
theorem invs_make (K : GSem nD τ sig → ℕ) : iprop((bigSep (bCells ∪ dCells) fun g => cellInv ER (Rd (inOf m)) (K g) g) ∗ bigSep bCells fun g => reached ER g 0)
    ⊢ (invs (inOf m) K : sProp 𝕄) := by
  have e1 := bigSep_map (s := Finset.univ) dEmb (Φ := fun g : GSem nD τ sig => (cellInv ER (Rd (inOf m)) (K g) g : sProp 𝕄))
  have e2 := bigSep_map (s := Finset.univ) bEmb (Φ := fun g : GSem nD τ sig => (cellInv ER (Rd (inOf m)) (K g) g : sProp 𝕄))
  have e3 := bigSep_map (s := Finset.univ) bEmb (Φ := fun g : GSem nD τ sig => (reached ER g 0 : sProp 𝕄))
  rw [bigSep_union cells_disj, e1, e2, e3]
  unfold invs
  refine BIBase.Entails.trans (Q := iprop(((bigSep Finset.univ fun d : Dev nD => cellInv ER (Rd (inOf m)) (K (bC d)) (bC d))
    ∗ (bigSep Finset.univ fun p : Dev nD × Role => cellInv ER (Rd (inOf m)) (K (dC p.1 p.2)) (dC p.1 p.2))) ∗ (bigSep Finset.univ fun d : Dev nD => reached ER (bC d) 0))) (Entails.of_eq rfl) ?_
  iintro ⟨⟨H1, H2⟩, H3⟩
  isplitl [H2]; · iexact H2
  isplitl [H1]; · iexact H1
  iexact H3

/-- Two families dealt to the devices, as one. -/
theorem deal_in {A B : Dev nD → sProp 𝕄} : iprop(bigSep Finset.univ A ∗ bigSep Finset.univ B) ⊢ bigSep Finset.univ fun c => iprop(A c ∗ B c) :=
  Entails.of_eq (bigSep_sep' _ _ _).symm
/-- Dealing a family of pairs out to the devices. -/
theorem deal_out {A B : Dev nD → sProp 𝕄} : (bigSep Finset.univ fun c => iprop(A c ∗ B c)) ⊢ iprop(bigSep Finset.univ A ∗ bigSep Finset.univ B) :=
  Entails.of_eq (bigSep_sep' _ _ _)

/-- The launch. -/
theorem launch :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ Gq c)) ∗ levAts L lv)
      ⊢ (|={Set.univ}=> bigSep Finset.univ (T₀ m) : sProp 𝕄) := by
  have hv : bigSep Finset.univ (fun c : Dev nD => (semVal (bC c) 0 : sProp 𝕄)) ⊢ bigSep bCells (fun g => (semVal g 0 : sProp 𝕄)) :=
    Entails.of_eq (bigSep_map (s := Finset.univ) bEmb (Φ := fun g : GSem nD τ sig => (semVal g 0 : sProp 𝕄))).symm
  have hat : bigSep bCells (fun g => (atPos ER g 0 ∅ 0 : sProp 𝕄)) ⊢ bigSep Finset.univ (fun c : Dev nD => (atPos ER (bC c) 0 ∅ 0 : sProp 𝕄)) :=
    Entails.of_eq (bigSep_map (s := Finset.univ) bEmb (Φ := fun g : GSem nD τ sig => (atPos ER g 0 ∅ 0 : sProp 𝕄)))
  have hop : bigSep dCells (fun g => (openTok ER g : sProp 𝕄)) ⊢ bigSep Finset.univ (fun c : Dev nD => bigSep Finset.univ fun r : Role => (openTok ER (dC c r) : sProp 𝕄)) :=
    Entails.of_eq ((bigSep_map (s := Finset.univ) dEmb (Φ := fun g : GSem nD τ sig => (openTok ER g : sProp 𝕄))).trans (bigSep_univ_prod _))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ Gq c))
      ⊢ (bigSep Finset.univ fun c : Dev nD => iprop(purse m c ∗ (semVal (bC c) 0 ∗ Gq c)) : sProp 𝕄) from bigSep_mono fun c _ => sort_core m ρ c) $$ H
  ihave H2 := deal_out $$ H'; icases H2 with ⟨HB, H3⟩
  ihave H4 := deal_out $$ H3; icases H4 with ⟨Hv, HG⟩
  ihave Hu := (show bigSep Finset.univ (Gq (F := F)) ⊢ BI.own (ER (launchOf bCells dCells toks)) from
    Entails.of_eq (bigSep_parked (F := F) (BI.own (ER (launchOf bCells dCells toks))))) $$ HG
  imod (Rounds.fund_launch ER (Rd (inOf m)) cells_disj (fun g _ h => h) toks) $$ [Hv Hu] with ⟨%K, -, #Hinv, #Hr, Hat, Hopen, Htok⟩
  · isplitl [Hv]
    · iapply hv $$ Hv
    · iexact Hu
  imodintro
  iapply (bigSep_with_persistent (R := invs (inOf m) K) (Φ := fun c => iprop(lin c ∗ purse m c)) fun c _ => T₀_make m K c)
  isplitr
  · iapply (invs_make m K)
    isplitr; · iexact Hinv
    iexact Hr
  iapply deal_in
  isplitr [HB]
  · ihave Ht := (Entails.of_eq (toks_deal (F := F))) $$ Htok
    icases Ht with ⟨Ht1, Ht2⟩
    unfold lin
    iapply deal_in; isplitl [Hat]; · iapply hat $$ Hat
    iapply deal_in; isplitl [Hopen]; · iapply hop $$ Hopen
    iapply deal_in; isplitl [Ht2]; · iexact Ht2
    iexact Ht1
  · iexact HB

/-! ## The run -/

/-- A device's program in segments. -/
def segs (c : Dev nD) : List (Pipeline.PerCore.RDat.Seg (pcfgs (F := F)) adm (rdat m) () (defs₀ (F := F)) 𝒱₀ L lv) :=
  [.host (seg0 m 𝒱₀ L lv (fun _ => rest0 m) c), .region (reg m)]

/-- What a final memory shows of a device. -/
def Shows (c : Dev nD) (s : MemSt nD τ sig (Elt F)) : Prop :=
  (∀ w : Fin 4, (rdat m 0 c).ArrAt w grid0.N (s.mem ((spec0 w).arr.view.loc (c : Thread nD τ))))
    ∧ (s.mem ((c : Thread nD τ).loc main_arg1) = V1 m c main_arg1 ∧ s.mem ((c : Thread nD τ).loc main_arg4) = V1 m c main_arg4)
    ∧ (s.mem ((c : Thread nD τ).loc main_arg2) = V1 m c main_arg2 ∧ s.mem ((c : Thread nD τ).loc main_arg3) = V1 m c main_arg3)
    ∧ s.sem (bC c) = 0

/-- What a device ends with shows in memory. -/
theorem shows_of (s' : Phys nD τ sig (Elt F)) : iprop(fin0 m c ∗ SI s') ⊢ (|={Set.univ}=> iprop(⌜Shows m c s'.mem⌝ ∗ SI s') : sProp 𝕄) := by
  unfold fin0 wts args
  iintro ⟨⟨Ha, ⟨Hb, H1, H4⟩, H2, H3⟩, HS⟩
  ihave Hr := (Pipeline.PerCore.RDat.arrays_read (pcfgs (F := F)) adm (rdat m) (p := 0) arr_whole0 c grid0.N s') $$ [Ha HS]
  · isplitl [Ha] <;> iassumption
  icases Hr with ⟨%ha, HS⟩
  icombine HS H1 gives %h1
  icombine HS H2 gives %h2
  icombine HS H3 gives %h3
  icombine HS H4 gives %h4
  icombine HS Hb gives %hb
  imodintro
  isplitr
  · ipureintro
    exact ⟨ha, ⟨Buf.eq_of_forall_mem_univ h1, Buf.eq_of_forall_mem_univ h4⟩, ⟨Buf.eq_of_forall_mem_univ h2, Buf.eq_of_forall_mem_univ h3⟩, by simpa using hb⟩
  iexact HS

/-- The only semaphore outside the region is the barrier. -/
theorem unscoped_bar : ∀ sm : SemLoc sig, sm.isScoped .tc = false → sm = .reg barS := by decide

set_option backward.isDefEq.respectTransparency.types false in
/-- Every run of the program ends, showing on every device what the last region left, every counter at zero. -/
theorem run_shows : θ_run defs (onTc (τ := τ) (main (F := F))) ⟨m, fun _ => 0, ρ⟩
    (fun r => (∀ c : Dev nD, Shows m c r.2) ∧ r.2.sem = fun _ => 0) :=
  Pipeline.PerCore.RDat.θ_run_regions_kit_sems (pcfgs (F := F)) adm (rdat m) () phinj EP defs₀ 𝒱₀ L lv m ρ main (segs m)
    (fun c Q => by
      rewrite [main_chain c, Pipeline.PerCore.RDat.Seg.run_eq_chain, show (segs m c).map Pipeline.PerCore.RDat.Seg.prog = [StableHlo.seq (hostOps0 c), Prog.lift (.customCall (Pipeline.entry 0) ())] from rfl]
      dsimp (config := {failIfUnchanged := false}) only; exact .rfl)
    (fun c => by simp only [segs, Pipeline.PerCore.RDat.Seg.pipes_host, Pipeline.PerCore.RDat.Seg.pipes_region, Pipeline.PerCore.RDat.Seg.pipes_nil]; decide)
    (O₀ := O₀) (hL := L_of_ne) (G := Gq) (u₀ := u₀)
    (hu₀ := by
      unfold u₀ Gq
      iintro Hu
      ihave H := (ownU_pair _ _) $$ Hu
      icases H with ⟨HP, HX⟩
      imodintro
      isplitl [HP]; · iexact HP
      rw [bigSep_parked]; iexact HX)
    (T₀ := T₀ m) (Tₙ := fin0 m)
    (hch := fun c => ⟨.rfl, .rfl, .rfl⟩)
    (hinit := launch m ρ)
    (QY := Shows m)
    (hfin := fun c s' => shows_of m c s')
    (hQ := fun s h hs => ⟨h, sem_eq_zero hs fun c sm hsm => by obtain rfl := unscoped_bar sm hsm; exact (h c).2.2.2⟩)

end Cert.KernelIdeal.Attn
-- ==== Proof.KernelIdeal.Value.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.FrameBody
public import Idealize.ShloMosaic.Lib.Pipeline.ArrRel
public import proofs.«01_k».proof.Proof.KernelIdeal.Run
public import Idealize.ShloMosaic.Lib.Pipeline.Regions
public import Idealize.ShloMosaic.Lib.Pipeline.Kit
public import Idealize.ShloMosaic.Lib.Rounds
public import Idealize.ShloMosaic.Lib.Memref
public import Idealize.ShloMosaic.Lib.MemrefSat
public import Idealize.ShloMosaic.Lib.Tactic

@[expose] public section

set_option synthInstance.maxSize 4096

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Attn
open Facts₀ Facts
open Idealize.ShloMosaic.Pipeline (RDat)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg) (c : Dev nD)

/-- The grid has a sixteenth point. -/
theorem N_pos15 : 15 < grid0.N := by rw [N_0]; decide

/-- The result's window is written back whole at the last point. -/
theorem whole15 : ((Pipeline.pinD (pcfgs (F := F)) adm c 0).win 3).WholeAt ⟨15, N_pos15⟩ := by
  refine ⟨?_, fun t h => ?_, fun a => ?_⟩
  · unfold Pipeline.Window.flush
    refine (Bool.true_and _).trans ?_
    rw [Bool.or_eq_true_iff]
    exact Or.inl (decide_eq_true (show 15 + 1 = grid0.N by rw [N_0]))
  · obtain ⟨n, hn⟩ := t
    have hN : grid0.N = 16 := N_0
    have hn' : n < grid0.N := hn
    by_contra hne
    have h15 : n ≠ 15 := fun e => hne (Fin.ext e)
    have := noflush (F := F) c n (by omega) hn'
    exact absurd h (by rw [show (⟨n, hn⟩ : Fin grid0.N) = ⟨n + 1 - 1, hn'⟩ from rfl, this]; decide)
  · change Fin 3 at a
    match a with
    | 0 => exact ⟨rfl, rfl⟩
    | 1 => exact ⟨rfl, rfl⟩
    | 2 => exact ⟨rfl, rfl⟩

/-- The result as a memory shows it. -/
theorem shows_out {s : MemSt nD τ sig (Elt F)} (h : Shows m c s) : ∃ Y, s.mem ((c : Thread nD τ).loc main_v8) = outAcc (inOf m) c 16 Y := by
  obtain ⟨X, hX, hj⟩ := Pipeline.RDat.ArrAt.emb_eq_of_wholeAt (h.1 3) (whole15 (F := F) c)
  obtain ⟨Y, hY⟩ := leaves3 m c _ _ hX
  refine ⟨Y, ?_⟩
  funext j
  have e2 : (s.mem (View.loc (c : Thread nD τ) (spec0 3).arr.view) (((Pipeline.pinD (pcfgs (F := F)) adm c 0).win 3).arr.view.emb j)) = s.mem ((c : Thread nD τ).loc main_v8) j := rfl
  refine e2.symm.trans ((hj j).trans ?_)
  refine (cast_eq _ _).trans ?_
  exact congrFun hY _

/-- The arguments as a memory shows them. -/
theorem shows_args {s : MemSt nD τ sig (Elt F)} (h : Shows m c s) :
    s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4) := by
  obtain ⟨h0, ⟨h1, h4⟩, ⟨h2, h3⟩, -⟩ := h
  refine ⟨?_, h1.trans (V1_of m c main_arg1 (by decide)), h2.trans (V1_of m c main_arg2 (by decide)), h3.trans (V1_of m c main_arg3 (by decide)), h4.trans (V1_of m c main_arg4 (by decide))⟩
  have e := h0 0
  rw [RDat.ArrAt_in (rd := rdat m 0 c) (0 : Fin 4) rfl] at e
  exact e.trans (V1_of m c main_arg0 (by decide))

/-- Every run ends with the arguments as they were, the result some accumulation of the sixteen points, every counter at zero. -/
theorem run_value : θ_run defs (onTc (τ := τ) (main (F := F))) ⟨m, fun _ => 0, ρ⟩
    (fun r => (∀ c : Dev nD, (∃ Y, r.2.mem ((c : Thread nD τ).loc main_v8) = outAcc (inOf m) c 16 Y)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c => ⟨shows_out m c (h.1 c), shows_args m c (h.1 c)⟩, h.2⟩) (run_shows m ρ)

end Cert.KernelIdeal.Attn
-- ==== Proof.Maths.RefSteps.lean ====
module

public import proofs.«01_k».proof.Proof.Gen.ReferenceIdeal.Run
public import Idealize.ShloMosaic.PureOps.Ideal

@[expose] public section

noncomputable section

namespace Cert.ReferenceIdeal.Attn

open Idealize.ShloMosaic Idealize.ShloMosaic.TcCoe Cert.ReferenceIdeal Cert.ReferenceIdeal.Gen

/-- The reference's `v0`. -/
def qProd (x : FVec Ideal S4x256x1024 .f32) (wq : FVec Ideal S1024x4096 .f32) : FVec Ideal S4x256x4096 .f32 :=
  Host.dotGeneral dot_S4x256x1024_S1024x4096_S4x256x4096_2_0_01_1_n_n none x wq

/-- The reference's `v3`. -/
def qBlk : IVec S256 32 :=
  select (andi (cmpi .ne (signi (iotaInDim S256 32 0)) (broadcastInDim S256 ![] bcast_S_S256 (signi (id (constantI S_ 32 64#32))))) (cmpi .ne (Host.remsi (iotaInDim S256 32 0) (broadcastInDim S256 ![] bcast_S_S256 (id (constantI S_ 32 64#32)))) (broadcastInDim S256 ![] bcast_S_S256 (constantI S_ 32 0#32)))) (subi (Host.divsi (iotaInDim S256 32 0) (broadcastInDim S256 ![] bcast_S_S256 (id (constantI S_ 32 64#32)))) (broadcastInDim S256 ![] bcast_S_S256 (constantI S_ 32 1#32))) (Host.divsi (iotaInDim S256 32 0) (broadcastInDim S256 ![] bcast_S_S256 (id (constantI S_ 32 64#32))))

/-- The reference's `v4`. -/
def qCol : IVec S256x1 32 :=
  broadcastInDim S256x1 ![0] bcast_S256_S256x1_0 qBlk

/-- The reference's `v6`. -/
def kBlk : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))

/-- The reference's `v7`. -/
def kRow : IVec S1x4096 32 :=
  broadcastInDim S1x4096 ![1] bcast_S4096_S1x4096_1 kBlk

/-- The reference's `v11`. -/
def kRem : IVec S1x4096 32 :=
  select (andi (cmpi .ne (cmpi .slt (Host.remsi kRow (broadcastInDim S1x4096 ![] bcast_S_S1x4096 (select (cmpi .eq (id (constantI S_ 32 4#32)) (constantI S_ 32 0#32)) (constantI S_ 32 1#32) (id (constantI S_ 32 4#32))))) (broadcastInDim S1x4096 ![] bcast_S_S1x4096 (constantI S_ 32 0#32))) (broadcastInDim S1x4096 ![] bcast_S_S1x4096 (cmpi .slt (select (cmpi .eq (id (constantI S_ 32 4#32)) (constantI S_ 32 0#32)) (constantI S_ 32 1#32) (id (constantI S_ 32 4#32))) (constantI S_ 32 0#32)))) (cmpi .ne (Host.remsi kRow (broadcastInDim S1x4096 ![] bcast_S_S1x4096 (select (cmpi .eq (id (constantI S_ 32 4#32)) (constantI S_ 32 0#32)) (constantI S_ 32 1#32) (id (constantI S_ 32 4#32))))) (broadcastInDim S1x4096 ![] bcast_S_S1x4096 (constantI S_ 32 0#32)))) (addi (Host.remsi kRow (broadcastInDim S1x4096 ![] bcast_S_S1x4096 (select (cmpi .eq (id (constantI S_ 32 4#32)) (constantI S_ 32 0#32)) (constantI S_ 32 1#32) (id (constantI S_ 32 4#32))))) (broadcastInDim S1x4096 ![] bcast_S_S1x4096 (select (cmpi .eq (id (constantI S_ 32 4#32)) (constantI S_ 32 0#32)) (constantI S_ 32 1#32) (id (constantI S_ 32 4#32))))) (Host.remsi kRow (broadcastInDim S1x4096 ![] bcast_S_S1x4096 (select (cmpi .eq (id (constantI S_ 32 4#32)) (constantI S_ 32 0#32)) (constantI S_ 32 1#32) (id (constantI S_ 32 4#32)))))

/-- The reference's `v12`. -/
def qRem : IVec S256x1 32 :=
  select (andi (cmpi .ne (cmpi .slt (Host.remsi qCol (broadcastInDim S256x1 ![] bcast_S_S256x1 (select (cmpi .eq (id (constantI S_ 32 4#32)) (constantI S_ 32 0#32)) (constantI S_ 32 1#32) (id (constantI S_ 32 4#32))))) (broadcastInDim S256x1 ![] bcast_S_S256x1 (constantI S_ 32 0#32))) (broadcastInDim S256x1 ![] bcast_S_S256x1 (cmpi .slt (select (cmpi .eq (id (constantI S_ 32 4#32)) (constantI S_ 32 0#32)) (constantI S_ 32 1#32) (id (constantI S_ 32 4#32))) (constantI S_ 32 0#32)))) (cmpi .ne (Host.remsi qCol (broadcastInDim S256x1 ![] bcast_S_S256x1 (select (cmpi .eq (id (constantI S_ 32 4#32)) (constantI S_ 32 0#32)) (constantI S_ 32 1#32) (id (constantI S_ 32 4#32))))) (broadcastInDim S256x1 ![] bcast_S_S256x1 (constantI S_ 32 0#32)))) (addi (Host.remsi qCol (broadcastInDim S256x1 ![] bcast_S_S256x1 (select (cmpi .eq (id (constantI S_ 32 4#32)) (constantI S_ 32 0#32)) (constantI S_ 32 1#32) (id (constantI S_ 32 4#32))))) (broadcastInDim S256x1 ![] bcast_S_S256x1 (select (cmpi .eq (id (constantI S_ 32 4#32)) (constantI S_ 32 0#32)) (constantI S_ 32 1#32) (id (constantI S_ 32 4#32))))) (Host.remsi qCol (broadcastInDim S256x1 ![] bcast_S_S256x1 (select (cmpi .eq (id (constantI S_ 32 4#32)) (constantI S_ 32 0#32)) (constantI S_ 32 1#32) (id (constantI S_ 32 4#32)))))

/-- The reference's `v16`. -/
def mask : IVec S256x4096 1 :=
  ori (cmpi .eq (broadcastInDim S256x4096 ![0, 1] bcast_S256x1_S256x4096_0_1 qCol) (broadcastInDim S256x4096 ![0, 1] bcast_S1x4096_S256x4096_0_1 kRow)) (cmpi .eq (broadcastInDim S256x4096 ![0, 1] bcast_S1x4096_S256x4096_0_1 kRem) (broadcastInDim S256x4096 ![0, 1] bcast_S256x1_S256x4096_0_1 qRem))

/-- The reference's `v19`. -/
def score (x : FVec Ideal S4x256x1024 .f32) (wq : FVec Ideal S1024x4096 .f32) (K : FVec Ideal S4x4096x32x128 .f32) : FVec Ideal S4x32x256x4096 .f32 :=
  mulf (Host.dotGeneral dot_S4x256x32x128_S4x4096x32x128_S4x32x256x4096_3_3_1_1_02_02 none (shapeCast S4x256x32x128 (qProd x wq) shapeCasts_S4x256x4096_S4x256x32x128) K) (broadcastInDim S4x32x256x4096 ![] bcast_S_S4x32x256x4096 (constant S_ .f32 0x3DB504F3#32))

/-- The reference's `v21`. -/
def masked (x : FVec Ideal S4x256x1024 .f32) (wq : FVec Ideal S1024x4096 .f32) (K : FVec Ideal S4x4096x32x128 .f32) : FVec Ideal S4x32x256x4096 .f32 :=
  select (broadcastInDim S4x32x256x4096 ![0, 1, 2, 3] bcast_S1x1x256x4096_S4x32x256x4096_0_1_2_3 (broadcastInDim S1x1x256x4096 ![2, 3] bcast_S256x4096_S1x1x256x4096_2_3 mask)) (score x wq K) (broadcastInDim S4x32x256x4096 ![] bcast_S_S4x32x256x4096 (id (constant S_ .f32 0xFF800000#32)))

/-- The reference's `v22`. -/
def rowMax (x : FVec Ideal S4x256x1024 .f32) (wq : FVec Ideal S1024x4096 .f32) (K : FVec Ideal S4x4096x32x128 .f32) : FVec Ideal S4x32x256 .f32 :=
  Host.reduce FloatOps.maximumf (masked x wq K) (constant S_ .f32 0xFF800000#32) reducesTo_S4x32x256x4096_S4x32x256_d3 h_S_

/-- The reference's `v26`. -/
def expd (x : FVec Ideal S4x256x1024 .f32) (wq : FVec Ideal S1024x4096 .f32) (K : FVec Ideal S4x4096x32x128 .f32) : FVec Ideal S4x32x256x4096 .f32 :=
  Host.exp (subf (masked x wq K) (broadcastInDim S4x32x256x4096 ![0, 1, 2, 3] bcast_S4x32x256x1_S4x32x256x4096_0_1_2_3 (broadcastInDim S4x32x256x1 ![0, 1, 2] bcast_S4x32x256_S4x32x256x1_0_1_2 (rowMax x wq K))))

/-- The reference's `v27`. -/
def keep : IVec S256 1 :=
  Host.reduce IntOp.ori mask (constantI S_ 1 0#1) reducesTo_S256x4096_S256_d1 h_S_

/-- The reference's `v29`. -/
def expSum (x : FVec Ideal S4x256x1024 .f32) (wq : FVec Ideal S1024x4096 .f32) (K : FVec Ideal S4x4096x32x128 .f32) : FVec Ideal S4x32x256 .f32 :=
  Host.reduceAdd (expd x wq K) (constant S_ .f32 0x00000000#32) reducesTo_S4x32x256x4096_S4x32x256_d3 h_S_

/-- The reference's `v31`. -/
def denom (x : FVec Ideal S4x256x1024 .f32) (wq : FVec Ideal S1024x4096 .f32) (K : FVec Ideal S4x4096x32x128 .f32) : FVec Ideal S4x32x256x1 .f32 :=
  select (broadcastInDim S4x32x256x1 ![0, 1, 2, 3] bcast_S1x1x256x1_S4x32x256x1_0_1_2_3 (broadcastInDim S1x1x256x1 ![2] bcast_S256_S1x1x256x1_2 keep)) (broadcastInDim S4x32x256x1 ![0, 1, 2] bcast_S4x32x256_S4x32x256x1_0_1_2 (expSum x wq K)) (broadcastInDim S4x32x256x1 ![] bcast_S_S4x32x256x1 (id (constant S_ .f32 0x3F800000#32)))

/-- The reference's `v35`. -/
def wts (x : FVec Ideal S4x256x1024 .f32) (wq : FVec Ideal S1024x4096 .f32) (K : FVec Ideal S4x4096x32x128 .f32) : FVec Ideal S4x32x256x4096 .f32 :=
  select (broadcastInDim S4x32x256x4096 ![0, 1, 2, 3] bcast_S1x1x256x1_S4x32x256x4096_0_1_2_3 (broadcastInDim S1x1x256x1 ![2] bcast_S256_S1x1x256x1_2 keep)) (Host.divf (expd x wq K) (broadcastInDim S4x32x256x4096 ![0, 1, 2, 3] bcast_S4x32x256x1_S4x32x256x4096_0_1_2_3 (denom x wq K))) (broadcastInDim S4x32x256x4096 ![] bcast_S_S4x32x256x4096 (id (constant S_ .f32 0x00000000#32)))

/-- The reference's `v36`. -/
def ctx (x : FVec Ideal S4x256x1024 .f32) (wq : FVec Ideal S1024x4096 .f32) (K : FVec Ideal S4x4096x32x128 .f32) (V : FVec Ideal S4x4096x32x128 .f32) : FVec Ideal S4x32x128x256 .f32 :=
  Host.dotGeneral dot_S4x4096x32x128_S4x32x256x4096_S4x32x128x256_1_3_3_2_02_01 none V (wts x wq K)

/-- The reference's `v38`. -/
def ctxRows (x : FVec Ideal S4x256x1024 .f32) (wq : FVec Ideal S1024x4096 .f32) (K : FVec Ideal S4x4096x32x128 .f32) (V : FVec Ideal S4x4096x32x128 .f32) : FVec Ideal S4x256x4096 .f32 :=
  shapeCast S4x256x4096 (transpose S4x256x32x128 [0, 3, 1, 2] (ctx x wq K V) transposes_S4x32x128x256_S4x256x32x128_0_3_1_2) shapeCasts_S4x256x32x128_S4x256x4096

/-- The reference's `v39`. -/
def out (x : FVec Ideal S4x256x1024 .f32) (wq : FVec Ideal S1024x4096 .f32) (K : FVec Ideal S4x4096x32x128 .f32) (V : FVec Ideal S4x4096x32x128 .f32) (wo : FVec Ideal S4096x1024 .f32) : FVec Ideal S4x256x1024 .f32 :=
  Host.dotGeneral dot_S4x256x4096_S4096x1024_S4x256x1024_2_0_01_1_n_n none (ctxRows x wq K V) wo

set_option maxRecDepth 8192 in
set_option maxHeartbeats 4000000 in
/-- The composed result of the reference, step by step. -/
theorem res_eq (m : (ℓ : Loc nD τ sig) → Buf (Elt Ideal) ℓ) (c : Dev nD) :
    Cert.ReferenceIdeal.Value.res_main_v39 (F := Ideal) m c
      = out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  unfold Cert.ReferenceIdeal.Value.res_main_v39 out ctxRows ctx wts denom expSum keep expd rowMax masked score mask kRem qRem kRow qCol kBlk qBlk qProd
  rfl

end Cert.ReferenceIdeal.Attn
-- ==== Proof.Maths.Spec.lean ====
module

public import Idealize.ShloMosaic.PureOps.Ideal
public import Idealize.ShloMosaic.Lib.Pointwise.Index

@[expose] public section

noncomputable section

namespace Cert.Attn

open Idealize.ShloMosaic
open scoped BigOperators

/-- The row of a query given its block and its place in the block. -/
def rowAt (b : Fin 4) (r : Fin 64) : Fin 256 := ⟨64 * b.val + r.val, by omega⟩
/-- The `k`-th key that the query rows of block `b` see. -/
def keyAt (b : Fin 4) (k : Fin 1024) : Fin 4096 := ⟨k.val / 64 * 256 + b.val * 64 + k.val % 64, by omega⟩
/-- The head of column `f` of the context, among the heads of device `d`. -/
def headAt (d : Fin 4) (f : Fin 1024) : Fin 32 := ⟨d.val * 8 + f.val / 128, by omega⟩
/-- The place of column `f` of the context in its head. -/
def dimAt (f : Fin 1024) : Fin 128 := ⟨f.val % 128, by omega⟩
/-- The column of the whole context that is column `f` of device `d`'s. -/
def colAt (d : Fin 4) (f : Fin 1024) : Fin 4096 := ⟨d.val * 1024 + f.val, by omega⟩
/-- The column of the projection that holds place `e` of head `h`. -/
def projAt (h : Fin 32) (e : Fin 128) : Fin 4096 := ⟨h.val * 128 + e.val, by omega⟩

variable (x : (⟨3, ![4, 256, 1024]⟩ : Shape).Idx → EReal) (wq : (⟨2, ![1024, 4096]⟩ : Shape).Idx → EReal)
  (K V : (⟨4, ![4, 4096, 32, 128]⟩ : Shape).Idx → EReal) (wo : (⟨2, ![4096, 1024]⟩ : Shape).Idx → EReal)

/-- The scaled score of query row `i` and key `j` in batch `c` and head `h`. -/
def sc (c : Fin 4) (h : Fin 32) (i : Fin 256) (j : Fin 4096) : EReal :=
  (∑ e : Fin 128, (∑ p : Fin 1024, x (ix3 c i p) * wq (ix2 p (projAt h e))) * K (ix4 c j h e)) * Ideal.ofBits .f32 0x3DB504F3#32

/-- Column `f` of device `d`'s context of batch `c`, at a query row: the average of the values of the visible keys, weighted
    by the exponentials of the scores. -/
def ctxG (c b d : Fin 4) (r : Fin 64) (f : Fin 1024) : EReal :=
  Ideal.div (∑ k : Fin 1024, Ideal.exp (sc x wq K c (headAt d f) (rowAt b r) (keyAt b k)) * V (ix4 c (keyAt b k) (headAt d f) (dimAt f)))
    (∑ k : Fin 1024, Ideal.exp (sc x wq K c (headAt d f) (rowAt b r) (keyAt b k)))

/-- What the heads of device `d` contribute to the output of batch `c` at a query row and an output column. -/
def partG (c b d : Fin 4) (r : Fin 64) (n : Fin 1024) : EReal :=
  ∑ f : Fin 1024, ctxG x wq K V c b d r f * wo (ix2 (colAt d f) n)

/-- Every entry is a real number. -/
def AllReal {s : Shape} (f : s.Idx → EReal) : Prop := ∀ i, ∃ r : ℝ, f i = r

end Cert.Attn
-- ==== Proof.Maths.PayAt.lean ====
module

public import proofs.«01_k».proof.Proof.Gen.KernelIdeal.Skeleton
public import proofs.«01_k».proof.Proof.KernelIdeal.Out
public import proofs.«01_k».proof.Proof.Maths.Spec
public import Idealize.ShloMosaic.Lib.Pointwise

public section

namespace Cert.KernelIdeal.Attn

open Idealize.ShloMosaic Idealize.ShloMosaic.Pointwise Cert.KernelIdeal Cert.KernelIdeal.Gen Cert.Attn
open scoped BigOperators

/-- A block's scores before scaling. -/
theorem pay8_at (q : Vec Ideal S64x1024 .f32) (k : Vec Ideal S1x16x1x64x8x128 .f32) (h : Fin 8) (r : Fin 64) (t : Fin 1024) :
    k0_pay8 q k (ix3 h r t) = ∑ e : Fin 128, q (ix2 r ⟨h.val * 128 + e.val, by omega⟩)
      * k (ix6 0 ⟨t.val / 64, by omega⟩ 0 ⟨t.val % 64, by omega⟩ h e) := by
  pointwise [k0_pay8]

/-- A block's values, head by head. -/
theorem pay7_at (v : Vec Ideal S1x16x1x64x8x128 .f32) (h : Fin 8) (e : Fin 128) (t : Fin 1024) :
    k0_pay7 v (ix3 h t e) = v (ix6 0 ⟨t.val / 64, by omega⟩ 0 ⟨t.val % 64, by omega⟩ h e) := by
  pointwise [k0_pay7]

/-- The scale. -/
theorem pay9_at (i : S8x64x1024.Idx) : (k0_pay9 (F := Ideal)) i = Ideal.ofBits .f32 0x3DB504F3#32 := rfl

/-- A block's part of the output: the softmax average, projected. -/
theorem pay1_at (a : FVec Ideal S8x1024x128 .f32) (b c : FVec Ideal S8x64x1024 .f32) (w : Vec Ideal S1024x1024 .f32) (r : Fin 64) (n : Fin 1024) :
    k0_pay1 a b c w (ix2 r n) = ∑ f : Fin 1024,
      Ideal.div
          (∑ t : Fin 1024, Ideal.exp (b (ix3 ⟨f.val / 128, by omega⟩ r t) * c (ix3 ⟨f.val / 128, by omega⟩ r t)) *
              a (ix3 ⟨f.val / 128, by omega⟩ t (dimAt f)))
          (∑ t : Fin 1024, Ideal.exp (b (ix3 ⟨f.val / 128, by omega⟩ r t) * c (ix3 ⟨f.val / 128, by omega⟩ r t)))
        * w (ix2 f n) := by
  pointwise [k0_pay1]
  rfl

/-- What a device stores of its own is that part, in the layout of the output. -/
theorem pay2_at (a : FVec Ideal S8x1024x128 .f32) (b c : FVec Ideal S8x64x1024 .f32) (w : Vec Ideal S1024x1024 .f32) (r : Fin 64) (n : Fin 1024) :
    k0_pay2 a b c w (ix3 0 r n) = k0_pay1 a b c w (ix2 r n) := by
  pointwise [k0_pay2]

/-- The activations sent are the activations. -/
theorem pay3_at (x : Vec Ideal S1x256x1024 .f32) (i : Fin 256) (p : Fin 1024) : k0_pay3 x (ix3 0 i p) = x (ix3 0 i p) := by
  pointwise [k0_pay3]

/-- The part sent is the part computed. -/
theorem pay4_at (x : FVec Ideal S64x1024 .f32) (r : Fin 64) (n : Fin 1024) : k0_pay4 x (ix3 0 r n) = x (ix2 r n) := by
  pointwise [k0_pay4]

/-- The last point adds what was received to what is there. -/
theorem pay5_at (x : Vec Ideal S1x256x1024 .f32) (y z w : Vec Ideal S1x256x1024 .bf16) (r : Fin 256) (n : Fin 1024) :
    k0_pay5 x y z w (ix3 0 r n) = x (ix3 0 r n) + y (ix3 0 r n) + z (ix3 0 r n) + w (ix3 0 r n) := by
  pointwise [k0_pay5]

/-- The queries: the activations times the projection. -/
theorem pay6_at (x : Vec Ideal S1x256x1024 .bf16) (w : Vec Ideal S1024x1024 .f32) (r : Fin 256) (n : Fin 1024) :
    k0_pay6 x w (ix2 r n) = ∑ p : Fin 1024, x (ix3 0 r p) * w (ix2 p n) := by
  pointwise [k0_pay6]

end Cert.KernelIdeal.Attn
-- ==== Proof.Maths.PartAt.lean ====
module

public import proofs.«01_k».proof.Proof.Maths.PayAt
public import proofs.«01_k».proof.Proof.KernelIdeal.Data
public import proofs.«01_k».proof.Proof.KernelIdeal.HostV

public section

namespace Cert.KernelIdeal.Attn

open Idealize.ShloMosaic Idealize.ShloMosaic.TcCoe Idealize.ShloMosaic.Pointwise Cert.KernelIdeal Cert.KernelIdeal.Gen Cert.Attn
open scoped BigOperators

variable (x : (⟨3, ![4, 256, 1024]⟩ : Shape).Idx → EReal) (wq : (⟨2, ![1024, 4096]⟩ : Shape).Idx → EReal)
  (K V : (⟨4, ![4, 4096, 32, 128]⟩ : Shape).Idx → EReal) (wo : (⟨2, ![4096, 1024]⟩ : Shape).Idx → EReal)

/-- The devices' inputs are their parts of the whole arrays. -/
structure Parts (I : In Ideal) : Prop where
  hx : ∀ (d : Dev nD) (i : Fin 256) (p : Fin 1024), I.x d (ix3 0 i p) = x (ix3 d i p)
  hq : ∀ (d : Dev nD) (p f : Fin 1024), I.wq d (ix2 p f) = wq (ix2 p (colAt d f))
  ho : ∀ (d : Dev nD) (f n : Fin 1024), I.wo d (ix2 f n) = wo (ix2 (colAt d f) n)
  hk : ∀ (d : Dev nD) (s : ℕ) (b : Fin 4) (t : Fin 16) (u : Fin 64) (h : Fin 8) (e : Fin 128), I.kb d s b.val (ix6 0 t 0 u h e)
    = K (ix4 (nb d s) ⟨t.val * 256 + b.val * 64 + u.val, by omega⟩ ⟨d.val * 8 + h.val, by have := d.isLt; change d.val < 4 at this; omega⟩ e)
  hv : ∀ (d : Dev nD) (s : ℕ) (b : Fin 4) (t : Fin 16) (u : Fin 64) (h : Fin 8) (e : Fin 128), I.vb d s b.val (ix6 0 t 0 u h e)
    = V (ix4 (nb d s) ⟨t.val * 256 + b.val * 64 + u.val, by omega⟩ ⟨d.val * 8 + h.val, by have := d.isLt; change d.val < 4 at this; omega⟩ e)

variable {x wq K V wo}

/-- Where an entry of block `b` is in the query buffer. -/
theorem qR_emb (b : Fin 4) (r : Fin 64) (f : Fin 1024) : (qR b).emb (ix2 r f) = ix2 (rowAt b r) f := by
  funext a
  apply Fin.ext
  match a with
  | 0 => show 64 * b.val + 1 * r.val = 64 * b.val + r.val; omega
  | 1 => show 0 + 1 * f.val = f.val; omega

/-- The queries a device makes. -/
theorem qrows_at {I : In Ideal} (P : Parts x wq K V wo I) (d : Dev nD) (s : ℕ) (b : Fin 4) (r : Fin 64) (f : Fin 1024) :
    qrows I d s b (ix2 r f) = ∑ p : Fin 1024, x (ix3 (nb d s) (rowAt b r) p) * wq (ix2 p (colAt d f)) := by
  unfold qrows
  rw [qR_emb]
  unfold qv xb
  rw [pay6_at]
  refine Finset.sum_congr rfl fun p _ => ?_
  rw [pay3_at, P.hx, P.hq]

/-- A device's scaled score. -/
theorem score_part {I : In Ideal} (P : Parts x wq K V wo I) (d : Dev nD) (s : ℕ) (b : Fin 4) (r : Fin 64) (f t : Fin 1024) :
    k0_pay8 (qrows I d s b) (I.kb d s b.val) (ix3 ⟨f.val / 128, by omega⟩ r t) * (k0_pay9 (F := Ideal)) (ix3 ⟨f.val / 128, by omega⟩ r t)
      = sc x wq K (nb d s) (headAt d f) (rowAt b r) (keyAt b t) := by
  rw [pay8_at, pay9_at]
  unfold sc
  congr 1
  refine Finset.sum_congr rfl fun e _ => ?_
  rw [qrows_at P, P.hk]
  congr 1
  refine Finset.sum_congr rfl fun p _ => ?_
  congr 2
  refine congrArg (ix2 p) (Fin.ext ?_)
  show d.val * 1024 + (f.val / 128 * 128 + e.val) = (d.val * 8 + f.val / 128) * 128 + e.val
  omega

/-- What a device computes for a block of query rows of the batch it serves at a step. -/
theorem part_at {I : In Ideal} (P : Parts x wq K V wo I) (d : Dev nD) (s : ℕ) (b : Fin 4) (r : Fin 64) (n : Fin 1024) :
    part I d s b (ix2 r n) = partG x wq K V wo (nb d s) b d r n := by
  unfold part
  rw [pay1_at]
  unfold partG ctxG
  refine Finset.sum_congr rfl fun f _ => ?_
  simp only [score_part P, pay7_at, P.hv, P.ho]
  rfl

section Mem
variable (m : (ℓ : Loc nD τ sig) → Buf (Elt Ideal) ℓ)

/-- Where an entry of a device's block is in the regrouped keys or values. -/
theorem kv_emb (d : Dev nD) (s : ℕ) (b : Fin 4) (t : Fin 16) (u : Fin 64) (h : Fin 8) (e : Fin 128) :
    (Rect.block (s := S4x16x4x64x32x128) S1x16x1x64x8x128.size (kvOff d.val s b.val) (kv_inb d.val s b.val)).emb (ix6 0 t 0 u h e)
      = ix6 (nb d s) t b u ⟨d.val * 8 + h.val, by have := d.isLt; change d.val < 4 at this; omega⟩ e := by
  have hd : d.val < 4 := d.isLt
  funext a
  apply Fin.ext
  match a with
  | 0 => show (d.val + s) % 4 * 1 + 1 * 0 = (d.val + s) % 4; omega
  | 1 => show 0 * 16 + 1 * t.val = t.val; omega
  | 2 => show b.val % 4 * 1 + 1 * 0 = b.val; omega
  | 3 => show 0 * 64 + 1 * u.val = u.val; omega
  | 4 => show d.val % 4 * 8 + 1 * h.val = d.val * 8 + h.val; omega
  | 5 => show 0 * 128 + 1 * e.val = e.val; omega

/-- The cached keys or values, regrouped. -/
theorem regroup (A : Vec Ideal S4x4096x32x128 .f32) (c : Fin 4) (t : Fin 16) (b : Fin 4) (u : Fin 64) (h : Fin 32) (e : Fin 128) :
    shapeCast S4x16x4x64x32x128 A Facts₀.shapeCasts_S4x4096x32x128_S4x16x4x64x32x128 (ix6 c t b u h e)
      = A (ix4 c ⟨t.val * 256 + b.val * 64 + u.val, by omega⟩ h e) := by
  pointwise []

/-- At launch the inputs are the parts of the whole arrays, when the argument buffers hold them. -/
theorem parts_inOf (h0 : ∀ d : Dev nD, ∀ i p, m ((d : Thread nD τ).loc main_arg0) (ix3 0 i p) = x (ix3 d i p))
    (h1 : ∀ d : Dev nD, ∀ p f, m ((d : Thread nD τ).loc main_arg1) (ix2 p f) = wq (ix2 p (colAt d f)))
    (h2 : ∀ d : Dev nD, m ((d : Thread nD τ).loc main_arg2) = K) (h3 : ∀ d : Dev nD, m ((d : Thread nD τ).loc main_arg3) = V)
    (h4 : ∀ d : Dev nD, ∀ f n, m ((d : Thread nD τ).loc main_arg4) (ix2 f n) = wo (ix2 (colAt d f) n)) :
    Parts x wq K V wo (inOf m) where
  hx d i p := (congrFun (V1_of m d main_arg0 (by decide)) _).trans (h0 d i p)
  hq d p f := (congrFun (V1_of m d main_arg1 (by decide)) _).trans (h1 d p f)
  ho d f n := (congrFun (V1_of m d main_arg4 (by decide)) _).trans (h4 d f n)
  hk d s b t u h e := by
    show kvBlk (V1 m d main_v5) d.val s b.val (ix6 0 t 0 u h e) = _
    unfold kvBlk
    rw [kv_emb, V1_v5, regroup, h2]
  hv d s b t u h e := by
    show kvBlk (V1 m d main_v6) d.val s b.val (ix6 0 t 0 u h e) = _
    unfold kvBlk
    rw [kv_emb, V1_v6, regroup, h3]

end Mem

end Cert.KernelIdeal.Attn
-- ==== Proof.Maths.OutAt.lean ====
module

public import proofs.«01_k».proof.Proof.Maths.PartAt
public import proofs.«01_k».proof.Proof.KernelIdeal.Value

public section

namespace Cert.KernelIdeal.Attn

open Idealize.ShloMosaic Idealize.ShloMosaic.TcCoe Idealize.ShloMosaic.Pointwise Cert.KernelIdeal Cert.KernelIdeal.Gen Cert.Attn
open scoped BigOperators

/-- Where an entry of block `b` is in the output block. -/
theorem rowR_emb (b : Fin 4) (r : Fin 64) (n : Fin 1024) : (rowR b).emb (ix3 0 r n) = ix3 0 (rowAt b r) n := by
  funext a
  apply Fin.ext
  match a with
  | 0 => rfl
  | 1 => show 64 * b.val + 1 * r.val = 64 * b.val + r.val; omega
  | 2 => show 0 + 1 * n.val = n.val; omega

/-- A row of one block is not in another block's rows. -/
theorem rowR_not_mem (b b' : Fin 4) (h : b ≠ b') (r : Fin 64) (n : Fin 1024) : (ix3 0 (rowAt b r) n : S1x256x1024.Idx) ∉ (rowR b').set := by
  intro hm
  rw [← Rect.map_emb_univ] at hm
  obtain ⟨j, -, e⟩ := Finset.mem_map.1 hm
  have e1 : 64 * b'.val + 1 * (j 1).val = 64 * b.val + r.val := congrArg Fin.val (congrFun e 1)
  have hj : (j 1).val < 64 := (j 1).isLt
  have := r.isLt
  exact h (Fin.ext (by omega))

variable (I : In Ideal) (c : Dev nD)

/-- What a device keeps of its own, before the last addition. -/
theorem own_at (Y : S1x256x1024.Idx → EReal) (b : Fin 4) (r : Fin 64) (n : Fin 1024) :
    outAcc I c 15 Y (ix3 0 (rowAt b r) n) = part I c 0 b (ix2 r n) := by
  have h15 : outAcc I c 15 Y = outAcc I c 4 Y := by
    show outStep I c 3 2 (outStep I c 3 1 (outStep I c 3 0 (outStep I c 2 3 (outStep I c 2 2 (outStep I c 2 1 (outStep I c 2 0
      (outStep I c 1 3 (outStep I c 1 2 (outStep I c 1 1 (outStep I c 1 0 (outAcc I c 4 Y))))))))))) = _
    simp only [outStep_send I c _ _ (by decide : (3 : ℕ) ≠ 0) (by decide : ¬ ((3 : ℕ) = 3 ∧ (2 : Fin 4).val = 3)),
      outStep_send I c _ _ (by decide : (3 : ℕ) ≠ 0) (by decide : ¬ ((3 : ℕ) = 3 ∧ (1 : Fin 4).val = 3)),
      outStep_send I c _ _ (by decide : (3 : ℕ) ≠ 0) (by decide : ¬ ((3 : ℕ) = 3 ∧ (0 : Fin 4).val = 3)),
      outStep_send I c 2 _ (by decide) (by simp), outStep_send I c 1 _ (by decide) (by simp)]
  rw [h15]
  have hs : ∀ (b' : Fin 4) (Z : S1x256x1024.Idx → EReal),
      outStep I c 0 b' Z (ix3 0 (rowAt b r) n) = if b = b' then part I c 0 b (ix2 r n) else Z (ix3 0 (rowAt b r) n) := by
    intro b' Z
    rw [outStep_zero]
    split
    · rename_i h
      subst h
      rw [← rowR_emb]
      exact (Rect.overlay_emb _ _ _ _).trans (pay2_at _ _ _ _ r n)
    · rename_i h
      exact Rect.overlay_of_not_mem _ _ _ (rowR_not_mem b b' h r n)
  show outStep I c 0 3 (outStep I c 0 2 (outStep I c 0 1 (outStep I c 0 0 Y))) _ = _
  rw [hs, hs, hs, hs]
  clear hs
  match b with
  | 0 => rfl
  | 1 => rfl
  | 2 => rfl
  | 3 => rfl

/-- A row of the received partial outputs, by sender and block, is an entry of one of the twelve blocks. -/
theorem rcv_emb (k : Fin 3) (b : Fin 4) (r : Fin 64) (n : Fin 1024) :
    (sR k).emb (ix3 0 (rowAt b r) n) = (oR ⟨4 * k.val + b.val, by omega⟩).emb (ix3 0 r n) := by
  funext a
  apply Fin.ext
  match a with
  | 0 => show k.val + 1 * 0 = (4 * k.val + b.val) / 4 + 1 * 0; omega
  | 1 => show 0 + 1 * (64 * b.val + r.val) = 64 * ((4 * k.val + b.val) % 4) + 1 * r.val; omega
  | 2 => rfl

/-- What a device receives. -/
theorem rcv_at (k : Fin 3) (b : Fin 4) (r : Fin 64) (n : Fin 1024) :
    rcv I c k (ix3 0 (rowAt b r) n) = part I (nb c (k.val + 1)) (3 - k.val) b (ix2 r n) := by
  unfold rcv
  rw [rcv_emb, orv_emb]
  unfold vrec vrem
  rw [pay4_at]
  have e1 : oto c ⟨4 * k.val + b.val, by omega⟩ = nb c (k.val + 1) := by
    unfold oto
    congr 1
    show (4 * k.val + b.val) / 4 + 1 = k.val + 1
    omega
  have e2 : (jrev ⟨4 * k.val + b.val, by omega⟩).val / 4 + 1 = 3 - k.val := by
    show ((2 - (4 * k.val + b.val) / 4) * 4 + (4 * k.val + b.val) % 4) / 4 + 1 = 3 - k.val
    omega
  have e3 : (⟨(jrev ⟨4 * k.val + b.val, by omega⟩).val % 4, Nat.mod_lt _ (by decide)⟩ : Fin 4) = b := by
    apply Fin.ext
    show ((2 - (4 * k.val + b.val) / 4) * 4 + (4 * k.val + b.val) % 4) % 4 = b.val
    omega
  rw [e1, e2, e3]

/-- What a device's result holds in the end. -/
theorem outAcc_at (Y : S1x256x1024.Idx → EReal) (b : Fin 4) (r : Fin 64) (n : Fin 1024) :
    outAcc I c 16 Y (ix3 0 (rowAt b r) n) = part I c 0 b (ix2 r n) + part I (nb c 1) 3 b (ix2 r n)
      + part I (nb c 2) 2 b (ix2 r n) + part I (nb c 3) 1 b (ix2 r n) := by
  show outStep I c 3 3 (outAcc I c 15 Y) _ = _
  rw [outStep_last, pay5_at, own_at, rcv_at, rcv_at, rcv_at]
  rfl

variable {x : (⟨3, ![4, 256, 1024]⟩ : Shape).Idx → EReal} {wq : (⟨2, ![1024, 4096]⟩ : Shape).Idx → EReal}
  {K V : (⟨4, ![4, 4096, 32, 128]⟩ : Shape).Idx → EReal} {wo : (⟨2, ![4096, 1024]⟩ : Shape).Idx → EReal}

/-- The four devices' contributions, in the order a device adds them. -/
theorem sum_ring (f : Fin 4 → EReal) (c : Fin 4) : f c + f ⟨(c.val + 1) % 4, by omega⟩ + f ⟨(c.val + 2) % 4, by omega⟩ + f ⟨(c.val + 3) % 4, by omega⟩ = ∑ d, f d := by
  rw [Fin.sum_univ_four]
  match c with
  | 0 => rfl
  | 1 => show f 1 + f 2 + f 3 + f 0 = _; ac_rfl
  | 2 => show f 2 + f 3 + f 0 + f 1 = _; ac_rfl
  | 3 => show f 3 + f 0 + f 1 + f 2 = _; ac_rfl

/-- A device's result is its batch's sum of the contributions of all devices' heads. -/
theorem out_dev (P : Parts x wq K V wo I) (Y : S1x256x1024.Idx → EReal) (b : Fin 4) (r : Fin 64) (n : Fin 1024) :
    outAcc I c 16 Y (ix3 0 (rowAt b r) n) = ∑ d : Fin 4, partG x wq K V wo c b d r n := by
  rw [outAcc_at, part_at P, part_at P, part_at P, part_at P]
  have h0 : nb c 0 = c := nb_zero c
  have h1 : nb (nb c 1) 3 = c := by revert c; decide
  have h2 : nb (nb c 2) 2 = c := by revert c; decide
  have h3 : nb (nb c 3) 1 = c := by revert c; decide
  rw [h0, h1, h2, h3]
  exact sum_ring (fun d => partG x wq K V wo c b d r n) c

end Cert.KernelIdeal.Attn
-- ==== Proof.Maths.Soft.lean ====
module

public import Idealize.ShloMosaic.PureOps.Ideal
public import Idealize.ShloMosaic.PureOps.Ideal.Laws
public import Mathlib.Data.EReal.Operations
public import Mathlib.Data.EReal.Inv

public section

namespace Cert.Attn

open Idealize.ShloMosaic
open scoped BigOperators

variable {ι κ : Type} [Fintype ι] [Fintype κ]

/-- A real factor that is not negative distributes over a sum of extended reals. -/
theorem sum_mul_real (s : Finset κ) (f : κ → EReal) (c : ℝ) (hc : 0 ≤ c) : (∑ k ∈ s, f k) * (c : EReal) = ∑ k ∈ s, f k * c := by
  classical
  induction s using Finset.induction_on with
  | empty => simp
  | insert a s ha ih =>
    rw [Finset.sum_insert ha, Finset.sum_insert ha, ← ih,
      EReal.right_distrib_of_nonneg_of_ne_top (EReal.coe_nonneg.2 hc) (EReal.coe_ne_top c)]

/-- A sum of reals is a real. -/
theorem coe_sum_real (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The quotient by a positive real. -/
theorem div_pos_real (x : EReal) (d : ℝ) (hd : 0 < d) : Ideal.div x (d : EReal) = x * ((d⁻¹ : ℝ) : EReal) := by
  have h0 : (d : EReal) ≠ 0 := by
    intro h; exact hd.ne' (by exact_mod_cast h)
  unfold Ideal.div
  rw [if_neg h0, EReal.coe_inv]

/-- The greatest of finitely many entries, of which some are real and the others minus infinity, is real. -/
theorem max_real (m : ι → EReal) (h1 : ∀ j, m j = ⊥ ∨ ∃ r : ℝ, m j = r) (h2 : ∃ j, m j ≠ ⊥) :
    ∃ μ : ℝ, (Finset.univ : Finset ι).fold max ⊥ m = μ := by
  obtain ⟨j0, hj0⟩ := h2
  have hs : (Finset.univ : Finset ι).fold max ⊥ m = Finset.univ.sup m := rfl
  obtain ⟨i, -, hi⟩ := Finset.exists_mem_eq_sup (Finset.univ : Finset ι) ⟨j0, Finset.mem_univ _⟩ m
  rw [hs]
  rcases h1 i with h | ⟨r, hr⟩
  · exfalso
    have : m j0 ≤ Finset.univ.sup m := Finset.le_sup (Finset.mem_univ _)
    rw [hi, h] at this
    exact hj0 (le_bot_iff.1 this)
  · exact ⟨r, by rw [hi, hr]⟩

/-- The masked softmax average, written with the row's maximum taken off and the weights divided one by one, is the sum of
    the exponentials of the kept scores times the values, divided once by the sum of those exponentials. -/
theorem softmax_eq [DecidableEq ι] (g : κ → ι) (hg : Function.Injective g) [Nonempty κ] (s m v : ι → EReal)
    (hs : ∀ j, ∃ r : ℝ, s j = r) (hm : ∀ k, m (g k) = s (g k)) (hm' : ∀ j, (∀ k, g k ≠ j) → m j = ⊥) :
    ∑ j, v j * Ideal.div (Ideal.exp (m j - Finset.univ.fold max ⊥ m)) (∑ j, Ideal.exp (m j - Finset.univ.fold max ⊥ m))
      = Ideal.div (∑ k, Ideal.exp (s (g k)) * v (g k)) (∑ k, Ideal.exp (s (g k))) := by
  classical
  choose r hr using hs
  obtain ⟨μ, hμ⟩ := max_real m
    (fun j => by
      by_cases h : ∃ k, g k = j
      · obtain ⟨k, rfl⟩ := h; exact .inr ⟨r (g k), by rw [hm, hr]⟩
      · exact .inl (hm' j fun k hk => h ⟨k, hk⟩))
    ⟨g (Classical.arbitrary κ), by rw [hm, hr]; exact EReal.coe_ne_bot _⟩
  rw [hμ]
  -- the sums over every key keep the selected ones alone
  have re : ∀ f : ι → EReal, (∀ j, (∀ k, g k ≠ j) → f j = 0) → ∑ j, f j = ∑ k, f (g k) := by
    intro f hf
    rw [← Finset.sum_image (s := Finset.univ) (g := g) (f := f) (fun a _ b _ h => hg h)]
    refine (Finset.sum_subset (Finset.subset_univ _) ?_).symm
    intro j _ hj
    exact hf j fun k hk => hj (Finset.mem_image.2 ⟨k, Finset.mem_univ _, hk⟩)
  have e0 : ∀ j, (∀ k, g k ≠ j) → Ideal.exp (m j - (μ : EReal)) = 0 := by
    intro j hj
    rw [hm' j hj]
    rfl
  have e1 : ∀ k, Ideal.exp (m (g k) - (μ : EReal)) = ((Real.exp (r (g k) - μ) : ℝ) : EReal) := by
    intro k
    rw [hm, hr, ← EReal.coe_sub]
    rfl
  have e2 : ∀ k, Ideal.exp (s (g k)) = ((Real.exp (r (g k)) : ℝ) : EReal) := by
    intro k; rw [hr]; rfl
  rw [re (fun j => Ideal.exp (m j - (μ : EReal))) e0]
  simp only [e1, e2]
  rw [← coe_sum_real, ← coe_sum_real]
  have hD : 0 < ∑ k, Real.exp (r (g k)) := Finset.sum_pos (fun k _ => Real.exp_pos _) ⟨Classical.arbitrary κ, Finset.mem_univ _⟩
  have hD' : 0 < ∑ k, Real.exp (r (g k) - μ) := Finset.sum_pos (fun k _ => Real.exp_pos _) ⟨Classical.arbitrary κ, Finset.mem_univ _⟩
  rw [div_pos_real _ _ hD, sum_mul_real _ _ _ (inv_nonneg.2 hD.le)]
  rw [re (fun j => v j * Ideal.div (Ideal.exp (m j - (μ : EReal))) ((∑ k, Real.exp (r (g k) - μ) : ℝ) : EReal))
    (fun j hj => by rw [e0 j hj, div_pos_real _ _ hD', zero_mul, mul_zero])]
  refine Finset.sum_congr rfl fun k _ => ?_
  rw [e1, div_pos_real _ _ hD', ← EReal.coe_mul]
  have hq : Real.exp (r (g k) - μ) * (∑ k, Real.exp (r (g k) - μ))⁻¹ = Real.exp (r (g k)) * (∑ k, Real.exp (r (g k)))⁻¹ := by
    have : ∑ k, Real.exp (r (g k) - μ) = (∑ k, Real.exp (r (g k))) * (Real.exp μ)⁻¹ := by
      rw [Finset.sum_mul]
      exact Finset.sum_congr rfl fun k _ => by rw [Real.exp_sub, div_eq_mul_inv]
    rw [this, Real.exp_sub, div_eq_mul_inv, mul_inv, inv_inv]
    have h1 : (Real.exp μ)⁻¹ * Real.exp μ = 1 := inv_mul_cancel₀ (Real.exp_pos μ).ne'
    calc Real.exp (r (g k)) * (Real.exp μ)⁻¹ * ((∑ k, Real.exp (r (g k)))⁻¹ * Real.exp μ)
        = Real.exp (r (g k)) * (∑ k, Real.exp (r (g k)))⁻¹ * ((Real.exp μ)⁻¹ * Real.exp μ) := by ac_rfl
      _ = _ := by rw [h1, mul_one]
  rw [hq, EReal.coe_mul, ← mul_assoc, mul_comm (v (g k))]

end Cert.Attn
-- ==== Proof.Maths.RefAt.lean ====
module

public import proofs.«01_k».proof.Proof.Maths.RefSteps
public import proofs.«01_k».proof.Proof.Maths.Spec
public import proofs.«01_k».proof.Proof.Maths.Soft
public import Idealize.ShloMosaic.Lib.Pointwise

public section

namespace Cert.ReferenceIdeal.Attn

open Idealize.ShloMosaic Idealize.ShloMosaic.Pointwise Cert.ReferenceIdeal Cert.ReferenceIdeal.Gen Cert.Attn
open scoped BigOperators

/-- The reference's floor division by 64, on the words below 4096. -/
theorem floor_word : ∀ a r : Fin 64, Scalar.select
      (IntOp.andi
        (IntOp.cmpi CmpIPredicate.ne
          (if BitVec.ofNat 32 (64 * a.val + r.val) = 0 then (0 : BitVec 32) else if (BitVec.ofNat 32 (64 * a.val + r.val)).msb = true then -1 else 1)
          (if 64#32 = 0 then (0 : BitVec 32) else if (64#32).msb = true then -1 else 1))
        (IntOp.cmpi CmpIPredicate.ne (IntOp.remsi ArithUnit.host (BitVec.ofNat 32 (64 * a.val + r.val)) 64#32) 0#32))
      (IntOp.subi (IntOp.divsi ArithUnit.host (BitVec.ofNat 32 (64 * a.val + r.val)) 64#32) 1#32)
      (IntOp.divsi ArithUnit.host (BitVec.ofNat 32 (64 * a.val + r.val)) 64#32) =
    BitVec.ofNat 32 a.val := by
  decide +kernel

/-- The block of a query row, as the reference computes it. -/
theorem qBlk_at (i : Fin 256) : qBlk (ix1 i) = BitVec.ofNat 32 (i.val / 64) := by
  pointwise [qBlk]
  simp only [id_eq, constantI]
  have h := floor_word ⟨i.val / 64, by omega⟩ ⟨i.val % 64, by omega⟩
  simp only [show 64 * (i.val / 64) + i.val % 64 = i.val by omega] at h
  exact h

/-- The block of a key, as the reference computes it. -/
theorem kBlk_at (j : Fin 4096) : kBlk (ix1 j) = BitVec.ofNat 32 (j.val / 64) := by
  pointwise [kBlk]
  simp only [id_eq, constantI]
  have h := floor_word ⟨j.val / 64, by omega⟩ ⟨j.val % 64, by omega⟩
  simp only [show 64 * (j.val / 64) + j.val % 64 = j.val by omega] at h
  exact h

/-- Query row `i` sees key `j` exactly when the key's block is congruent to the row's block modulo 4. -/
theorem mask_at (i : Fin 256) (j : Fin 4096) : mask (ix2 i j) = if j.val / 64 % 4 = i.val / 64 then 1#1 else 0#1 := by
  have hq := qBlk_at i
  have hk := kBlk_at j
  pointwise [mask, kRem, qRem, kRow, qCol]
  rw [hq, hk]
  obtain ⟨a, ha⟩ : ∃ a : Fin 4, a.val = i.val / 64 := ⟨⟨i.val / 64, by omega⟩, rfl⟩
  obtain ⟨b, hb⟩ : ∃ b : Fin 64, b.val = j.val / 64 := ⟨⟨j.val / 64, by omega⟩, rfl⟩
  rw [← ha, ← hb]
  simp only [id_eq, constantI]
  clear ha hb hq hk
  revert a b
  decide +kernel

/-- Row `i` sees some key. -/
theorem keep_at (i : Fin 256) : keep (ix1 i) = 1#1 := by
  have hm : mask (ix2 i ⟨i.val / 64 * 64, by omega⟩) = 1#1 := by
    rw [mask_at, if_pos (by show i.val / 64 * 64 / 64 % 4 = i.val / 64; omega)]
  pointwise [keep]
  have key : ∀ s : Finset (Fin 4096), (⟨i.val / 64 * 64, by omega⟩ : Fin 4096) ∈ s →
      Finset.fold IntOp.ori (0#1) (fun j => mask (ix2 i j)) s = 1#1 := by
    intro s
    induction s using Finset.induction_on with
    | empty => intro h; exact absurd h (Finset.notMem_empty _)
    | insert a s ha ih =>
      intro h
      rw [Finset.fold_insert ha]
      rcases Finset.mem_insert.1 h with h | h
      · rw [← h, hm]; generalize Finset.fold IntOp.ori (0#1) (fun j => mask (ix2 i j)) s = w; revert w; decide
      · rw [ih h]; generalize mask (ix2 i a) = w; revert w; decide
  exact key _ (Finset.mem_univ _)

variable (x : FVec Ideal S4x256x1024 .f32) (wq : FVec Ideal S1024x4096 .f32) (K V : FVec Ideal S4x4096x32x128 .f32)
  (wo : FVec Ideal S4096x1024 .f32)

/-- The mask's word is minus infinity. -/
theorem ofBits_bot : Ideal.ofBits .f32 0xFF800000#32 = ⊥ := by
  unfold Ideal.ofBits Ideal.ieee
  simp

/-- The scaled score. -/
theorem score_at (b : Fin 4) (h : Fin 32) (i : Fin 256) (j : Fin 4096) : score x wq K (ix4 b h i j) = sc x wq K b h i j := by
  pointwise [score, qProd]
  rfl

/-- The score with the unseen keys at minus infinity. -/
theorem masked_at (b : Fin 4) (h : Fin 32) (i : Fin 256) (j : Fin 4096) :
    masked x wq K (ix4 b h i j) = if j.val / 64 % 4 = i.val / 64 then sc x wq K b h i j else ⊥ := by
  pointwise [masked]
  rw [mask_at, score_at]
  by_cases hp : j.val / 64 % 4 = i.val / 64
  · rw [if_pos hp, if_pos hp]; rfl
  · rw [if_neg hp, if_neg hp]; exact ofBits_bot

/-- One weight: the exponential of a score less the row's greatest, over the row's sum of these. -/
theorem wts_at (b : Fin 4) (h : Fin 32) (i : Fin 256) (j : Fin 4096) :
    wts x wq K (ix4 b h i j)
      = Ideal.div (Ideal.exp (masked x wq K (ix4 b h i j) - Finset.univ.fold max ⊥ fun t => masked x wq K (ix4 b h i t)))
          (∑ t, Ideal.exp (masked x wq K (ix4 b h i t) - Finset.univ.fold max ⊥ fun t => masked x wq K (ix4 b h i t))) := by
  have hr : rowMax x wq K (ix3 b h i) = Finset.univ.fold max ⊥ fun t => masked x wq K (ix4 b h i t) := by
    pointwise [rowMax]
    rw [ofBits_bot]
  have he : ∀ t, expd x wq K (ix4 b h i t)
      = Ideal.exp (masked x wq K (ix4 b h i t) - Finset.univ.fold max ⊥ fun t => masked x wq K (ix4 b h i t)) := by
    intro t
    rw [← hr]
    pointwise [expd]
  have hs : expSum x wq K (ix3 b h i) = ∑ t, expd x wq K (ix4 b h i t) := by
    pointwise [expSum]
  pointwise [wts, denom]
  rw [keep_at, hs]
  simp only [he]
  rfl

/-- One entry of the context. -/
theorem ctx_at (b : Fin 4) (h : Fin 32) (e : Fin 128) (i : Fin 256) :
    ctx x wq K V (ix4 b h e i) = ∑ t, V (ix4 b t h e) * wts x wq K (ix4 b h i t) := by
  pointwise [ctx]

/-- A sum over the columns of the context, device by device. -/
theorem sum_cols (F : Fin 4096 → EReal) : ∑ g, F g = ∑ d : Fin 4, ∑ f : Fin 1024, F (colAt d f) := by
  rw [← Fintype.sum_prod_type' (f := fun (d : Fin 4) (f : Fin 1024) => F (colAt d f))]
  refine (Fintype.sum_equiv (finProdFinEquiv (m := 4) (n := 1024)) _ _ ?_).symm
  rintro ⟨d, f⟩
  refine congrArg F (Fin.ext ?_)
  show d.val * 1024 + f.val = f.val + 1024 * d.val
  omega

/-- Different places name different visible keys. -/
theorem keyAt_inj (b : Fin 4) : Function.Injective (keyAt b) := by
  intro k l h
  have h' : k.val / 64 * 256 + b.val * 64 + k.val % 64 = l.val / 64 * 256 + b.val * 64 + l.val % 64 := congrArg Fin.val h
  refine Fin.ext ?_
  omega

/-- Finite factors have a finite scaled score. -/
theorem sc_real (hx : AllReal x) (hw : AllReal wq) (hK : AllReal K) (b : Fin 4) (h : Fin 32) (i : Fin 256) (j : Fin 4096) :
    ∃ r : ℝ, sc x wq K b h i j = r := by
  choose fx hx using hx
  choose fw hw using hw
  choose fK hK using hK
  have hc : ∃ s : ℝ, Ideal.ofBits .f32 0x3DB504F3#32 = s := by
    have e : Ideal.ofBits .f32 0x3DB504F3#32 = Ideal.ieee 8 23 (0x3DB504F3#32) := rfl
    rw [e]
    unfold Ideal.ieee
    dsimp only
    rw [if_neg (by decide), if_neg (by decide)]
    exact ⟨_, rfl⟩
  obtain ⟨s, hs⟩ := hc
  unfold sc
  simp only [hx, hw, hK, hs, ← EReal.coe_mul, ← coe_sum_real]
  exact ⟨_, rfl⟩

/-- The reference's result at an index: over the devices' heads, what they contribute. -/
theorem out_at (hx : AllReal x) (hw : AllReal wq) (hK : AllReal K) (c b : Fin 4) (r : Fin 64) (n : Fin 1024) :
    out x wq K V wo (ix3 c (rowAt b r) n) = ∑ d : Fin 4, partG x wq K V wo c b d r n := by
  pointwise [out, ctxRows]
  rw [sum_cols]
  refine Finset.sum_congr rfl fun d _ => ?_
  unfold partG
  refine Finset.sum_congr rfl fun f _ => ?_
  refine congrArg (· * wo (ix2 (colAt d f) n)) ?_
  have e1 : (⟨(colAt d f).val / 128, by omega⟩ : Fin 32) = headAt d f := Fin.ext (by show (d.val * 1024 + f.val) / 128 = d.val * 8 + f.val / 128; omega)
  have e2 : (⟨(colAt d f).val % 128, by omega⟩ : Fin 128) = dimAt f := Fin.ext (by show (d.val * 1024 + f.val) % 128 = f.val % 128; omega)
  refine (congrArg₂ (fun h e => ctx x wq K V (ix4 c h e (rowAt b r))) e1 e2).trans ?_
  rw [ctx_at]
  simp only [wts_at]
  unfold ctxG
  refine softmax_eq (keyAt b) (keyAt_inj b) (fun t => sc x wq K c (headAt d f) (rowAt b r) t)
    (fun t => masked x wq K (ix4 c (headAt d f) (rowAt b r) t)) (fun t => V (ix4 c t (headAt d f) (dimAt f)))
    (fun t => sc_real x wq K hx hw hK _ _ _ t) ?_ ?_
  · intro k
    show masked x wq K _ = _
    rw [masked_at, if_pos]
    show (k.val / 64 * 256 + b.val * 64 + k.val % 64) / 64 % 4 = (64 * b.val + r.val) / 64
    omega
  · intro t ht
    show masked x wq K _ = _
    rw [masked_at, if_neg]
    intro hp
    have hp' : t.val / 64 % 4 = (64 * b.val + r.val) / 64 := hp
    refine ht ⟨t.val / 256 * 64 + t.val % 64, by omega⟩ (Fin.ext ?_)
    show (t.val / 256 * 64 + t.val % 64) / 64 * 256 + b.val * 64 + (t.val / 256 * 64 + t.val % 64) % 64 = t.val
    omega

end Cert.ReferenceIdeal.Attn
-- ==== Proof.Maths.Finite.lean ====
module

public import proofs.«01_k».proof.Pre_finite_KernelIdeal
public import proofs.«01_k».proof.Pre_finite_ReferenceIdeal
public import proofs.«01_k».proof.Proof.Maths.Spec
public import Idealize.ShloMosaic.Lib.ReduceAll
public import Idealize.ShloMosaic.Lib.Pointwise

public section

namespace Cert.Pre_finite_KernelIdeal

open Idealize.ShloMosaic Cert.Attn

/-- The shape relations the precondition's operations take. -/
theorem facts : Facts where
  bcast_S_S1x256x1024 := by decide
  reducesTo_S1x256x1024_S_d0_1_2 := by decide
  h_S_ := by decide
  bcast_S_S1024x1024 := by decide
  reducesTo_S1024x1024_S_d0_1 := by decide
  bcast_S_S4x4096x32x128 := by decide
  reducesTo_S4x4096x32x128_S_d0_1_2_3 := by decide

/-- A value smaller than infinity in size is a real number. -/
theorem real_of_abs (a : EReal) (h : Ideal.cmp .olt (max a (-a)) (Ideal.ofBits .f32 0x7F800000#32) = 1#1) : ∃ r : ℝ, a = r := by
  have htop : Ideal.ofBits .f32 0x7F800000#32 = ⊤ := by simp [Ideal.ofBits, Ideal.ieee]
  rw [htop] at h
  unfold Ideal.cmp at h
  induction a with
  | bot => simp at h
  | top => simp at h
  | coe r => exact ⟨r, rfl⟩

/-- A scalar array has one index. -/
instance : Subsingleton S_.Idx := ⟨fun a b => funext fun i => i.elim0⟩

/-- The precondition says that the activations, the projection and the cached keys are real numbers. -/
theorem real_of_fn [Facts] (x : FVec Ideal S1x256x1024 .f32) (wq : FVec Ideal S1024x1024 .f32) (K V : FVec Ideal S4x4096x32x128 .f32)
    (wo : FVec Ideal S1024x1024 .f32) (h : fn (F := Ideal) x wq K V wo = fun _ => 1#1) : AllReal x ∧ AllReal wq ∧ AllReal K := by
  have h0 := congrFun h ix0
  unfold fn at h0
  obtain ⟨h12, h3⟩ := IntOp.andi_eq_one.1 h0
  obtain ⟨h1, h2⟩ := IntOp.andi_eq_one.1 h12
  exact ⟨fun i => real_of_abs _ (Host.reduce_andi_all _ _ _ _ _ h1 i), fun i => real_of_abs _ (Host.reduce_andi_all _ _ _ _ _ h2 i),
    fun i => real_of_abs _ (Host.reduce_andi_all _ _ _ _ _ h3 i)⟩

end Cert.Pre_finite_KernelIdeal

namespace Cert.Pre_finite_ReferenceIdeal

/-- The shape relations the precondition's operations take, on the whole arrays. -/
theorem facts : Facts where
  bcast_S_S4x256x1024 := by decide
  reducesTo_S4x256x1024_S_d0_1_2 := by decide
  h_S_ := by decide
  bcast_S_S1024x4096 := by decide
  reducesTo_S1024x4096_S_d0_1 := by decide
  bcast_S_S4x4096x32x128 := by decide
  reducesTo_S4x4096x32x128_S_d0_1_2_3 := by decide

end Cert.Pre_finite_ReferenceIdeal
-- ==== Proof.Maths.Equal.lean ====
module

public import proofs.«01_k».proof.Proof.Maths.OutAt
public import proofs.«01_k».proof.Proof.Maths.RefAt
public import proofs.«01_k».proof.Proof.Maths.Finite
public import Idealize.ShloMosaic.Lib.Layout

public section

namespace Cert.Attn

open Idealize.ShloMosaic
open scoped BigOperators

/-- Where an entry of a device's activations or result is in the whole array. -/
theorem place_rows (h : Layout.Tiles ⟨3, ![1, 256, 1024]⟩ ⟨3, ![4, 256, 1024]⟩ 0 4) (d : Fin 4) (i : Fin 256) (p : Fin 1024) :
    h.idx d (ix3 0 i p) = ix3 d i p := by
  funext a
  apply Fin.ext
  match a with
  | 0 => show d.val * 1 + 0 = d.val; omega
  | 1 => rfl
  | 2 => rfl

/-- Where an entry of a device's columns of the projection is in the whole array. -/
theorem place_cols (h : Layout.Tiles ⟨2, ![1024, 1024]⟩ ⟨2, ![1024, 4096]⟩ 1 4) (d : Fin 4) (p f : Fin 1024) :
    h.idx d (ix2 p f) = ix2 p (colAt d f) := by
  funext a
  apply Fin.ext
  match a with
  | 0 => rfl
  | 1 => rfl

/-- Where an entry of a device's rows of the output projection is in the whole array. -/
theorem place_out (h : Layout.Tiles ⟨2, ![1024, 1024]⟩ ⟨2, ![4096, 1024]⟩ 0 4) (d : Fin 4) (f n : Fin 1024) :
    h.idx d (ix2 f n) = ix2 (colAt d f) n := by
  funext a
  apply Fin.ext
  match a with
  | 0 => rfl
  | 1 => rfl

/-- Every column of the projection is one of some device's. -/
theorem colAt_split (q : Fin 4096) : q = colAt ⟨q.val / 1024, by omega⟩ ⟨q.val % 1024, by omega⟩ := by
  apply Fin.ext
  show q.val = q.val / 1024 * 1024 + q.val % 1024
  omega

/-- Every row is in some block. -/
theorem rowAt_split (i : Fin 256) : i = rowAt ⟨i.val / 64, by omega⟩ ⟨i.val % 64, by omega⟩ := by
  apply Fin.ext
  show i.val = 64 * (i.val / 64) + i.val % 64
  omega

end Cert.Attn

namespace Cert.KernelIdeal.Attn

open Idealize.ShloMosaic Idealize.ShloMosaic.TcCoe Cert.KernelIdeal Cert.KernelIdeal.Gen Cert.Attn
open scoped BigOperators

variable (m : (ℓ : Loc nD τ sig) → Buf (Elt Ideal) ℓ)
variable {x : (⟨3, ![4, 256, 1024]⟩ : Shape).Idx → EReal} {wq : (⟨2, ![1024, 4096]⟩ : Shape).Idx → EReal}
  {K V : (⟨4, ![4, 4096, 32, 128]⟩ : Shape).Idx → EReal} {wo : (⟨2, ![4096, 1024]⟩ : Shape).Idx → EReal}

/-- A device's result is its block of the reference's result, when the arguments are the parts of the reference's, and the
    devices' activations, projections and cached keys are real numbers. -/
theorem equal (h0 : ∀ d : Dev nD, m ((d : Thread nD τ).loc main_arg0) = Layout.block ⟨3, ![1, 256, 1024]⟩ ⟨3, ![4, 256, 1024]⟩ 0 4 d x)
    (h1 : ∀ d : Dev nD, m ((d : Thread nD τ).loc main_arg1) = Layout.block ⟨2, ![1024, 1024]⟩ ⟨2, ![1024, 4096]⟩ 1 4 d wq)
    (h2 : ∀ d : Dev nD, m ((d : Thread nD τ).loc main_arg2) = K) (h3 : ∀ d : Dev nD, m ((d : Thread nD τ).loc main_arg3) = V)
    (h4 : ∀ d : Dev nD, m ((d : Thread nD τ).loc main_arg4) = Layout.block ⟨2, ![1024, 1024]⟩ ⟨2, ![4096, 1024]⟩ 0 4 d wo)
    (hr : ∀ d : Dev nD, AllReal (m ((d : Thread nD τ).loc main_arg0)) ∧ AllReal (m ((d : Thread nD τ).loc main_arg1)) ∧ AllReal (m ((d : Thread nD τ).loc main_arg2)))
    (c : Dev nD) (Y : S1x256x1024.Idx → EReal) :
    outAcc (inOf m) c 16 Y = Layout.block ⟨3, ![1, 256, 1024]⟩ ⟨3, ![4, 256, 1024]⟩ 0 4 c (Cert.ReferenceIdeal.Attn.out x wq K V wo) := by
  have e0 : ∀ d : Dev nD, ∀ i p, m ((d : Thread nD τ).loc main_arg0) (ix3 0 i p) = x (ix3 d i p) := fun d i p =>
    (congrFun (h0 d) _).trans (congrArg x (place_rows _ d i p))
  have e1 : ∀ d : Dev nD, ∀ p f, m ((d : Thread nD τ).loc main_arg1) (ix2 p f) = wq (ix2 p (colAt d f)) := fun d p f =>
    (congrFun (h1 d) _).trans (congrArg wq (place_cols _ d p f))
  have e4 : ∀ d : Dev nD, ∀ f n, m ((d : Thread nD τ).loc main_arg4) (ix2 f n) = wo (ix2 (colAt d f) n) := fun d f n =>
    (congrFun (h4 d) _).trans (congrArg wo (place_out _ d f n))
  have P := parts_inOf m e0 e1 h2 h3 e4
  have hx : AllReal x := fun i => by
    obtain ⟨s, hs⟩ := (hr (i 0)).1 (ix3 0 (i 1) (i 2))
    exact ⟨s, (congrArg x (show i = ix3 (i 0) (i 1) (i 2) from (ix3_eta i).symm)).trans ((e0 _ _ _).symm.trans hs)⟩
  have hw : AllReal wq := fun i => by
    obtain ⟨s, hs⟩ := (hr ⟨(i 1).val / 1024, by have : (i 1).val < 4096 := (i 1).isLt; change _ < 4; omega⟩).2.1 (ix2 (i 0) ⟨(i 1).val % 1024, by omega⟩)
    refine ⟨s, (congrArg wq ?_).trans ((e1 _ _ _).symm.trans hs)⟩
    exact (ix2_eta i).symm.trans (congrArg (ix2 (i 0)) (colAt_split (i 1)))
  have hK : AllReal K := by have := (hr 0).2.2; rwa [h2] at this
  funext j
  obtain ⟨r, n, rfl⟩ : ∃ (r : Fin 256) (n : Fin 1024), j = ix3 0 r n := ⟨j 1, j 2, by
    refine (ix3_eta j).symm.trans ?_
    exact congrArg (fun z : Fin 1 => ix3 z (j 1) (j 2)) (Subsingleton.elim (α := Fin 1) _ _)⟩
  rw [rowAt_split r, out_dev (inOf m) c P, Layout.block_apply, place_rows]
  exact (Cert.ReferenceIdeal.Attn.out_at _ _ _ _ _ hx hw hK c _ _ n).symm

end Cert.KernelIdeal.Attn
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.ReferenceIdeal
public import proofs.«01_k».proof.Proof.Kernel.Value
public import proofs.«01_k».proof.Proof.KernelIdeal.Value
public import proofs.«01_k».proof.Proof.Maths.RefSteps
public import proofs.«01_k».proof.Proof.Maths.Equal
public import proofs.«01_k».proof.Proof.Maths.Finite
public import Idealize.ShloMosaic.Adequacy
public import Idealize.ShloMosaic.Init
public import Idealize.ShloMosaic.Lib.Quiescent

@[expose] public section

noncomputable section
namespace Cert.Proof

open Idealize.ShloMosaic Idealize.SL.Sem

/-- The optimised program's runs end, its arguments as they were, every counter at zero. -/
theorem frame_kernel : @Cert.quiescent_Kernel Cert.Kernel.Gen.facts := fun m g _ =>
  (θ_run _ _ _).mono (fun _ h => ⟨fun c => (h.1 c).2, h.2⟩) (Cert.Kernel.Attn.run_value (F := Bits) m g)

/-- The same over the extended reals. -/
theorem frame_ideal : @Cert.quiescent_KernelIdeal Cert.KernelIdeal.Gen.facts := fun m g _ =>
  (θ_run _ _ _).mono (fun _ h => ⟨fun c => (h.1 c).2, h.2⟩) (Cert.KernelIdeal.Attn.run_value (F := Ideal) m g)

/-- The reference's runs end, its arguments as they were, every counter at zero. -/
theorem frame_reference : @Cert.quiescent_ReferenceIdeal Cert.ReferenceIdeal.Gen.facts := fun m g _ =>
  (θ_run _ _ _).mono (fun r h => ⟨fun c => (h c).2, sem_eq_zero_of_no_sems rfl r.2⟩) (Cert.ReferenceIdeal.Value.run (F := Ideal) m g)

/-- Every device's result is its block of the reference's, over the extended reals. -/
theorem same : @Cert.algebraic_KernelIdeal_ReferenceIdeal_pre_finite_KernelIdeal Cert.KernelIdeal.Gen.facts Cert.ReferenceIdeal.Gen.facts
    Cert.Pre_finite_KernelIdeal.facts := fun m g m' g' hp hl =>
  ⟨Cert.ReferenceIdeal.Value.res_main_v39 (F := Ideal) m' 0,
    (θ_run _ _ _).mono (fun _ h c => by
      obtain ⟨⟨Y, hY⟩, hargs⟩ := h.1 c
      refine ⟨hY.trans ?_, hargs⟩
      rw [Cert.ReferenceIdeal.Attn.res_eq]
      exact Cert.KernelIdeal.Attn.equal m (fun d => (hl d).1) (fun d => (hl d).2.1) (fun d => (hl d).2.2.1) (fun d => (hl d).2.2.2.1)
        (fun d => (hl d).2.2.2.2) (fun d => @Cert.Pre_finite_KernelIdeal.real_of_fn Cert.Pre_finite_KernelIdeal.facts _ _ _ _ _ (hp d)) c Y)
      (Cert.KernelIdeal.Attn.run_value (F := Ideal) m g),
    (θ_run _ _ _).mono (fun _ h => h 0) (Cert.ReferenceIdeal.Value.run (F := Ideal) m' g')⟩

/-- All the claims. -/
theorem claim : Cert.Claim := ⟨Cert.Kernel.Gen.facts, Cert.KernelIdeal.Gen.facts, Cert.ReferenceIdeal.Gen.facts,
  Cert.Pre_finite_KernelIdeal.facts, Cert.Pre_finite_ReferenceIdeal.facts,
  frame_kernel, frame_ideal, fun m g _ => frame_ideal m g trivial, frame_reference, fun m g _ => frame_reference m g trivial, trivial, same⟩

end Cert.Proof

end
